-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnRefIdeal (m : (ℓ : Loc Cert.HgrnRefIdeal.nD Cert.HgrnRefIdeal.τ Cert.HgrnRefIdeal.sig) → Buf (Elt Ideal) ℓ) : Prop :=
  True

def Pre_MemoryKv (m : (ℓ : Loc Cert.MemoryKv.nD Cert.MemoryKv.τ Cert.MemoryKv.sig) → Buf (Elt Bits) ℓ) : Prop :=
  True

def Pre_MemoryKvIdeal (m : (ℓ : Loc Cert.MemoryKvIdeal.nD Cert.MemoryKvIdeal.τ Cert.MemoryKvIdeal.sig) → Buf (Elt Ideal) ℓ) : Prop :=
  True

def Pre_MemoryKvRefIdeal (m : (ℓ : Loc Cert.MemoryKvRefIdeal.nD Cert.MemoryKvRefIdeal.τ Cert.MemoryKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5)
      ∧ r.2.mem ((c.tc : Thread Cert.HgrnRefIdeal.nD Cert.HgrnRefIdeal.τ).loc Cert.HgrnRefIdeal.main_arg6) = m ((c.tc : Thread Cert.HgrnRefIdeal.nD Cert.HgrnRefIdeal.τ).loc Cert.HgrnRefIdeal.main_arg6))
      ∧ r.2.sem = fun _ => 0)

def quiescent_MemoryKv [hMemoryKv : Cert.MemoryKv.Facts] : Prop :=
  ∀ (m : (ℓ : Loc Cert.MemoryKv.nD Cert.MemoryKv.τ Cert.MemoryKv.sig) → Buf (Elt Bits) ℓ) (g : Dev Cert.MemoryKv.nD → PrngReg), Pre_MemoryKv m →
    θ_run (Cert.MemoryKv.defs (F := Bits)) (onTc (τ := Cert.MemoryKv.τ) (Cert.MemoryKv.main (F := Bits))) ⟨m, fun _ => 0, g⟩ (fun r => (∀ c : Dev Cert.MemoryKv.nD,
      r.2.mem ((c.tc : Thread Cert.MemoryKv.nD Cert.MemoryKv.τ).loc Cert.MemoryKv.main_arg0) = m ((c.tc : Thread Cert.MemoryKv.nD Cert.MemoryKv.τ).loc Cert.MemoryKv.main_arg0)
      ∧ r.2.mem ((c.tc : Thread Cert.MemoryKv.nD Cert.MemoryKv.τ).loc Cert.MemoryKv.main_arg1) = m ((c.tc : Thread Cert.MemoryKv.nD Cert.MemoryKv.τ).loc Cert.MemoryKv.main_arg1)
      ∧ r.2.mem ((c.tc : Thread Cert.MemoryKv.nD Cert.MemoryKv.τ).loc Cert.MemoryKv.main_arg2) = m ((c.tc : Thread Cert.MemoryKv.nD Cert.MemoryKv.τ).loc Cert.MemoryKv.main_arg2))
      ∧ r.2.sem = fun _ => 0)

def quiescent_MemoryKvIdeal [hMemoryKvIdeal : Cert.MemoryKvIdeal.Facts] : Prop :=
  ∀ (m : (ℓ : Loc Cert.MemoryKvIdeal.nD Cert.MemoryKvIdeal.τ Cert.MemoryKvIdeal.sig) → Buf (Elt Ideal) ℓ) (g : Dev Cert.MemoryKvIdeal.nD → PrngReg), Pre_MemoryKvIdeal m →
    θ_run (Cert.MemoryKvIdeal.defs (F := Ideal)) (onTc (τ := Cert.MemoryKvIdeal.τ) (Cert.MemoryKvIdeal.main (F := Ideal))) ⟨m, fun _ => 0, g⟩ (fun r => (∀ c : Dev Cert.MemoryKvIdeal.nD,
      r.2.mem ((c.tc : Thread Cert.MemoryKvIdeal.nD Cert.MemoryKvIdeal.τ).loc Cert.MemoryKvIdeal.main_arg0) = m ((c.tc : Thread Cert.MemoryKvIdeal.nD Cert.MemoryKvIdeal.τ).loc Cert.MemoryKvIdeal.main_arg0)
      ∧ r.2.mem ((c.tc : Thread Cert.MemoryKvIdeal.nD Cert.MemoryKvIdeal.τ).loc Cert.MemoryKvIdeal.main_arg1) = m ((c.tc : Thread Cert.MemoryKvIdeal.nD Cert.MemoryKvIdeal.τ).loc Cert.MemoryKvIdeal.main_arg1)
      ∧ r.2.mem ((c.tc : Thread Cert.MemoryKvIdeal.nD Cert.MemoryKvIdeal.τ).loc Cert.MemoryKvIdeal.main_arg2) = m ((c.tc : Thread Cert.MemoryKvIdeal.nD Cert.MemoryKvIdeal.τ).loc Cert.MemoryKvIdeal.main_arg2))
      ∧ r.2.sem = fun _ => 0)

def quiescent_MemoryKvRefIdeal [hMemoryKvRefIdeal : Cert.MemoryKvRefIdeal.Facts] : Prop :=
  ∀ (m : (ℓ : Loc Cert.MemoryKvRefIdeal.nD Cert.MemoryKvRefIdeal.τ Cert.MemoryKvRefIdeal.sig) → Buf (Elt Ideal) ℓ) (g : Dev Cert.MemoryKvRefIdeal.nD → PrngReg), Pre_MemoryKvRefIdeal m →
    θ_run (Cert.MemoryKvRefIdeal.defs (F := Ideal)) (onTc (τ := Cert.MemoryKvRefIdeal.τ) (Cert.MemoryKvRefIdeal.main (F := Ideal))) ⟨m, fun _ => 0, g⟩ (fun r => (∀ c : Dev Cert.MemoryKvRefIdeal.nD,
      r.2.mem ((c.tc : Thread Cert.MemoryKvRefIdeal.nD Cert.MemoryKvRefIdeal.τ).loc Cert.MemoryKvRefIdeal.main_arg0) = m ((c.tc : Thread Cert.MemoryKvRefIdeal.nD Cert.MemoryKvRefIdeal.τ).loc Cert.MemoryKvRefIdeal.main_arg0)
      ∧ r.2.mem ((c.tc : Thread Cert.MemoryKvRefIdeal.nD Cert.MemoryKvRefIdeal.τ).loc Cert.MemoryKvRefIdeal.main_arg1) = m ((c.tc : Thread Cert.MemoryKvRefIdeal.nD Cert.MemoryKvRefIdeal.τ).loc Cert.MemoryKvRefIdeal.main_arg1)
      ∧ r.2.mem ((c.tc : Thread Cert.MemoryKvRefIdeal.nD Cert.MemoryKvRefIdeal.τ).loc Cert.MemoryKvRefIdeal.main_arg2) = m ((c.tc : Thread Cert.MemoryKvRefIdeal.nD Cert.MemoryKvRefIdeal.τ).loc Cert.MemoryKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def preserves_Hgrn_HgrnIdeal : Prop :=
  True

def preserves_MemoryKv_MemoryKvIdeal : Prop :=
  True

def algebraic_MemoryKvIdeal_MemoryKvRefIdeal [hMemoryKvIdeal : Cert.MemoryKvIdeal.Facts] [hMemoryKvRefIdeal : Cert.MemoryKvRefIdeal.Facts] : Prop :=
  ∀ (m : (ℓ : Loc Cert.MemoryKvIdeal.nD Cert.MemoryKvIdeal.τ Cert.MemoryKvIdeal.sig) → Buf (Elt Ideal) ℓ) (g : Dev Cert.MemoryKvIdeal.nD → PrngReg)
    (m' : (ℓ : Loc Cert.MemoryKvRefIdeal.nD Cert.MemoryKvRefIdeal.τ Cert.MemoryKvRefIdeal.sig) → Buf (Elt Ideal) ℓ) (g' : Dev Cert.MemoryKvRefIdeal.nD → PrngReg), Pre_MemoryKvIdeal m →
    (∀ c : Dev Cert.MemoryKvIdeal.nD,
      m' ((c.tc : Thread Cert.MemoryKvRefIdeal.nD Cert.MemoryKvRefIdeal.τ).loc Cert.MemoryKvRefIdeal.main_arg0) = m ((c.tc : Thread Cert.MemoryKvIdeal.nD Cert.MemoryKvIdeal.τ).loc Cert.MemoryKvIdeal.main_arg0)
      ∧ m' ((c.tc : Thread Cert.MemoryKvRefIdeal.nD Cert.MemoryKvRefIdeal.τ).loc Cert.MemoryKvRefIdeal.main_arg1) = m ((c.tc : Thread Cert.MemoryKvIdeal.nD Cert.MemoryKvIdeal.τ).loc Cert.MemoryKvIdeal.main_arg1)
      ∧ m' ((c.tc : Thread Cert.MemoryKvRefIdeal.nD Cert.MemoryKvRefIdeal.τ).loc Cert.MemoryKvRefIdeal.main_arg2) = m ((c.tc : Thread Cert.MemoryKvIdeal.nD Cert.MemoryKvIdeal.τ).loc Cert.MemoryKvIdeal.main_arg2)) →
    ∃ (v0 : (c : Dev Cert.MemoryKvIdeal.nD) → Buf (Elt Ideal) ((c.tc : Thread Cert.MemoryKvIdeal.nD Cert.MemoryKvIdeal.τ).loc Cert.MemoryKvIdeal.main_v2_0)) (v1 : (c : Dev Cert.MemoryKvIdeal.nD) → Buf (Elt Ideal) ((c.tc : Thread Cert.MemoryKvIdeal.nD Cert.MemoryKvIdeal.τ).loc Cert.MemoryKvIdeal.main_v2_1)) (v2 : (c : Dev Cert.MemoryKvIdeal.nD) → Buf (Elt Ideal) ((c.tc : Thread Cert.MemoryKvIdeal.nD Cert.MemoryKvIdeal.τ).loc Cert.MemoryKvIdeal.main_v2_2)) (v3 : (c : Dev Cert.MemoryKvIdeal.nD) → Buf (Elt Ideal) ((c.tc : Thread Cert.MemoryKvIdeal.nD Cert.MemoryKvIdeal.τ).loc Cert.MemoryKvIdeal.main_v2_3)),
      θ_run (Cert.MemoryKvIdeal.defs (F := Ideal)) (onTc (τ := Cert.MemoryKvIdeal.τ) (Cert.MemoryKvIdeal.main (F := Ideal))) ⟨m, fun _ => 0, g⟩ (fun r => ∀ c : Dev Cert.MemoryKvIdeal.nD,
          r.2.mem ((c.tc : Thread Cert.MemoryKvIdeal.nD Cert.MemoryKvIdeal.τ).loc Cert.MemoryKvIdeal.main_v2_0) = v0 c
          ∧ r.2.mem ((c.tc : Thread Cert.MemoryKvIdeal.nD Cert.MemoryKvIdeal.τ).loc Cert.MemoryKvIdeal.main_v2_1) = v1 c
          ∧ r.2.mem ((c.tc : Thread Cert.MemoryKvIdeal.nD Cert.MemoryKvIdeal.τ).loc Cert.MemoryKvIdeal.main_v2_2) = v2 c
          ∧ r.2.mem ((c.tc : Thread Cert.MemoryKvIdeal.nD Cert.MemoryKvIdeal.τ).loc Cert.MemoryKvIdeal.main_v2_3) = v3 c
          ∧ r.2.mem ((c.tc : Thread Cert.MemoryKvIdeal.nD Cert.MemoryKvIdeal.τ).loc Cert.MemoryKvIdeal.main_arg0) = m ((c.tc : Thread Cert.MemoryKvIdeal.nD Cert.MemoryKvIdeal.τ).loc Cert.MemoryKvIdeal.main_arg0)
          ∧ r.2.mem ((c.tc : Thread Cert.MemoryKvIdeal.nD Cert.MemoryKvIdeal.τ).loc Cert.MemoryKvIdeal.main_arg1) = m ((c.tc : Thread Cert.MemoryKvIdeal.nD Cert.MemoryKvIdeal.τ).loc Cert.MemoryKvIdeal.main_arg1)
          ∧ r.2.mem ((c.tc : Thread Cert.MemoryKvIdeal.nD Cert.MemoryKvIdeal.τ).loc Cert.MemoryKvIdeal.main_arg2) = m ((c.tc : Thread Cert.MemoryKvIdeal.nD Cert.MemoryKvIdeal.τ).loc Cert.MemoryKvIdeal.main_arg2))
      ∧ θ_run (Cert.MemoryKvRefIdeal.defs (F := Ideal)) (onTc (τ := Cert.MemoryKvRefIdeal.τ) (Cert.MemoryKvRefIdeal.main (F := Ideal))) ⟨m', fun _ => 0, g'⟩ (fun r => ∀ c : Dev Cert.MemoryKvRefIdeal.nD,
          r.2.mem ((c.tc : Thread Cert.MemoryKvRefIdeal.nD Cert.MemoryKvRefIdeal.τ).loc Cert.MemoryKvRefIdeal.main_v14) = v0 c
          ∧ r.2.mem ((c.tc : Thread Cert.MemoryKvRefIdeal.nD Cert.MemoryKvRefIdeal.τ).loc Cert.MemoryKvRefIdeal.main_v15) = v1 c
          ∧ r.2.mem ((c.tc : Thread Cert.MemoryKvRefIdeal.nD Cert.MemoryKvRefIdeal.τ).loc Cert.MemoryKvRefIdeal.main_v16) = v2 c
          ∧ r.2.mem ((c.tc : Thread Cert.MemoryKvRefIdeal.nD Cert.MemoryKvRefIdeal.τ).loc Cert.MemoryKvRefIdeal.main_v17) = v3 c
          ∧ r.2.mem ((c.tc : Thread Cert.MemoryKvRefIdeal.nD Cert.MemoryKvRefIdeal.τ).loc Cert.MemoryKvRefIdeal.main_arg0) = m' ((c.tc : Thread Cert.MemoryKvRefIdeal.nD Cert.MemoryKvRefIdeal.τ).loc Cert.MemoryKvRefIdeal.main_arg0)
          ∧ r.2.mem ((c.tc : Thread Cert.MemoryKvRefIdeal.nD Cert.MemoryKvRefIdeal.τ).loc Cert.MemoryKvRefIdeal.main_arg1) = m' ((c.tc : Thread Cert.MemoryKvRefIdeal.nD Cert.MemoryKvRefIdeal.τ).loc Cert.MemoryKvRefIdeal.main_arg1)
          ∧ r.2.mem ((c.tc : Thread Cert.MemoryKvRefIdeal.nD Cert.MemoryKvRefIdeal.τ).loc Cert.MemoryKvRefIdeal.main_arg2) = m' ((c.tc : Thread Cert.MemoryKvRefIdeal.nD Cert.MemoryKvRefIdeal.τ).loc Cert.MemoryKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v76) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v119_0)) (v1 : (c : Dev Cert.ProjIdeal.nD) → Buf (Elt Ideal) ((c.tc : Thread Cert.ProjIdeal.nD Cert.ProjIdeal.τ).loc Cert.ProjIdeal.main_v119_1)) (v2 : (c : Dev Cert.ProjIdeal.nD) → Buf (Elt Ideal) ((c.tc : Thread Cert.ProjIdeal.nD Cert.ProjIdeal.τ).loc Cert.ProjIdeal.main_v119_2)) (v3 : (c : Dev Cert.ProjIdeal.nD) → Buf (Elt Ideal) ((c.tc : Thread Cert.ProjIdeal.nD Cert.ProjIdeal.τ).loc Cert.ProjIdeal.main_v119_3)) (v4 : (c : Dev Cert.ProjIdeal.nD) → Buf (Elt Ideal) ((c.tc : Thread Cert.ProjIdeal.nD Cert.ProjIdeal.τ).loc Cert.ProjIdeal.main_v119_4)) (v5 : (c : Dev Cert.ProjIdeal.nD) → Buf (Elt Ideal) ((c.tc : Thread Cert.ProjIdeal.nD Cert.ProjIdeal.τ).loc Cert.ProjIdeal.main_v119_5)) (v6 : (c : Dev Cert.ProjIdeal.nD) → Buf (Elt Ideal) ((c.tc : Thread Cert.ProjIdeal.nD Cert.ProjIdeal.τ).loc Cert.ProjIdeal.main_v119_6)) (v7 : (c : Dev Cert.ProjIdeal.nD) → Buf (Elt Ideal) ((c.tc : Thread Cert.ProjIdeal.nD Cert.ProjIdeal.τ).loc Cert.ProjIdeal.main_v119_7)) (v8 : (c : Dev Cert.ProjIdeal.nD) → Buf (Elt Ideal) ((c.tc : Thread Cert.ProjIdeal.nD Cert.ProjIdeal.τ).loc Cert.ProjIdeal.main_v119_8)) (v9 : (c : Dev Cert.ProjIdeal.nD) → Buf (Elt Ideal) ((c.tc : Thread Cert.ProjIdeal.nD Cert.ProjIdeal.τ).loc Cert.ProjIdeal.main_v119_9)) (v10 : (c : Dev Cert.ProjIdeal.nD) → Buf (Elt Ideal) ((c.tc : Thread Cert.ProjIdeal.nD Cert.ProjIdeal.τ).loc Cert.ProjIdeal.main_v119_10)) (v11 : (c : Dev Cert.ProjIdeal.nD) → Buf (Elt Ideal) ((c.tc : Thread Cert.ProjIdeal.nD Cert.ProjIdeal.τ).loc Cert.ProjIdeal.main_v119_11)) (v12 : (c : Dev Cert.ProjIdeal.nD) → Buf (Elt Ideal) ((c.tc : Thread Cert.ProjIdeal.nD Cert.ProjIdeal.τ).loc Cert.ProjIdeal.main_v119_12)) (v13 : (c : Dev Cert.ProjIdeal.nD) → Buf (Elt Ideal) ((c.tc : Thread Cert.ProjIdeal.nD Cert.ProjIdeal.τ).loc Cert.ProjIdeal.main_v119_13)) (v14 : (c : Dev Cert.ProjIdeal.nD) → Buf (Elt Ideal) ((c.tc : Thread Cert.ProjIdeal.nD Cert.ProjIdeal.τ).loc Cert.ProjIdeal.main_v119_14)) (v15 : (c : Dev Cert.ProjIdeal.nD) → Buf (Elt Ideal) ((c.tc : Thread Cert.ProjIdeal.nD Cert.ProjIdeal.τ).loc Cert.ProjIdeal.main_v119_15)) (v16 : (c : Dev Cert.ProjIdeal.nD) → Buf (Elt Ideal) ((c.tc : Thread Cert.ProjIdeal.nD Cert.ProjIdeal.τ).loc Cert.ProjIdeal.main_v119_16)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v119_0) = v0 c
          ∧ r.2.mem ((c.tc : Thread Cert.ProjIdeal.nD Cert.ProjIdeal.τ).loc Cert.ProjIdeal.main_v119_1) = v1 c
          ∧ r.2.mem ((c.tc : Thread Cert.ProjIdeal.nD Cert.ProjIdeal.τ).loc Cert.ProjIdeal.main_v119_2) = v2 c
          ∧ r.2.mem ((c.tc : Thread Cert.ProjIdeal.nD Cert.ProjIdeal.τ).loc Cert.ProjIdeal.main_v119_3) = v3 c
          ∧ r.2.mem ((c.tc : Thread Cert.ProjIdeal.nD Cert.ProjIdeal.τ).loc Cert.ProjIdeal.main_v119_4) = v4 c
          ∧ r.2.mem ((c.tc : Thread Cert.ProjIdeal.nD Cert.ProjIdeal.τ).loc Cert.ProjIdeal.main_v119_5) = v5 c
          ∧ r.2.mem ((c.tc : Thread Cert.ProjIdeal.nD Cert.ProjIdeal.τ).loc Cert.ProjIdeal.main_v119_6) = v6 c
          ∧ r.2.mem ((c.tc : Thread Cert.ProjIdeal.nD Cert.ProjIdeal.τ).loc Cert.ProjIdeal.main_v119_7) = v7 c
          ∧ r.2.mem ((c.tc : Thread Cert.ProjIdeal.nD Cert.ProjIdeal.τ).loc Cert.ProjIdeal.main_v119_8) = v8 c
          ∧ r.2.mem ((c.tc : Thread Cert.ProjIdeal.nD Cert.ProjIdeal.τ).loc Cert.ProjIdeal.main_v119_9) = v9 c
          ∧ r.2.mem ((c.tc : Thread Cert.ProjIdeal.nD Cert.ProjIdeal.τ).loc Cert.ProjIdeal.main_v119_10) = v10 c
          ∧ r.2.mem ((c.tc : Thread Cert.ProjIdeal.nD Cert.ProjIdeal.τ).loc Cert.ProjIdeal.main_v119_11) = v11 c
          ∧ r.2.mem ((c.tc : Thread Cert.ProjIdeal.nD Cert.ProjIdeal.τ).loc Cert.ProjIdeal.main_v119_12) = v12 c
          ∧ r.2.mem ((c.tc : Thread Cert.ProjIdeal.nD Cert.ProjIdeal.τ).loc Cert.ProjIdeal.main_v119_13) = v13 c
          ∧ r.2.mem ((c.tc : Thread Cert.ProjIdeal.nD Cert.ProjIdeal.τ).loc Cert.ProjIdeal.main_v119_14) = v14 c
          ∧ r.2.mem ((c.tc : Thread Cert.ProjIdeal.nD Cert.ProjIdeal.τ).loc Cert.ProjIdeal.main_v119_15) = v15 c
          ∧ r.2.mem ((c.tc : Thread Cert.ProjIdeal.nD Cert.ProjIdeal.τ).loc Cert.ProjIdeal.main_v119_16) = v16 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v243) = v0 c
          ∧ r.2.mem ((c.tc : Thread Cert.ProjRefIdeal.nD Cert.ProjRefIdeal.τ).loc Cert.ProjRefIdeal.main_v244) = v1 c
          ∧ r.2.mem ((c.tc : Thread Cert.ProjRefIdeal.nD Cert.ProjRefIdeal.τ).loc Cert.ProjRefIdeal.main_v245) = v2 c
          ∧ r.2.mem ((c.tc : Thread Cert.ProjRefIdeal.nD Cert.ProjRefIdeal.τ).loc Cert.ProjRefIdeal.main_v246) = v3 c
          ∧ r.2.mem ((c.tc : Thread Cert.ProjRefIdeal.nD Cert.ProjRefIdeal.τ).loc Cert.ProjRefIdeal.main_v247) = v4 c
          ∧ r.2.mem ((c.tc : Thread Cert.ProjRefIdeal.nD Cert.ProjRefIdeal.τ).loc Cert.ProjRefIdeal.main_v248) = v5 c
          ∧ r.2.mem ((c.tc : Thread Cert.ProjRefIdeal.nD Cert.ProjRefIdeal.τ).loc Cert.ProjRefIdeal.main_v249) = v6 c
          ∧ r.2.mem ((c.tc : Thread Cert.ProjRefIdeal.nD Cert.ProjRefIdeal.τ).loc Cert.ProjRefIdeal.main_v250) = v7 c
          ∧ r.2.mem ((c.tc : Thread Cert.ProjRefIdeal.nD Cert.ProjRefIdeal.τ).loc Cert.ProjRefIdeal.main_v251) = v8 c
          ∧ r.2.mem ((c.tc : Thread Cert.ProjRefIdeal.nD Cert.ProjRefIdeal.τ).loc Cert.ProjRefIdeal.main_v252) = v9 c
          ∧ r.2.mem ((c.tc : Thread Cert.ProjRefIdeal.nD Cert.ProjRefIdeal.τ).loc Cert.ProjRefIdeal.main_v253) = v10 c
          ∧ r.2.mem ((c.tc : Thread Cert.ProjRefIdeal.nD Cert.ProjRefIdeal.τ).loc Cert.ProjRefIdeal.main_v254) = v11 c
          ∧ r.2.mem ((c.tc : Thread Cert.ProjRefIdeal.nD Cert.ProjRefIdeal.τ).loc Cert.ProjRefIdeal.main_v255) = v12 c
          ∧ r.2.mem ((c.tc : Thread Cert.ProjRefIdeal.nD Cert.ProjRefIdeal.τ).loc Cert.ProjRefIdeal.main_v256) = v13 c
          ∧ r.2.mem ((c.tc : Thread Cert.ProjRefIdeal.nD Cert.ProjRefIdeal.τ).loc Cert.ProjRefIdeal.main_v257) = v14 c
          ∧ r.2.mem ((c.tc : Thread Cert.ProjRefIdeal.nD Cert.ProjRefIdeal.τ).loc Cert.ProjRefIdeal.main_v258) = v15 c
          ∧ r.2.mem ((c.tc : Thread Cert.ProjRefIdeal.nD Cert.ProjRefIdeal.τ).loc Cert.ProjRefIdeal.main_v259) = v16 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def Claim : Prop :=
  ∃ (hHgrn : Cert.Hgrn.Facts) (hHgrnIdeal : Cert.HgrnIdeal.Facts) (hHgrnRefIdeal : Cert.HgrnRefIdeal.Facts) (hMemoryKv : Cert.MemoryKv.Facts) (hMemoryKvIdeal : Cert.MemoryKvIdeal.Facts) (hMemoryKvRefIdeal : Cert.MemoryKvRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts),
    quiescent_Hgrn (hHgrn := hHgrn)
    ∧ quiescent_HgrnIdeal (hHgrnIdeal := hHgrnIdeal)
    ∧ quiescent_HgrnRefIdeal (hHgrnRefIdeal := hHgrnRefIdeal)
    ∧ quiescent_MemoryKv (hMemoryKv := hMemoryKv)
    ∧ quiescent_MemoryKvIdeal (hMemoryKvIdeal := hMemoryKvIdeal)
    ∧ quiescent_MemoryKvRefIdeal (hMemoryKvRefIdeal := hMemoryKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Hgrn_HgrnIdeal
    ∧ preserves_MemoryKv_MemoryKvIdeal
    ∧ algebraic_MemoryKvIdeal_MemoryKvRefIdeal (hMemoryKvIdeal := hMemoryKvIdeal) (hMemoryKvRefIdeal := hMemoryKvRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Hgrn.lean ====
abbrev S4x8192x768 : Shape := ⟨3, ![4, 8192, 768]⟩
abbrev S6x128 : Shape := ⟨2, ![6, 128]⟩
abbrev S4x6x128x128 : Shape := ⟨4, ![4, 6, 128, 128]⟩
abbrev S1024x64 : Shape := ⟨2, ![1024, 64]⟩
abbrev S64x64 : Shape := ⟨2, ![64, 64]⟩
abbrev S64x224 : Shape := ⟨2, ![64, 224]⟩
abbrev S1x768 : Shape := ⟨2, ![1, 768]⟩
abbrev S4x64x768 : Shape := ⟨3, ![4, 64, 768]⟩
abbrev S1x1x128x128 : Shape := ⟨4, ![1, 1, 128, 128]⟩
abbrev S128x128 : Shape := ⟨2, ![128, 128]⟩
abbrev S1x64x256 : Shape := ⟨3, ![1, 64, 256]⟩
abbrev S64x256 : Shape := ⟨2, ![64, 256]⟩
abbrev S8x256 : Shape := ⟨2, ![8, 256]⟩
abbrev S1x256 : Shape := ⟨2, ![1, 256]⟩
abbrev S16x256 : Shape := ⟨2, ![16, 256]⟩
abbrev S24x256 : Shape := ⟨2, ![24, 256]⟩
abbrev S32x256 : Shape := ⟨2, ![32, 256]⟩
abbrev S40x256 : Shape := ⟨2, ![40, 256]⟩
abbrev S48x256 : Shape := ⟨2, ![48, 256]⟩
abbrev S56x256 : Shape := ⟨2, ![56, 256]⟩
abbrev S224x256 : Shape := ⟨2, ![224, 256]⟩
abbrev S8x8x256 : Shape := ⟨3, ![8, 8, 256]⟩
abbrev S8x1x256 : Shape := ⟨3, ![8, 1, 256]⟩
abbrev S64x128 : Shape := ⟨2, ![64, 128]⟩
abbrev S64x1024 : Shape := ⟨2, ![64, 1024]⟩
abbrev S224x128 : Shape := ⟨2, ![224, 128]⟩
abbrev S1x128 : Shape := ⟨2, ![1, 128]⟩
abbrev S128x64 : Shape := ⟨2, ![128, 64]⟩
abbrev S64 : Shape := ⟨1, ![64]⟩
abbrev S64x1 : Shape := ⟨2, ![64, 1]⟩
abbrev S1x64x128 : Shape := ⟨3, ![1, 64, 128]⟩

abbrev nBuf : Space → Nat
  | .hbm => 13
  | .vmem => 19
  | .smem => 0
  | _ => 0

abbrev bufTy : (tb : Table) → Fin (tcTables nBuf tb) → BufTy
  | .hbm, ⟨0, _⟩ => ⟨S4x8192x768, .bf16⟩
  | .hbm, ⟨1, _⟩ => ⟨S4x8192x768, .bf16⟩
  | .hbm, ⟨2, _⟩ => ⟨S4x8192x768, .f32⟩
  | .hbm, ⟨3, _⟩ => ⟨S4x8192x768, .bf16⟩
  | .hbm, ⟨4, _⟩ => ⟨S4x8192x768, .bf16⟩
  | .hbm, ⟨5, _⟩ => ⟨S6x128, .f32⟩
  | .hbm, ⟨6, _⟩ => ⟨S4x6x128x128, .f32⟩
  | .hbm, ⟨7, _⟩ => ⟨S1024x64, .bf16⟩
  | .hbm, ⟨8, _⟩ => ⟨S64x64, .f32⟩
  | .hbm, ⟨9, _⟩ => ⟨S64x224, .f32⟩
  | .hbm, ⟨10, _⟩ => ⟨S1x768, .f32⟩
  | .hbm, ⟨11, _⟩ => ⟨S4x8192x768, .bf16⟩
  | .hbm, ⟨12, _⟩ => ⟨S4x6x128x128, .f32⟩
  | .local _ .vmem, ⟨0, _⟩ => ⟨S4x64x768, .bf16⟩
  | .local _ .vmem, ⟨1, _⟩ => ⟨S4x64x768, .bf16⟩
  | .local _ .vmem, ⟨2, _⟩ => ⟨S4x64x768, .bf16⟩
  | .local _ .vmem, ⟨3, _⟩ => ⟨S4x64x768, .bf16⟩
  | .local _ .vmem, ⟨4, _⟩ => ⟨S4x64x768, .f32⟩
  | .local _ .vmem, ⟨5, _⟩ => ⟨S4x64x768, .f32⟩
  | .local _ .vmem, ⟨6, _⟩ => ⟨S4x64x768, .bf16⟩
  | .local _ .vmem, ⟨7, _⟩ => ⟨S4x64x768, .bf16⟩
  | .local _ .vmem, ⟨8, _⟩ => ⟨S4x64x768, .bf16⟩
  | .local _ .vmem, ⟨9, _⟩ => ⟨S4x64x768, .bf16⟩
  | .local _ .vmem, ⟨10, _⟩ => ⟨S1x768, .f32⟩
  | .local _ .vmem, ⟨11, _⟩ => ⟨S4x6x128x128, .f32⟩
  | .local _ .vmem, ⟨12, _⟩ => ⟨S1024x64, .bf16⟩
  | .local _ .vmem, ⟨13, _⟩ => ⟨S64x64, .f32⟩
  | .local _ .vmem, ⟨14, _⟩ => ⟨S64x224, .f32⟩
  | .local _ .vmem, ⟨15, _⟩ => ⟨S4x64x768, .bf16⟩
  | .local _ .vmem, ⟨16, _⟩ => ⟨S4x64x768, .bf16⟩
  | .local _ .vmem, ⟨17, _⟩ => ⟨S4x6x128x128, .f32⟩
  | .local _ .vmem, ⟨18, _⟩ => ⟨S4x6x128x128, .f32⟩
  | _, _ => ⟨S4x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v4312 : BitVec 1 := Scalar.cmpi .eq arg1 c127_i32
  let v4313 : BitVec 32 := Scalar.extui v4312
  let c0_i32_939 : BitVec 32 := 0#32
  let v4314 : BitVec 1 := Scalar.cmpi .ne v4313 c0_i32_939
  v4314

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x6x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x224 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x64x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x6x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== HgrnRefIdeal.lean ====
abbrev S4x8192x768 : Shape := ⟨3, ![4, 8192, 768]⟩
abbrev S6x128 : Shape := ⟨2, ![6, 128]⟩
abbrev S4x6x128x128 : Shape := ⟨4, ![4, 6, 128, 128]⟩
abbrev S_ : Shape := ⟨0, ![]⟩
abbrev S64x64 : Shape := ⟨2, ![64, 64]⟩
abbrev S1x64x64x1x1 : Shape := ⟨5, ![1, 64, 64, 1, 1]⟩
abbrev S4x128x64x6x128 : Shape := ⟨5, ![4, 128, 64, 6, 128]⟩
abbrev S128x4x64x6x128 : Shape := ⟨5, ![128, 4, 64, 6, 128]⟩
abbrev S1x4x64x6x128 : Shape := ⟨5, ![1, 4, 64, 6, 128]⟩
abbrev S4x64x6x128 : Shape := ⟨4, ![4, 64, 6, 128]⟩
abbrev S4x64x1x6x128 : Shape := ⟨5, ![4, 64, 1, 6, 128]⟩
abbrev S4x1x64x6x128 : Shape := ⟨5, ![4, 1, 64, 6, 128]⟩
abbrev S4x64x64x6x128 : Shape := ⟨5, ![4, 64, 64, 6, 128]⟩
abbrev S4x6x64x64 : Shape := ⟨4, ![4, 6, 64, 64]⟩
abbrev S4x6x128x64 : Shape := ⟨4, ![4, 6, 128, 64]⟩
abbrev S4x1x6x128 : Shape := ⟨4, ![4, 1, 6, 128]⟩
abbrev S4x6x128 : Shape := ⟨3, ![4, 6, 128]⟩
abbrev S4x6x128x1 : Shape := ⟨4, ![4, 6, 128, 1]⟩
abbrev S4x8192x6x128 : Shape := ⟨4, ![4, 8192, 6, 128]⟩
abbrev S4x8192x6 : Shape := ⟨3, ![4, 8192, 6]⟩
abbrev S4x8192x6x1 : Shape := ⟨4, ![4, 8192, 6, 1]⟩
abbrev S1x1x6x128 : Shape := ⟨4, ![1, 1, 6, 128]⟩

abbrev nBuf : Space → Nat
  | .hbm => 133
  | .vmem => 0
  | .smem => 0
  | _ => 0

abbrev hbmTy0_0 (i : Nat) : BufTy := match i % 128 with
  | 0 => ⟨S4x8192x768, .bf16⟩
  | 1 => ⟨S4x8192x768, .bf16⟩
  | 2 => ⟨S4x8192x768, .f32⟩
  | 3 => ⟨S4x8192x768, .bf16⟩
  | 4 => ⟨S4x8192x768, .bf16⟩
  | 5 => ⟨S6x128, .f32⟩
  | 6 => ⟨S4x6x128x128, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S1x64x64x1x1, .i1⟩
  | 19 => ⟨S4x8192x768, .f32⟩
  | 20 => ⟨S4x128x64x6x128, .f32⟩
  | 21 => ⟨S128x4x64x6x128, .f32⟩
  | 22 => ⟨S4x8192x768, .f32⟩
  | 23 => ⟨S4x128x64x6x128, .f32⟩
  | 24 => ⟨S128x4x64x6x128, .f32⟩
  | 25 => ⟨S4x8192x768, .f32⟩
  | 26 => ⟨S4x128x64x6x128, .f32⟩
  | 27 => ⟨S128x4x64x6x128, .f32⟩
  | 28 => ⟨S4x128x64x6x128, .f32⟩
  | 29 => ⟨S128x4x64x6x128, .f32⟩
  | 30 => ⟨S_, .f32⟩
  | 31 => ⟨S128x4x64x6x128, .f32⟩
  | 32 => ⟨S_, .i32⟩
  | 33 => ⟨S128x4x64x6x128, .f32⟩
  | 34 => ⟨S128x4x64x6x128, .f32⟩
  | 35 => ⟨S128x4x64x6x128, .f32⟩
  | 36 => ⟨S128x4x64x6x128, .f32⟩
  | 37 => ⟨S1x64x64x1x1, .i1⟩
  | 38 => ⟨S_, .i32⟩
  | 39 => ⟨S4x6x128x128, .f32⟩
  | 40 => ⟨S128x4x64x6x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x4x64x6x128, .f32⟩
  | 48 => ⟨S4x64x6x128, .f32⟩
  | 49 => ⟨S_, .i32⟩
  | 50 => ⟨S_, .i32⟩
  | 51 => ⟨S_, .i32⟩
  | 52 => ⟨S_, .i32⟩
  | 53 => ⟨S1x4x64x6x128, .f32⟩
  | 54 => ⟨S4x64x6x128, .f32⟩
  | 55 => ⟨S_, .i32⟩
  | 56 => ⟨S_, .i32⟩
  | 57 => ⟨S_, .i32⟩
  | 58 => ⟨S_, .i32⟩
  | 59 => ⟨S1x4x64x6x128, .f32⟩
  | 60 => ⟨S4x64x6x128, .f32⟩
  | 61 => ⟨S_, .i32⟩
  | 62 => ⟨S_, .i32⟩
  | 63 => ⟨S_, .i32⟩
  | 64 => ⟨S_, .i32⟩
  | 65 => ⟨S1x4x64x6x128, .f32⟩
  | 66 => ⟨S4x64x6x128, .f32⟩
  | 67 => ⟨S4x64x1x6x128, .f32⟩
  | 68 => ⟨S4x1x64x6x128, .f32⟩
  | 69 => ⟨S4x64x64x6x128, .f32⟩
  | 70 => ⟨S4x64x64x6x128, .f32⟩
  | 71 => ⟨S4x64x64x6x128, .f32⟩
  | 72 => ⟨S_, .f32⟩
  | 73 => ⟨S_, .f32⟩
  | 74 => ⟨S4x64x64x6x128, .i1⟩
  | 75 => ⟨S4x64x64x6x128, .f32⟩
  | 76 => ⟨S4x64x64x6x128, .f32⟩
  | 77 => ⟨S4x64x64x6x128, .f32⟩
  | 78 => ⟨S4x64x1x6x128, .f32⟩
  | 79 => ⟨S4x64x64x6x128, .f32⟩
  | 80 => ⟨S4x64x64x6x128, .f32⟩
  | 81 => ⟨S4x6x64x64, .f32⟩
  | 82 => ⟨S4x6x64x64, .f32⟩
  | 83 => ⟨S4x6x128x64, .f32⟩
  | 84 => ⟨S4x64x6x128, .f32⟩
  | 85 => ⟨S4x64x6x128, .f32⟩
  | 86 => ⟨S4x64x6x128, .f32⟩
  | 87 => ⟨S4x6x128x64, .f32⟩
  | 88 => ⟨S4x64x6x128, .f32⟩
  | 89 => ⟨S4x64x6x128, .f32⟩
  | 90 => ⟨S4x1x6x128, .f32⟩
  | 91 => ⟨S4x6x128, .f32⟩
  | 92 => ⟨S4x6x128, .f32⟩
  | 93 => ⟨S4x6x128x1, .f32⟩
  | 94 => ⟨S4x6x128x128, .f32⟩
  | 95 => ⟨S4x6x128x128, .f32⟩
  | 96 => ⟨S4x1x6x128, .f32⟩
  | 97 => ⟨S4x64x6x128, .f32⟩
  | 98 => ⟨S4x64x6x128, .f32⟩
  | 99 => ⟨S4x64x6x128, .f32⟩
  | 100 => ⟨S4x64x6x128, .f32⟩
  | 101 => ⟨S4x6x128x128, .f32⟩
  | 102 => ⟨S4x6x128x128, .f32⟩
  | 103 => ⟨S1x4x64x6x128, .f32⟩
  | 104 => ⟨S_, .i32⟩
  | 105 => ⟨S_, .i32⟩
  | 106 => ⟨S_, .i32⟩
  | 107 => ⟨S_, .i32⟩
  | 108 => ⟨S128x4x64x6x128, .f32⟩
  | 109 => ⟨S_, .i32⟩
  | 110 => ⟨S_, .i32⟩
  | 111 => ⟨S4x128x64x6x128, .f32⟩
  | 112 => ⟨S4x8192x6x128, .f32⟩
  | 113 => ⟨S4x8192x6x128, .f32⟩
  | 114 => ⟨S_, .f32⟩
  | 115 => ⟨S4x8192x6, .f32⟩
  | 116 => ⟨S4x8192x6x1, .f32⟩
  | 117 => ⟨S_, .f32⟩
  | 118 => ⟨S4x8192x6x1, .f32⟩
  | 119 => ⟨S4x8192x6x1, .f32⟩
  | 120 => ⟨S_, .f32⟩
  | 121 => ⟨S4x8192x6x1, .f32⟩
  | 122 => ⟨S4x8192x6x1, .f32⟩
  | 123 => ⟨S4x8192x6x1, .f32⟩
  | 124 => ⟨S4x8192x6x128, .f32⟩
  | 125 => ⟨S4x8192x6x128, .f32⟩
  | 126 => ⟨S1x1x6x128, .f32⟩
  | 127 => ⟨S4x8192x6x128, .f32⟩
  | _ => ⟨S4x8192x768, .bf16⟩

abbrev hbmTy0_1 (i : Nat) : BufTy := match i % 128 with
  | 0 => ⟨S4x8192x6x128, .f32⟩
  | 1 => ⟨S4x8192x768, .f32⟩
  | 2 => ⟨S4x8192x768, .f32⟩
  | 3 => ⟨S4x8192x768, .f32⟩
  | 4 => ⟨S4x8192x768, .bf16⟩
  | _ => ⟨S4x8192x768, .bf16⟩

abbrev hbmTy (i : Nat) : BufTy := match i / 128 with
  | 0 => hbmTy0_0 i
  | 1 => hbmTy0_1 i
  | _ => ⟨S4x8192x768, .bf16⟩

abbrev bufTy : (tb : Table) → Fin (tcTables nBuf tb) → BufTy
  | .hbm, ⟨i, _⟩ => hbmTy i
  | _, _ => ⟨S4x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_c_0 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v15_6 : Ref sig .tc := ⟨.hbm, 39, rfl⟩
abbrev main_v15_7 : Ref sig .tc := ⟨.hbm, 40, rfl⟩
abbrev main_while0c_c_11 : Ref sig .tc := ⟨.hbm, 41, rfl⟩
abbrev main_while0c_v35 : Ref sig .tc := ⟨.hbm, 42, rfl⟩
abbrev main_while0b_call1_c : Ref sig .tc := ⟨.hbm, 43, rfl⟩
abbrev main_while0b_call1_c_0 : Ref sig .tc := ⟨.hbm, 44, rfl⟩
abbrev main_while0b_call1_c_1 : Ref sig .tc := ⟨.hbm, 45, rfl⟩
abbrev main_while0b_call1_c_2 : Ref sig .tc := ⟨.hbm, 46, rfl⟩
abbrev main_while0b_call1_v0 : Ref sig .tc := ⟨.hbm, 47, rfl⟩
abbrev main_while0b_v35 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_c_2 : Ref sig .tc := ⟨.hbm, 52, rfl⟩
abbrev main_while0b_call2_v0 : Ref sig .tc := ⟨.hbm, 53, rfl⟩
abbrev main_while0b_v36 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_c_2 : Ref sig .tc := ⟨.hbm, 58, rfl⟩
abbrev main_while0b_call3_v0 : Ref sig .tc := ⟨.hbm, 59, rfl⟩
abbrev main_while0b_v37 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_call4_c_1 : Ref sig .tc := ⟨.hbm, 63, rfl⟩
abbrev main_while0b_call4_c_2 : Ref sig .tc := ⟨.hbm, 64, rfl⟩
abbrev main_while0b_call4_v0 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_cst_11 : Ref sig .tc := ⟨.hbm, 72, rfl⟩
abbrev main_while0b_call5_v0 : Ref sig .tc := ⟨.hbm, 73, rfl⟩
abbrev main_while0b_call5_v1 : Ref sig .tc := ⟨.hbm, 74, rfl⟩
abbrev main_while0b_call5_v2 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_v60 : Ref sig .tc := ⟨.hbm, 92, rfl⟩
abbrev main_while0b_v61 : Ref sig .tc := ⟨.hbm, 93, rfl⟩
abbrev main_while0b_v62 : Ref sig .tc := ⟨.hbm, 94, rfl⟩
abbrev main_while0b_v63 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_v69 : Ref sig .tc := ⟨.hbm, 101, rfl⟩
abbrev main_while0b_v70 : Ref sig .tc := ⟨.hbm, 102, rfl⟩
abbrev main_while0b_call6_v0 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_call6_c_2 : Ref sig .tc := ⟨.hbm, 107, rfl⟩
abbrev main_while0b_v71 : Ref sig .tc := ⟨.hbm, 108, rfl⟩
abbrev main_while0b_c_12 : Ref sig .tc := ⟨.hbm, 109, rfl⟩
abbrev main_while0b_v72 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_cst_1 : Ref sig .tc := ⟨.hbm, 114, rfl⟩
abbrev main_v19 : Ref sig .tc := ⟨.hbm, 115, rfl⟩
abbrev main_v20 : Ref sig .tc := ⟨.hbm, 116, rfl⟩
abbrev main_cst_2 : Ref sig .tc := ⟨.hbm, 117, rfl⟩
abbrev main_v21 : Ref sig .tc := ⟨.hbm, 118, rfl⟩
abbrev main_v22 : Ref sig .tc := ⟨.hbm, 119, rfl⟩
abbrev main_cst_3 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_v34 : Ref sig .tc := ⟨.hbm, 132, rfl⟩

abbrev nD : Nat := 1
abbrev τ : Topo := Topo.v7x

variable {F : FTy → Type} [FloatOps F]

abbrev main_while0_count : Scf.Loop 32 := ⟨0#32, 128#32, 1#32⟩
-- ==== MemoryKv.lean ====
abbrev S4x256x1024 : Shape := ⟨3, ![4, 256, 1024]⟩
abbrev S1024 : Shape := ⟨1, ![1024]⟩
abbrev S1024x1024 : Shape := ⟨2, ![1024, 1024]⟩
abbrev S1x1024 : Shape := ⟨2, ![1, 1024]⟩
abbrev S4x256x512 : Shape := ⟨3, ![4, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 9
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S4x256x512, .f32⟩
  | .hbm, ⟨6, _⟩ => ⟨S4x256x512, .f32⟩
  | .hbm, ⟨7, _⟩ => ⟨S4x256x512, .bf16⟩
  | .hbm, ⟨8, _⟩ => ⟨S4x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MemoryKvRefIdeal.lean ====
abbrev S4x256x1024 : Shape := ⟨3, ![4, 256, 1024]⟩
abbrev S1024 : Shape := ⟨1, ![1024]⟩
abbrev S1024x1024 : Shape := ⟨2, ![1024, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩

abbrev nBuf : Space → Nat
  | .hbm => 24
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x1024, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S4x256x512, .f32⟩
  | .hbm, ⟨21, _⟩ => ⟨S4x256x512, .f32⟩
  | .hbm, ⟨22, _⟩ => ⟨S4x256x512, .bf16⟩
  | .hbm, ⟨23, _⟩ => ⟨S4x256x512, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Merge.lean ====
abbrev S4x8192x1024 : Shape := ⟨3, ![4, 8192, 1024]⟩
abbrev S4x8192x768 : Shape := ⟨3, ![4, 8192, 768]⟩
abbrev S4x8192x512 : Shape := ⟨3, ![4, 8192, 512]⟩
abbrev S4x256x4x128 : Shape := ⟨4, ![4, 256, 4, 128]⟩
abbrev S4x8192x3072 : Shape := ⟨3, ![4, 8192, 3072]⟩
abbrev S768x1024 : Shape := ⟨2, ![768, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x256x512 : Shape := ⟨3, ![4, 256, 512]⟩
abbrev S1x1024 : Shape := ⟨2, ![1, 1024]⟩
abbrev S1x512x1024 : Shape := ⟨3, ![1, 512, 1024]⟩
abbrev S1x512x768 : Shape := ⟨3, ![1, 512, 768]⟩
abbrev S1x512x512 : Shape := ⟨3, ![1, 512, 512]⟩
abbrev S1x256x512 : Shape := ⟨3, ![1, 256, 512]⟩
abbrev S1x512x3072 : Shape := ⟨3, ![1, 512, 3072]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S512x3072 : Shape := ⟨2, ![512, 3072]⟩
abbrev S512x768 : Shape := ⟨2, ![512, 768]⟩
abbrev S512x4096 : Shape := ⟨2, ![512, 4096]⟩

abbrev nBuf : Space → Nat
  | .hbm => 30
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .bf16⟩
  | .hbm, ⟨2, _⟩ => ⟨S4x8192x768, .bf16⟩
  | .hbm, ⟨3, _⟩ => ⟨S4x8192x512, .bf16⟩
  | .hbm, ⟨4, _⟩ => ⟨S4x256x4x128, .f32⟩
  | .hbm, ⟨5, _⟩ => ⟨S4x256x4x128, .f32⟩
  | .hbm, ⟨6, _⟩ => ⟨S4x8192x3072, .bf16⟩
  | .hbm, ⟨7, _⟩ => ⟨S768x1024, .f32⟩
  | .hbm, ⟨8, _⟩ => ⟨S768x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S4x256x512, .f32⟩
  | .hbm, ⟨17, _⟩ => ⟨S4x256x512, .bf16⟩
  | .hbm, ⟨18, _⟩ => ⟨S4x256x512, .f32⟩
  | .hbm, ⟨19, _⟩ => ⟨S4x256x512, .bf16⟩
  | .hbm, ⟨20, _⟩ => ⟨S768x1024, .bf16⟩
  | .hbm, ⟨21, _⟩ => ⟨S768x1024, .bf16⟩
  | .hbm, ⟨22, _⟩ => ⟨S512x1024, .bf16⟩
  | .hbm, ⟨23, _⟩ => ⟨S1024x1024, .bf16⟩
  | .hbm, ⟨24, _⟩ => ⟨S1024x4096, .bf16⟩
  | .hbm, ⟨25, _⟩ => ⟨S4096x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .bf16⟩
  | .local _ .vmem, ⟨3, _⟩ => ⟨S1x512x768, .bf16⟩
  | .local _ .vmem, ⟨4, _⟩ => ⟨S1x512x768, .bf16⟩
  | .local _ .vmem, ⟨5, _⟩ => ⟨S1x512x768, .bf16⟩
  | .local _ .vmem, ⟨6, _⟩ => ⟨S1x512x512, .bf16⟩
  | .local _ .vmem, ⟨7, _⟩ => ⟨S1x512x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x512x3072, .bf16⟩
  | .local _ .vmem, ⟨13, _⟩ => ⟨S1x512x3072, .bf16⟩
  | .local _ .vmem, ⟨14, _⟩ => ⟨S768x1024, .bf16⟩
  | .local _ .vmem, ⟨15, _⟩ => ⟨S768x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x4096, .bf16⟩
  | .local _ .vmem, ⟨22, _⟩ => ⟨S4096x1024, .bf16⟩
  | .local _ .vmem, ⟨23, _⟩ => ⟨S1x512x1024, .f32⟩
  | .local _ .vmem, ⟨24, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4096x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MergeRefIdeal.lean ====
abbrev S4x8192x1024 : Shape := ⟨3, ![4, 8192, 1024]⟩
abbrev S4x8192x768 : Shape := ⟨3, ![4, 8192, 768]⟩
abbrev S4x8192x512 : Shape := ⟨3, ![4, 8192, 512]⟩
abbrev S4x256x4x128 : Shape := ⟨4, ![4, 256, 4, 128]⟩
abbrev S4x8192x3072 : Shape := ⟨3, ![4, 8192, 3072]⟩
abbrev S768x1024 : Shape := ⟨2, ![768, 1024]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x4x128 : Shape := ⟨4, ![4, 8192, 4, 128]⟩
abbrev S4x4x8192x256 : Shape := ⟨4, ![4, 4, 8192, 256]⟩
abbrev S_ : Shape := ⟨0, ![]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x768, .bf16⟩
  | .hbm, ⟨2, _⟩ => ⟨S4x8192x768, .bf16⟩
  | .hbm, ⟨3, _⟩ => ⟨S4x8192x512, .bf16⟩
  | .hbm, ⟨4, _⟩ => ⟨S4x256x4x128, .f32⟩
  | .hbm, ⟨5, _⟩ => ⟨S4x256x4x128, .f32⟩
  | .hbm, ⟨6, _⟩ => ⟨S4x8192x3072, .bf16⟩
  | .hbm, ⟨7, _⟩ => ⟨S768x1024, .f32⟩
  | .hbm, ⟨8, _⟩ => ⟨S768x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x4096, .f32⟩
  | .hbm, ⟨15, _⟩ => ⟨S4096x1024, .f32⟩
  | .hbm, ⟨16, _⟩ => ⟨S4x8192x512, .f32⟩
  | .hbm, ⟨17, _⟩ => ⟨S4x8192x4x128, .f32⟩
  | .hbm, ⟨18, _⟩ => ⟨S4x4x8192x256, .f32⟩
  | .hbm, ⟨19, _⟩ => ⟨S_, .f32⟩
  | .hbm, ⟨20, _⟩ => ⟨S4x4x8192, .f32⟩
  | .hbm, ⟨21, _⟩ => ⟨S_, .f32⟩
  | .hbm, ⟨22, _⟩ => ⟨S4x4x8192, .f32⟩
  | .hbm, ⟨23, _⟩ => ⟨S4x4x8192, .f32⟩
  | .hbm, ⟨24, _⟩ => ⟨S4x4x8192x1, .f32⟩
  | .hbm, ⟨25, _⟩ => ⟨S4x4x8192x256, .f32⟩
  | .hbm, ⟨26, _⟩ => ⟨S4x4x8192x256, .f32⟩
  | .hbm, ⟨27, _⟩ => ⟨S4x4x8192x256, .f32⟩
  | .hbm, ⟨28, _⟩ => ⟨S_, .f32⟩
  | .hbm, ⟨29, _⟩ => ⟨S4x4x8192, .f32⟩
  | .hbm, ⟨30, _⟩ => ⟨S4x4x8192x1, .f32⟩
  | .hbm, ⟨31, _⟩ => ⟨S4x4x8192x256, .f32⟩
  | .hbm, ⟨32, _⟩ => ⟨S4x4x8192x256, .f32⟩
  | .hbm, ⟨33, _⟩ => ⟨S4x4x128x8192, .f32⟩
  | .hbm, ⟨34, _⟩ => ⟨S4x8192x4x128, .f32⟩
  | .hbm, ⟨35, _⟩ => ⟨S4x8192x512, .f32⟩
  | .hbm, ⟨36, _⟩ => ⟨S4x8192x3072, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x768, .f32⟩
  | .hbm, ⟨41, _⟩ => ⟨S4x8192x1024, .f32⟩
  | .hbm, ⟨42, _⟩ => ⟨S4x8192x1024, .f32⟩
  | .hbm, ⟨43, _⟩ => ⟨S4x8192x768, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | .hbm, ⟨84, _⟩ => ⟨S4x8192x4096, .f32⟩
  | .hbm, ⟨85, _⟩ => ⟨S_, .f32⟩
  | .hbm, ⟨86, _⟩ => ⟨S4x8192x4096, .f32⟩
  | .hbm, ⟨87, _⟩ => ⟨S4x8192x4096, .f32⟩
  | .hbm, ⟨88, _⟩ => ⟨S4x8192x4096, .f32⟩
  | .hbm, ⟨89, _⟩ => ⟨S4x8192x1024, .f32⟩
  | .hbm, ⟨90, _⟩ => ⟨S4x8192x1024, .f32⟩
  | .hbm, ⟨91, _⟩ => ⟨S_, .f32⟩
  | .hbm, ⟨92, _⟩ => ⟨S4x8192, .f32⟩
  | .hbm, ⟨93, _⟩ => ⟨S4x8192x1, .f32⟩
  | .hbm, ⟨94, _⟩ => ⟨S_, .f32⟩
  | .hbm, ⟨95, _⟩ => ⟨S4x8192x1, .f32⟩
  | .hbm, ⟨96, _⟩ => ⟨S4x8192x1, .f32⟩
  | .hbm, ⟨97, _⟩ => ⟨S_, .f32⟩
  | .hbm, ⟨98, _⟩ => ⟨S4x8192x1, .f32⟩
  | .hbm, ⟨99, _⟩ => ⟨S4x8192x1, .f32⟩
  | .hbm, ⟨100, _⟩ => ⟨S4x8192x1, .f32⟩
  | .hbm, ⟨101, _⟩ => ⟨S4x8192x1024, .f32⟩
  | .hbm, ⟨102, _⟩ => ⟨S4x8192x1024, .f32⟩
  | .hbm, ⟨103, _⟩ => ⟨S1x1x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_5 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call0_cst : Ref sig .tc := ⟨.hbm, 85, rfl⟩
abbrev main_call0_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_8 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Proj.lean ====
abbrev S4x8192x1024 : Shape := ⟨3, ![4, 8192, 1024]⟩
abbrev S1024x8520 : Shape := ⟨2, ![1024, 8520]⟩
abbrev S1024 : Shape := ⟨1, ![1024]⟩
abbrev S2x768 : Shape := ⟨2, ![2, 768]⟩
abbrev S128 : Shape := ⟨1, ![128]⟩
abbrev S256x256 : Shape := ⟨2, ![256, 256]⟩
abbrev S_ : Shape := ⟨0, ![]⟩
abbrev S768 : Shape := ⟨1, ![768]⟩
abbrev S1x768 : Shape := ⟨2, ![1, 768]⟩
abbrev S8192 : Shape := ⟨1, ![8192]⟩
abbrev S1024x768 : Shape := ⟨2, ![1024, 768]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x3072 : Shape := ⟨2, ![1024, 3072]⟩
abbrev S1024x32 : Shape := ⟨2, ![1024, 32]⟩
abbrev S1024x24 : Shape := ⟨2, ![1024, 24]⟩
abbrev S1024x128 : Shape := ⟨2, ![1024, 128]⟩
abbrev S1024x8576 : Shape := ⟨2, ![1024, 8576]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S128x1 : Shape := ⟨2, ![128, 1]⟩
abbrev S8192x128 : Shape := ⟨2, ![8192, 128]⟩
abbrev S8 : Shape := ⟨1, ![8]⟩
abbrev S1x8 : Shape := ⟨2, ![1, 8]⟩
abbrev S8192x8 : Shape := ⟨2, ![8192, 8]⟩
abbrev S1x8192x1x128 : Shape := ⟨4, ![1, 8192, 1, 128]⟩
abbrev S32768x1024 : Shape := ⟨2, ![32768, 1024]⟩
abbrev S1x1024 : Shape := ⟨2, ![1, 1024]⟩
abbrev S32768x768 : Shape := ⟨2, ![32768, 768]⟩
abbrev S32768x256 : Shape := ⟨2, ![32768, 256]⟩
abbrev S32768x512 : Shape := ⟨2, ![32768, 512]⟩
abbrev S32768x128 : Shape := ⟨2, ![32768, 128]⟩
abbrev S32768x3072 : Shape := ⟨2, ![32768, 3072]⟩
abbrev S32768x64 : Shape := ⟨2, ![32768, 64]⟩
abbrev S512x1024 : Shape := ⟨2, ![512, 1024]⟩
abbrev S512x128 : Shape := ⟨2, ![512, 128]⟩
abbrev S512x768 : Shape := ⟨2, ![512, 768]⟩
abbrev S512x256 : Shape := ⟨2, ![512, 256]⟩
abbrev S512x512 : Shape := ⟨2, ![512, 512]⟩
abbrev S512x3072 : Shape := ⟨2, ![512, 3072]⟩
abbrev S512x64 : Shape := ⟨2, ![512, 64]⟩
abbrev S512 : Shape := ⟨1, ![512]⟩
abbrev S512x1 : Shape := ⟨2, ![512, 1]⟩
abbrev S256x768 : Shape := ⟨2, ![256, 768]⟩

abbrev nBuf : Space → Nat
  | .hbm => 196
  | .vmem => 52
  | .smem => 0
  | _ => 0

abbrev hbmTy0_0 (i : Nat) : BufTy := match i % 128 with
  | 0 => ⟨S4x8192x1024, .f32⟩
  | 1 => ⟨S1024x8520, .f32⟩
  | 2 => ⟨S1024, .f32⟩
  | 3 => ⟨S2x768, .f32⟩
  | 4 => ⟨S128, .i32⟩
  | 5 => ⟨S128, .i1⟩
  | 6 => ⟨S128, .i1⟩
  | 7 => ⟨S128, .i1⟩
  | 8 => ⟨S128, .i1⟩
  | 9 => ⟨S128, .i1⟩
  | 10 => ⟨S128, .i1⟩
  | 11 => ⟨S128, .i32⟩
  | 12 => ⟨S128, .i1⟩
  | 13 => ⟨S128, .i1⟩
  | 14 => ⟨S128, .i1⟩
  | 15 => ⟨S128, .i1⟩
  | 16 => ⟨S128, .i1⟩
  | 17 => ⟨S128, .i1⟩
  | 18 => ⟨S256x256, .bf16⟩
  | 19 => ⟨S_, .f32⟩
  | 20 => ⟨S768, .f32⟩
  | 21 => ⟨S_, .f32⟩
  | 22 => ⟨S768, .f32⟩
  | 23 => ⟨S768, .f32⟩
  | 24 => ⟨S1x768, .f32⟩
  | 25 => ⟨S2x768, .f32⟩
  | 26 => ⟨S2x768, .f32⟩
  | 27 => ⟨S2x768, .f32⟩
  | 28 => ⟨S_, .f32⟩
  | 29 => ⟨S768, .f32⟩
  | 30 => ⟨S1x768, .f32⟩
  | 31 => ⟨S2x768, .f32⟩
  | 32 => ⟨S2x768, .f32⟩
  | 33 => ⟨S_, .f32⟩
  | 34 => ⟨S_, .f32⟩
  | 35 => ⟨S2x768, .f32⟩
  | 36 => ⟨S8192, .i32⟩
  | 37 => ⟨S1x768, .f32⟩
  | 38 => ⟨S768, .f32⟩
  | 39 => ⟨S1024x768, .f32⟩
  | 40 => ⟨S1024x256, .f32⟩
  | 41 => ⟨S1024x256, .f32⟩
  | 42 => ⟨S1024x512, .f32⟩
  | 43 => ⟨S1024x64, .f32⟩
  | 44 => ⟨S1024x8, .f32⟩
  | 45 => ⟨S1024x768, .f32⟩
  | 46 => ⟨S1024x768, .f32⟩
  | 47 => ⟨S1024x768, .f32⟩
  | 48 => ⟨S1024x768, .f32⟩
  | 49 => ⟨S1024x512, .f32⟩
  | 50 => ⟨S1024x3072, .f32⟩
  | 51 => ⟨S_, .f32⟩
  | 52 => ⟨S1024x32, .f32⟩
  | 53 => ⟨S_, .f32⟩
  | 54 => ⟨S1024x24, .f32⟩
  | 55 => ⟨S1024x128, .f32⟩
  | 56 => ⟨S1024x8576, .f32⟩
  | 57 => ⟨S1024x8576, .bf16⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S8192, .f32⟩
  | 67 => ⟨S8192x1, .f32⟩
  | 68 => ⟨S1x16, .f32⟩
  | 69 => ⟨S8192x16, .f32⟩
  | 70 => ⟨S8192x16, .f32⟩
  | 71 => ⟨S8192x16, .f32⟩
  | 72 => ⟨S8192x16, .f32⟩
  | 73 => ⟨S8192x16, .f32⟩
  | 74 => ⟨S_, .i32⟩
  | 75 => ⟨S128, .i32⟩
  | 76 => ⟨S128, .i32⟩
  | 77 => ⟨S128, .i32⟩
  | 78 => ⟨S128x1, .i32⟩
  | 79 => ⟨S8192x128, .f32⟩
  | 80 => ⟨S_, .f32⟩
  | 81 => ⟨S_, .f32⟩
  | 82 => ⟨S8192x128, .i1⟩
  | 83 => ⟨S8192x128, .f32⟩
  | 84 => ⟨S8192x128, .f32⟩
  | 85 => ⟨S_, .i32⟩
  | 86 => ⟨S128, .i32⟩
  | 87 => ⟨S128, .i32⟩
  | 88 => ⟨S128, .i32⟩
  | 89 => ⟨S128x1, .i32⟩
  | 90 => ⟨S8192x128, .f32⟩
  | 91 => ⟨S_, .f32⟩
  | 92 => ⟨S_, .f32⟩
  | 93 => ⟨S8192x128, .i1⟩
  | 94 => ⟨S8192x128, .f32⟩
  | 95 => ⟨S8192x128, .f32⟩
  | 96 => ⟨S_, .i32⟩
  | 97 => ⟨S128, .i32⟩
  | 98 => ⟨S128, .i32⟩
  | 99 => ⟨S128, .i32⟩
  | 100 => ⟨S128x1, .i32⟩
  | 101 => ⟨S8192x128, .f32⟩
  | 102 => ⟨S8192x128, .f32⟩
  | 103 => ⟨S_, .f32⟩
  | 104 => ⟨S_, .f32⟩
  | 105 => ⟨S8192x128, .i1⟩
  | 106 => ⟨S8192x128, .f32⟩
  | 107 => ⟨S8192x128, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S8192, .f32⟩
  | 117 => ⟨S8192x1, .f32⟩
  | 118 => ⟨S1x8, .f32⟩
  | 119 => ⟨S8192x8, .f32⟩
  | 120 => ⟨S8192x8, .f32⟩
  | 121 => ⟨S8192x8, .f32⟩
  | 122 => ⟨S8192x8, .f32⟩
  | 123 => ⟨S8192x8, .f32⟩
  | 124 => ⟨S_, .i32⟩
  | 125 => ⟨S128, .i32⟩
  | 126 => ⟨S128, .i32⟩
  | 127 => ⟨S128, .i32⟩
  | _ => ⟨S4x8192x1024, .f32⟩

abbrev hbmTy0_1 (i : Nat) : BufTy := match i % 128 with
  | 0 => ⟨S128x1, .i32⟩
  | 1 => ⟨S8192x128, .f32⟩
  | 2 => ⟨S_, .f32⟩
  | 3 => ⟨S_, .f32⟩
  | 4 => ⟨S8192x128, .i1⟩
  | 5 => ⟨S8192x128, .f32⟩
  | 6 => ⟨S8192x128, .f32⟩
  | 7 => ⟨S_, .i32⟩
  | 8 => ⟨S128, .i32⟩
  | 9 => ⟨S128, .i32⟩
  | 10 => ⟨S128, .i32⟩
  | 11 => ⟨S128x1, .i32⟩
  | 12 => ⟨S8192x128, .f32⟩
  | 13 => ⟨S_, .f32⟩
  | 14 => ⟨S_, .f32⟩
  | 15 => ⟨S8192x128, .i1⟩
  | 16 => ⟨S8192x128, .f32⟩
  | 17 => ⟨S8192x128, .f32⟩
  | 18 => ⟨S_, .i32⟩
  | 19 => ⟨S128, .i32⟩
  | 20 => ⟨S128, .i32⟩
  | 21 => ⟨S128, .i32⟩
  | 22 => ⟨S128x1, .i32⟩
  | 23 => ⟨S8192x128, .f32⟩
  | 24 => ⟨S8192x128, .f32⟩
  | 25 => ⟨S_, .f32⟩
  | 26 => ⟨S_, .f32⟩
  | 27 => ⟨S8192x128, .i1⟩
  | 28 => ⟨S8192x128, .f32⟩
  | 29 => ⟨S8192x128, .f32⟩
  | 30 => ⟨S1x8192x1x128, .f32⟩
  | 31 => ⟨S1x8192x1x128, .f32⟩
  | 32 => ⟨S8192x128, .f32⟩
  | 33 => ⟨S1x8192x1x128, .f32⟩
  | 34 => ⟨S1x8192x1x128, .f32⟩
  | 35 => ⟨S8192x128, .f32⟩
  | 36 => ⟨S1x8192x1x128, .f32⟩
  | 37 => ⟨S1x8192x1x128, .f32⟩
  | 38 => ⟨S8192x128, .f32⟩
  | 39 => ⟨S1x8192x1x128, .f32⟩
  | 40 => ⟨S1x8192x1x128, .f32⟩
  | 41 => ⟨S8192x128, .f32⟩
  | 42 => ⟨S1x8192x1x128, .f32⟩
  | 43 => ⟨S1x8192x1x128, .f32⟩
  | 44 => ⟨S8192x128, .f32⟩
  | 45 => ⟨S1x8192x1x128, .f32⟩
  | 46 => ⟨S1x8192x1x128, .f32⟩
  | 47 => ⟨S8192x128, .f32⟩
  | 48 => ⟨S32768x1024, .f32⟩
  | 49 => ⟨S1x1024, .f32⟩
  | 50 => ⟨S1x768, .f32⟩
  | 51 => ⟨S32768x768, .bf16⟩
  | 52 => ⟨S32768x256, .f32⟩
  | 53 => ⟨S32768x256, .f32⟩
  | 54 => ⟨S32768x256, .bf16⟩
  | 55 => ⟨S32768x256, .bf16⟩
  | 56 => ⟨S32768x512, .bf16⟩
  | 57 => ⟨S32768x128, .f32⟩
  | 58 => ⟨S32768x128, .bf16⟩
  | 59 => ⟨S32768x128, .bf16⟩
  | 60 => ⟨S32768x768, .bf16⟩
  | 61 => ⟨S32768x768, .bf16⟩
  | 62 => ⟨S32768x768, .f32⟩
  | 63 => ⟨S32768x768, .bf16⟩
  | 64 => ⟨S32768x768, .bf16⟩
  | 65 => ⟨S32768x512, .bf16⟩
  | 66 => ⟨S32768x3072, .bf16⟩
  | 67 => ⟨S32768x64, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x768, .f32⟩
  | .local _ .vmem, ⟨4, _⟩ => ⟨S1024x8576, .bf16⟩
  | .local _ .vmem, ⟨5, _⟩ => ⟨S256x256, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x768, .bf16⟩
  | .local _ .vmem, ⟨19, _⟩ => ⟨S512x768, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x512, .bf16⟩
  | .local _ .vmem, ⟨29, _⟩ => ⟨S512x512, .bf16⟩
  | .local _ .vmem, ⟨30, _⟩ => ⟨S512x128, .f32⟩
  | .local _ .vmem, ⟨31, _⟩ => ⟨S512x128, .f32⟩
  | .local _ .vmem, ⟨32, _⟩ => ⟨S512x128, .bf16⟩
  | .local _ .vmem, ⟨33, _⟩ => ⟨S512x128, .bf16⟩
  | .local _ .vmem, ⟨34, _⟩ => ⟨S512x128, .bf16⟩
  | .local _ .vmem, ⟨35, _⟩ => ⟨S512x128, .bf16⟩
  | .local _ .vmem, ⟨36, _⟩ => ⟨S512x768, .bf16⟩
  | .local _ .vmem, ⟨37, _⟩ => ⟨S512x768, .bf16⟩
  | .local _ .vmem, ⟨38, _⟩ => ⟨S512x768, .bf16⟩
  | .local _ .vmem, ⟨39, _⟩ => ⟨S512x768, .bf16⟩
  | .local _ .vmem, ⟨40, _⟩ => ⟨S512x768, .f32⟩
  | .local _ .vmem, ⟨41, _⟩ => ⟨S512x768, .f32⟩
  | .local _ .vmem, ⟨42, _⟩ => ⟨S512x768, .bf16⟩
  | .local _ .vmem, ⟨43, _⟩ => ⟨S512x768, .bf16⟩
  | .local _ .vmem, ⟨44, _⟩ => ⟨S512x768, .bf16⟩
  | .local _ .vmem, ⟨45, _⟩ => ⟨S512x768, .bf16⟩
  | .local _ .vmem, ⟨46, _⟩ => ⟨S512x512, .bf16⟩
  | .local _ .vmem, ⟨47, _⟩ => ⟨S512x512, .bf16⟩
  | .local _ .vmem, ⟨48, _⟩ => ⟨S512x3072, .bf16⟩
  | .local _ .vmem, ⟨49, _⟩ => ⟨S512x3072, .bf16⟩
  | .local _ .vmem, ⟨50, _⟩ => ⟨S512x64, .f32⟩
  | .local _ .vmem, ⟨51, _⟩ => ⟨S512x64, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_c_10 : Ref sig .tc := ⟨.hbm, 15, rfl⟩
abbrev main_c_11 : Ref sig .tc := ⟨.hbm, 16, rfl⟩
abbrev main_c_12 : Ref sig .tc := ⟨.hbm, 17, rfl⟩
abbrev main_cst : Ref sig .tc := ⟨.hbm, 18, rfl⟩
abbrev main_cst_13 : Ref sig .tc := ⟨.hbm, 19, rfl⟩
abbrev main_v0 : Ref sig .tc := ⟨.hbm, 20, rfl⟩
abbrev main_cst_14 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_15 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_call0_cst : Ref sig .tc := ⟨.hbm, 33, rfl⟩
abbrev main_call0_call0_v0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_16 : Ref sig .tc := ⟨.hbm, 51, rfl⟩
abbrev main_v27 : Ref sig .tc := ⟨.hbm, 52, rfl⟩
abbrev main_cst_17 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_18 : Ref sig .tc := ⟨.hbm, 60, rfl⟩
abbrev main_v34 : Ref sig .tc := ⟨.hbm, 61, rfl⟩
abbrev main_v35 : Ref sig .tc := ⟨.hbm, 62, rfl⟩
abbrev main_cst_19 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_20 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_21 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v51 : Ref sig .tc := ⟨.hbm, 84, rfl⟩
abbrev main_c_22 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_23 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v57 : Ref sig .tc := ⟨.hbm, 95, rfl⟩
abbrev main_c_24 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_25 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_26 : Ref sig .tc := ⟨.hbm, 110, rfl⟩
abbrev main_v67 : Ref sig .tc := ⟨.hbm, 111, rfl⟩
abbrev main_v68 : Ref sig .tc := ⟨.hbm, 112, rfl⟩
abbrev main_cst_27 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_28 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_29 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v84 : Ref sig .tc := ⟨.hbm, 134, rfl⟩
abbrev main_c_30 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_31 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v90 : Ref sig .tc := ⟨.hbm, 145, rfl⟩
abbrev main_c_32 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_33 : Ref sig .tc := ⟨.hbm, 153, rfl⟩
abbrev main_call6_v0 : Ref sig .tc := ⟨.hbm, 154, rfl⟩
abbrev main_call6_v1 : Ref sig .tc := ⟨.hbm, 155, rfl⟩
abbrev main_call6_v2 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119_0 : Ref sig .tc := ⟨.hbm, 179, rfl⟩
abbrev main_v119_1 : Ref sig .tc := ⟨.hbm, 180, rfl⟩
abbrev main_v119_2 : Ref sig .tc := ⟨.hbm, 181, rfl⟩
abbrev main_v119_3 : Ref sig .tc := ⟨.hbm, 182, rfl⟩
abbrev main_v119_4 : Ref sig .tc := ⟨.hbm, 183, rfl⟩
abbrev main_v119_5 : Ref sig .tc := ⟨.hbm, 184, rfl⟩
abbrev main_v119_6 : Ref sig .tc := ⟨.hbm, 185, rfl⟩
abbrev main_v119_7 : Ref sig .tc := ⟨.hbm, 186, rfl⟩
abbrev main_v119_8 : Ref sig .tc := ⟨.hbm, 187, rfl⟩
abbrev main_v119_9 : Ref sig .tc := ⟨.hbm, 188, rfl⟩
abbrev main_v119_10 : Ref sig .tc := ⟨.hbm, 189, rfl⟩
abbrev main_v119_11 : Ref sig .tc := ⟨.hbm, 190, rfl⟩
abbrev main_v119_12 : Ref sig .tc := ⟨.hbm, 191, rfl⟩
abbrev main_v119_13 : Ref sig .tc := ⟨.hbm, 192, rfl⟩
abbrev main_v119_14 : Ref sig .tc := ⟨.hbm, 193, rfl⟩
abbrev main_v119_15 : Ref sig .tc := ⟨.hbm, 194, rfl⟩
abbrev main_v119_16 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg27_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem27_1 : DmaSem sig := 51

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x768 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x768 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x768 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x768 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x768 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x3072 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x64 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== ProjRefIdeal.lean ====
abbrev S4x8192x1024 : Shape := ⟨3, ![4, 8192, 1024]⟩
abbrev S1024x8520 : Shape := ⟨2, ![1024, 8520]⟩
abbrev S1024 : Shape := ⟨1, ![1024]⟩
abbrev S2x768 : Shape := ⟨2, ![2, 768]⟩
abbrev S_ : Shape := ⟨0, ![]⟩
abbrev S768 : Shape := ⟨1, ![768]⟩
abbrev S1x768 : Shape := ⟨2, ![1, 768]⟩
abbrev S8192 : Shape := ⟨1, ![8192]⟩
abbrev S4x8192 : Shape := ⟨2, ![4, 8192]⟩
abbrev S4x8192x1 : Shape := ⟨3, ![4, 8192, 1]⟩
abbrev S1x1x1024 : Shape := ⟨3, ![1, 1, 1024]⟩
abbrev S4x8192x8520 : Shape := ⟨3, ![4, 8192, 8520]⟩
abbrev S4x8192x768 : Shape := ⟨3, ![4, 8192, 768]⟩
abbrev S4x8192x256 : Shape := ⟨3, ![4, 8192, 256]⟩
abbrev S4x8192x512 : Shape := ⟨3, ![4, 8192, 512]⟩
abbrev S4x8192x64 : Shape := ⟨3, ![4, 8192, 64]⟩
abbrev S4x8192x8 : Shape := ⟨3, ![4, 8192, 8]⟩
abbrev S4x8192x3072 : Shape := ⟨3, ![4, 8192, 3072]⟩
abbrev S4x8192x6x128 : Shape := ⟨4, ![4, 8192, 6, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S4x8192x6x16 : Shape := ⟨4, ![4, 8192, 6, 16]⟩
abbrev S1x8192x1x16 : Shape := ⟨4, ![1, 8192, 1, 16]⟩
abbrev S4x8192x6x32 : Shape := ⟨4, ![4, 8192, 6, 32]⟩
abbrev S4x8192x6x96 : Shape := ⟨4, ![4, 8192, 6, 96]⟩
abbrev S4x8192x2x128 : Shape := ⟨4, ![4, 8192, 2, 128]⟩
abbrev S4x8192x2x16 : Shape := ⟨4, ![4, 8192, 2, 16]⟩
abbrev S4x8192x2x32 : Shape := ⟨4, ![4, 8192, 2, 32]⟩
abbrev S4x8192x2x96 : Shape := ⟨4, ![4, 8192, 2, 96]⟩
abbrev S4x8192x8x64 : Shape := ⟨4, ![4, 8192, 8, 64]⟩
abbrev S8 : Shape := ⟨1, ![8]⟩
abbrev S1x8 : Shape := ⟨2, ![1, 8]⟩
abbrev S8192x8 : Shape := ⟨2, ![8192, 8]⟩
abbrev S8192x1x8 : Shape := ⟨3, ![8192, 1, 8]⟩
abbrev S4x8192x8x8 : Shape := ⟨4, ![4, 8192, 8, 8]⟩
abbrev S1x8192x1x8 : Shape := ⟨4, ![1, 8192, 1, 8]⟩
abbrev S4x8192x8x16 : Shape := ⟨4, ![4, 8192, 8, 16]⟩
abbrev S4x8192x8x48 : Shape := ⟨4, ![4, 8192, 8, 48]⟩
abbrev S4x8192x1x64 : Shape := ⟨4, ![4, 8192, 1, 64]⟩
abbrev S4x8192x1x8 : Shape := ⟨4, ![4, 8192, 1, 8]⟩
abbrev S4x8192x1x16 : Shape := ⟨4, ![4, 8192, 1, 16]⟩
abbrev S4x8192x1x48 : Shape := ⟨4, ![4, 8192, 1, 48]⟩
abbrev S1x1x768 : Shape := ⟨3, ![1, 1, 768]⟩
abbrev S4x128x64x768 : Shape := ⟨4, ![4, 128, 64, 768]⟩
abbrev S4x8192x32 : Shape := ⟨3, ![4, 8192, 32]⟩
abbrev S4x8192x24 : Shape := ⟨3, ![4, 8192, 24]⟩
abbrev S4x8192x128 : Shape := ⟨3, ![4, 8192, 128]⟩
abbrev S32768x768 : Shape := ⟨2, ![32768, 768]⟩
abbrev S32768x256 : Shape := ⟨2, ![32768, 256]⟩
abbrev S32768x512 : Shape := ⟨2, ![32768, 512]⟩
abbrev S32768x128 : Shape := ⟨2, ![32768, 128]⟩
abbrev S32768x3072 : Shape := ⟨2, ![32768, 3072]⟩
abbrev S32768x64 : Shape := ⟨2, ![32768, 64]⟩

abbrev nBuf : Space → Nat
  | .hbm => 308
  | .vmem => 0
  | .smem => 0
  | _ => 0

abbrev hbmTy0_0 (i : Nat) : BufTy := match i % 128 with
  | 0 => ⟨S4x8192x1024, .f32⟩
  | 1 => ⟨S1024x8520, .f32⟩
  | 2 => ⟨S1024, .f32⟩
  | 3 => ⟨S2x768, .f32⟩
  | 4 => ⟨S_, .f32⟩
  | 5 => ⟨S768, .f32⟩
  | 6 => ⟨S_, .f32⟩
  | 7 => ⟨S768, .f32⟩
  | 8 => ⟨S768, .f32⟩
  | 9 => ⟨S1x768, .f32⟩
  | 10 => ⟨S2x768, .f32⟩
  | 11 => ⟨S2x768, .f32⟩
  | 12 => ⟨S2x768, .f32⟩
  | 13 => ⟨S_, .f32⟩
  | 14 => ⟨S768, .f32⟩
  | 15 => ⟨S1x768, .f32⟩
  | 16 => ⟨S2x768, .f32⟩
  | 17 => ⟨S2x768, .f32⟩
  | 18 => ⟨S_, .f32⟩
  | 19 => ⟨S_, .f32⟩
  | 20 => ⟨S2x768, .f32⟩
  | 21 => ⟨S8192, .i32⟩
  | 22 => ⟨S4x8192x1024, .f32⟩
  | 23 => ⟨S_, .f32⟩
  | 24 => ⟨S4x8192, .f32⟩
  | 25 => ⟨S4x8192x1, .f32⟩
  | 26 => ⟨S_, .f32⟩
  | 27 => ⟨S4x8192x1, .f32⟩
  | 28 => ⟨S4x8192x1, .f32⟩
  | 29 => ⟨S_, .f32⟩
  | 30 => ⟨S4x8192x1, .f32⟩
  | 31 => ⟨S4x8192x1, .f32⟩
  | 32 => ⟨S4x8192x1, .f32⟩
  | 33 => ⟨S4x8192x1024, .f32⟩
  | 34 => ⟨S4x8192x1024, .f32⟩
  | 35 => ⟨S1x1x1024, .f32⟩
  | 36 => ⟨S4x8192x1024, .f32⟩
  | 37 => ⟨S4x8192x1024, .f32⟩
  | 38 => ⟨S4x8192x8520, .f32⟩
  | 39 => ⟨S4x8192x768, .f32⟩
  | 40 => ⟨S4x8192x256, .f32⟩
  | 41 => ⟨S4x8192x256, .f32⟩
  | 42 => ⟨S4x8192x512, .f32⟩
  | 43 => ⟨S4x8192x64, .f32⟩
  | 44 => ⟨S4x8192x8, .f32⟩
  | 45 => ⟨S4x8192x768, .f32⟩
  | 46 => ⟨S4x8192x768, .f32⟩
  | 47 => ⟨S4x8192x768, .f32⟩
  | 48 => ⟨S4x8192x768, .f32⟩
  | 49 => ⟨S4x8192x512, .f32⟩
  | 50 => ⟨S4x8192x3072, .f32⟩
  | 51 => ⟨S4x8192x6x128, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S8192, .f32⟩
  | 61 => ⟨S8192x1, .f32⟩
  | 62 => ⟨S1x16, .f32⟩
  | 63 => ⟨S8192x16, .f32⟩
  | 64 => ⟨S8192x16, .f32⟩
  | 65 => ⟨S8192x16, .f32⟩
  | 66 => ⟨S8192x16, .f32⟩
  | 67 => ⟨S8192x1x16, .f32⟩
  | 68 => ⟨S8192x16, .f32⟩
  | 69 => ⟨S8192x1x16, .f32⟩
  | 70 => ⟨S4x8192x6x16, .f32⟩
  | 71 => ⟨S4x8192x6x16, .f32⟩
  | 72 => ⟨S1x8192x1x16, .f32⟩
  | 73 => ⟨S4x8192x6x16, .f32⟩
  | 74 => ⟨S4x8192x6x16, .f32⟩
  | 75 => ⟨S1x8192x1x16, .f32⟩
  | 76 => ⟨S4x8192x6x16, .f32⟩
  | 77 => ⟨S4x8192x6x16, .f32⟩
  | 78 => ⟨S4x8192x6x16, .f32⟩
  | 79 => ⟨S1x8192x1x16, .f32⟩
  | 80 => ⟨S4x8192x6x16, .f32⟩
  | 81 => ⟨S4x8192x6x16, .f32⟩
  | 82 => ⟨S1x8192x1x16, .f32⟩
  | 83 => ⟨S4x8192x6x16, .f32⟩
  | 84 => ⟨S4x8192x6x16, .f32⟩
  | 85 => ⟨S4x8192x6x16, .f32⟩
  | 86 => ⟨S4x8192x6x32, .f32⟩
  | 87 => ⟨S4x8192x6x96, .f32⟩
  | 88 => ⟨S4x8192x6x128, .f32⟩
  | 89 => ⟨S4x8192x768, .f32⟩
  | 90 => ⟨S4x8192x2x128, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8192, .f32⟩
  | 100 => ⟨S8192x1, .f32⟩
  | 101 => ⟨S1x16, .f32⟩
  | 102 => ⟨S8192x16, .f32⟩
  | 103 => ⟨S8192x16, .f32⟩
  | 104 => ⟨S8192x16, .f32⟩
  | 105 => ⟨S8192x16, .f32⟩
  | 106 => ⟨S8192x1x16, .f32⟩
  | 107 => ⟨S8192x16, .f32⟩
  | 108 => ⟨S8192x1x16, .f32⟩
  | 109 => ⟨S4x8192x2x16, .f32⟩
  | 110 => ⟨S4x8192x2x16, .f32⟩
  | 111 => ⟨S1x8192x1x16, .f32⟩
  | 112 => ⟨S4x8192x2x16, .f32⟩
  | 113 => ⟨S4x8192x2x16, .f32⟩
  | 114 => ⟨S1x8192x1x16, .f32⟩
  | 115 => ⟨S4x8192x2x16, .f32⟩
  | 116 => ⟨S4x8192x2x16, .f32⟩
  | 117 => ⟨S4x8192x2x16, .f32⟩
  | 118 => ⟨S1x8192x1x16, .f32⟩
  | 119 => ⟨S4x8192x2x16, .f32⟩
  | 120 => ⟨S4x8192x2x16, .f32⟩
  | 121 => ⟨S1x8192x1x16, .f32⟩
  | 122 => ⟨S4x8192x2x16, .f32⟩
  | 123 => ⟨S4x8192x2x16, .f32⟩
  | 124 => ⟨S4x8192x2x16, .f32⟩
  | 125 => ⟨S4x8192x2x32, .f32⟩
  | 126 => ⟨S4x8192x2x96, .f32⟩
  | 127 => ⟨S4x8192x2x128, .f32⟩
  | _ => ⟨S4x8192x1024, .f32⟩

abbrev hbmTy0_1 (i : Nat) : BufTy := match i % 128 with
  | 0 => ⟨S4x8192x8x64, .f32⟩
  | 1 => ⟨S8, .f32⟩
  | 2 => ⟨S8, .f32⟩
  | 3 => ⟨S_, .f32⟩
  | 4 => ⟨S8, .f32⟩
  | 5 => ⟨S8, .f32⟩
  | 6 => ⟨S_, .f32⟩
  | 7 => ⟨S8, .f32⟩
  | 8 => ⟨S8, .f32⟩
  | 9 => ⟨S8192, .f32⟩
  | 10 => ⟨S8192x1, .f32⟩
  | 11 => ⟨S1x8, .f32⟩
  | 12 => ⟨S8192x8, .f32⟩
  | 13 => ⟨S8192x8, .f32⟩
  | 14 => ⟨S8192x8, .f32⟩
  | 15 => ⟨S8192x8, .f32⟩
  | 16 => ⟨S8192x1x8, .f32⟩
  | 17 => ⟨S8192x8, .f32⟩
  | 18 => ⟨S8192x1x8, .f32⟩
  | 19 => ⟨S4x8192x8x8, .f32⟩
  | 20 => ⟨S4x8192x8x8, .f32⟩
  | 21 => ⟨S1x8192x1x8, .f32⟩
  | 22 => ⟨S4x8192x8x8, .f32⟩
  | 23 => ⟨S4x8192x8x8, .f32⟩
  | 24 => ⟨S1x8192x1x8, .f32⟩
  | 25 => ⟨S4x8192x8x8, .f32⟩
  | 26 => ⟨S4x8192x8x8, .f32⟩
  | 27 => ⟨S4x8192x8x8, .f32⟩
  | 28 => ⟨S1x8192x1x8, .f32⟩
  | 29 => ⟨S4x8192x8x8, .f32⟩
  | 30 => ⟨S4x8192x8x8, .f32⟩
  | 31 => ⟨S1x8192x1x8, .f32⟩
  | 32 => ⟨S4x8192x8x8, .f32⟩
  | 33 => ⟨S4x8192x8x8, .f32⟩
  | 34 => ⟨S4x8192x8x8, .f32⟩
  | 35 => ⟨S4x8192x8x16, .f32⟩
  | 36 => ⟨S4x8192x8x48, .f32⟩
  | 37 => ⟨S4x8192x8x64, .f32⟩
  | 38 => ⟨S4x8192x512, .f32⟩
  | 39 => ⟨S4x8192x1x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S8192, .f32⟩
  | 49 => ⟨S8192x1, .f32⟩
  | 50 => ⟨S1x8, .f32⟩
  | 51 => ⟨S8192x8, .f32⟩
  | 52 => ⟨S8192x8, .f32⟩
  | 53 => ⟨S8192x8, .f32⟩
  | 54 => ⟨S8192x8, .f32⟩
  | 55 => ⟨S8192x1x8, .f32⟩
  | 56 => ⟨S8192x8, .f32⟩
  | 57 => ⟨S8192x1x8, .f32⟩
  | 58 => ⟨S4x8192x1x8, .f32⟩
  | 59 => ⟨S4x8192x1x8, .f32⟩
  | 60 => ⟨S1x8192x1x8, .f32⟩
  | 61 => ⟨S4x8192x1x8, .f32⟩
  | 62 => ⟨S4x8192x1x8, .f32⟩
  | 63 => ⟨S1x8192x1x8, .f32⟩
  | 64 => ⟨S4x8192x1x8, .f32⟩
  | 65 => ⟨S4x8192x1x8, .f32⟩
  | 66 => ⟨S4x8192x1x8, .f32⟩
  | 67 => ⟨S1x8192x1x8, .f32⟩
  | 68 => ⟨S4x8192x1x8, .f32⟩
  | 69 => ⟨S4x8192x1x8, .f32⟩
  | 70 => ⟨S1x8192x1x8, .f32⟩
  | 71 => ⟨S4x8192x1x8, .f32⟩
  | 72 => ⟨S4x8192x1x8, .f32⟩
  | 73 => ⟨S4x8192x1x8, .f32⟩
  | 74 => ⟨S4x8192x1x16, .f32⟩
  | 75 => ⟨S4x8192x1x48, .f32⟩
  | 76 => ⟨S4x8192x1x64, .f32⟩
  | 77 => ⟨S4x8192x64, .f32⟩
  | 78 => ⟨S1x768, .f32⟩
  | 79 => ⟨S768, .f32⟩
  | 80 => ⟨S1x768, .f32⟩
  | 81 => ⟨S768, .f32⟩
  | 82 => ⟨S_, .f32⟩
  | 83 => ⟨S768, .f32⟩
  | 84 => ⟨S768, .f32⟩
  | 85 => ⟨S4x8192x768, .f32⟩
  | 86 => ⟨S4x8192x768, .f32⟩
  | 87 => ⟨S_, .f32⟩
  | 88 => ⟨S4x8192x768, .f32⟩
  | 89 => ⟨S4x8192x768, .f32⟩
  | 90 => ⟨S_, .f32⟩
  | 91 => ⟨S4x8192x768, .f32⟩
  | 92 => ⟨S4x8192x768, .f32⟩
  | 93 => ⟨S1x1x768, .f32⟩
  | 94 => ⟨S4x8192x768, .f32⟩
  | 95 => ⟨S4x8192x768, .f32⟩
  | 96 => ⟨S1x1x768, .f32⟩
  | 97 => ⟨S4x8192x768, .f32⟩
  | 98 => ⟨S4x8192x768, .f32⟩
  | 99 => ⟨S4x8192x768, .f32⟩
  | 100 => ⟨S4x128x64x768, .f32⟩
  | 101 => ⟨S_, .f32⟩
  | 102 => ⟨S_, .f32⟩
  | 103 => ⟨S4x128x64x768, .f32⟩
  | 104 => ⟨S4x8192x768, .f32⟩
  | 105 => ⟨S_, .f32⟩
  | 106 => ⟨S4x8192x8, .f32⟩
  | 107 => ⟨S4x8192x8, .f32⟩
  | 108 => ⟨S_, .f32⟩
  | 109 => ⟨S4x8192x64, .f32⟩
  | 110 => ⟨S4x8192x32, .f32⟩
  | 111 => ⟨S4x8192x24, .f32⟩
  | 112 => ⟨S4x8192x128, .f32⟩
  | 113 => ⟨S4x8192x256, .f32⟩
  | 114 => ⟨S_, .f32⟩
  | 115 => ⟨S4x8192x768, .f32⟩
  | 116 => ⟨S4x8192x768, .f32⟩
  | 117 => ⟨S4x8192x768, .bf16⟩
  | 118 => ⟨S4x8192x256, .bf16⟩
  | 119 => ⟨S4x8192x256, .bf16⟩
  | 120 => ⟨S4x8192x512, .bf16⟩
  | 121 => ⟨S4x8192x128, .f32⟩
  | 122 => ⟨S4x8192x128, .bf16⟩
  | 123 => ⟨S4x8192x128, .f32⟩
  | 124 => ⟨S4x8192x128, .bf16⟩
  | 125 => ⟨S4x8192x768, .f32⟩
  | 126 => ⟨S4x8192x768, .f32⟩
  | 127 => ⟨S_, .f32⟩
  | _ => ⟨S4x8192x1024, .f32⟩

abbrev hbmTy0_2 (i : Nat) : BufTy := match i % 128 with
  | 0 => ⟨S4x8192x768, .f32⟩
  | 1 => ⟨S4x8192x768, .f32⟩
  | 2 => ⟨S_, .f32⟩
  | 3 => ⟨S4x8192x768, .f32⟩
  | 4 => ⟨S4x8192x768, .f32⟩
  | 5 => ⟨S4x8192x768, .f32⟩
  | 6 => ⟨S4x8192x768, .bf16⟩
  | 7 => ⟨S_, .f32⟩
  | 8 => ⟨S4x8192x768, .f32⟩
  | 9 => ⟨S4x8192x768, .f32⟩
  | 10 => ⟨S4x8192x768, .bf16⟩
  | 11 => ⟨S4x8192x768, .bf16⟩
  | 12 => ⟨S4x8192x768, .f32⟩
  | 13 => ⟨S4x8192x768, .f32⟩
  | 14 => ⟨S_, .f32⟩
  | 15 => ⟨S4x8192x768, .f32⟩
  | 16 => ⟨S4x8192x768, .f32⟩
  | 17 => ⟨S_, .f32⟩
  | 18 => ⟨S4x8192x768, .f32⟩
  | 19 => ⟨S4x8192x768, .f32⟩
  | 20 => ⟨S4x8192x768, .f32⟩
  | 21 => ⟨S4x8192x768, .bf16⟩
  | 22 => ⟨S_, .f32⟩
  | 23 => ⟨S4x8192x512, .f32⟩
  | 24 => ⟨S4x8192x512, .f32⟩
  | 25 => ⟨S4x8192x512, .bf16⟩
  | 26 => ⟨S4x8192x3072, .f32⟩
  | 27 => ⟨S4x8192x3072, .f32⟩
  | 28 => ⟨S_, .f32⟩
  | 29 => ⟨S4x8192x3072, .f32⟩
  | 30 => ⟨S4x8192x3072, .f32⟩
  | 31 => ⟨S_, .f32⟩
  | 32 => ⟨S4x8192x3072, .f32⟩
  | 33 => ⟨S4x8192x3072, .f32⟩
  | 34 => ⟨S4x8192x3072, .bf16⟩
  | 35 => ⟨S32768x768, .bf16⟩
  | 36 => ⟨S32768x256, .f32⟩
  | 37 => ⟨S32768x256, .f32⟩
  | 38 => ⟨S32768x256, .bf16⟩
  | 39 => ⟨S32768x256, .bf16⟩
  | 40 => ⟨S32768x512, .bf16⟩
  | 41 => ⟨S32768x128, .f32⟩
  | 42 => ⟨S32768x128, .bf16⟩
  | 43 => ⟨S32768x128, .bf16⟩
  | 44 => ⟨S32768x768, .bf16⟩
  | 45 => ⟨S32768x768, .bf16⟩
  | 46 => ⟨S32768x768, .f32⟩
  | 47 => ⟨S32768x768, .bf16⟩
  | 48 => ⟨S32768x768, .bf16⟩
  | 49 => ⟨S32768x512, .bf16⟩
  | 50 => ⟨S32768x3072, .bf16⟩
  | 51 => ⟨S32768x64, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_7 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_cst_9 : Ref sig .tc := ⟨.hbm, 131, rfl⟩
abbrev main_v115 : Ref sig .tc := ⟨.hbm, 132, rfl⟩
abbrev main_v116 : Ref sig .tc := ⟨.hbm, 133, rfl⟩
abbrev main_cst_10 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_cst_11 : Ref sig .tc := ⟨.hbm, 170, rfl⟩
abbrev main_v152 : Ref sig .tc := ⟨.hbm, 171, rfl⟩
abbrev main_v153 : Ref sig .tc := ⟨.hbm, 172, rfl⟩
abbrev main_cst_12 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_cst_13 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_cst_14 : Ref sig .tc := ⟨.hbm, 215, rfl⟩
abbrev main_v194 : Ref sig .tc := ⟨.hbm, 216, rfl⟩
abbrev main_v195 : Ref sig .tc := ⟨.hbm, 217, rfl⟩
abbrev main_cst_15 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_call1_call0_cst : Ref sig .tc := ⟨.hbm, 229, rfl⟩
abbrev main_call1_call0_v0 : Ref sig .tc := ⟨.hbm, 230, rfl⟩
abbrev main_v206 : Ref sig .tc := ⟨.hbm, 231, rfl⟩
abbrev main_v207 : Ref sig .tc := ⟨.hbm, 232, rfl⟩
abbrev main_cst_16 : Ref sig .tc := ⟨.hbm, 233, rfl⟩
abbrev main_v208 : Ref sig .tc := ⟨.hbm, 234, rfl⟩
abbrev main_v209 : Ref sig .tc := ⟨.hbm, 235, rfl⟩
abbrev main_cst_17 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_cst_18 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_call2_v0 : Ref sig .tc := ⟨.hbm, 253, rfl⟩
abbrev main_call2_v1 : Ref sig .tc := ⟨.hbm, 254, rfl⟩
abbrev main_call2_cst : Ref sig .tc := ⟨.hbm, 255, rfl⟩
abbrev main_call2_v2 : Ref sig .tc := ⟨.hbm, 256, rfl⟩
abbrev main_call2_v3 : Ref sig .tc := ⟨.hbm, 257, rfl⟩
abbrev main_call2_cst_0 : Ref sig .tc := ⟨.hbm, 258, rfl⟩
abbrev main_call2_v4 : Ref sig .tc := ⟨.hbm, 259, rfl⟩
abbrev main_call2_v5 : Ref sig .tc := ⟨.hbm, 260, rfl⟩
abbrev main_v225 : Ref sig .tc := ⟨.hbm, 261, rfl⟩
abbrev main_v226 : Ref sig .tc := ⟨.hbm, 262, rfl⟩
abbrev main_cst_19 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_call3_v0 : Ref sig .tc := ⟨.hbm, 268, rfl⟩
abbrev main_call3_v1 : Ref sig .tc := ⟨.hbm, 269, rfl⟩
abbrev main_call3_cst : Ref sig .tc := ⟨.hbm, 270, rfl⟩
abbrev main_call3_v2 : Ref sig .tc := ⟨.hbm, 271, rfl⟩
abbrev main_call3_v3 : Ref sig .tc := ⟨.hbm, 272, rfl⟩
abbrev main_call3_cst_0 : Ref sig .tc := ⟨.hbm, 273, rfl⟩
abbrev main_call3_v4 : Ref sig .tc := ⟨.hbm, 274, rfl⟩
abbrev main_call3_v5 : Ref sig .tc := ⟨.hbm, 275, rfl⟩
abbrev main_v231 : Ref sig .tc := ⟨.hbm, 276, rfl⟩
abbrev main_v232 : Ref sig .tc := ⟨.hbm, 277, rfl⟩
abbrev main_cst_20 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_cst_21 : Ref sig .tc := ⟨.hbm, 284, rfl⟩
abbrev main_v238 : Ref sig .tc := ⟨.hbm, 285, rfl⟩
abbrev main_v239 : Ref sig .tc := ⟨.hbm, 286, rfl⟩
abbrev main_cst_22 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_v259 : Ref sig .tc := ⟨.hbm, 307, rfl⟩

abbrev nD : Nat := 1
abbrev τ : Topo := Topo.v7x

variable {F : FTy → Type} [FloatOps F]
-- ==== Proof.MemoryKvValue.lean ====
/-
  The memory's keys and values. At every grid point the body normalises one stream's 256 memory rows and multiplies them by
  the two halves of the projection; the reference normalises all streams' rows, multiplies by the whole projection and splits
  the product. Over the extended reals an element of either is the same sum of products.
-/
module

public import proofs.«01_k».proof.Proof.Gen.MemoryKvIdeal.Value
public import proofs.«01_k».proof.Proof.Gen.MemoryKvRefIdeal.Read
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Cert.MemoryKvIdeal Cert.MemoryKvIdeal.Gen Cert.MemoryKvIdeal.Value

namespace Cert.Proof.MemoryKv

/-- The block indices of the windows: the stream's own rows, the whole of the gain and of the projection. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

variable (m : (ℓ : Loc nD τ sig) → Buf (Elt Ideal) ℓ) (c : Dev nD)

/-- The arguments. -/
abbrev mem : FVec Ideal S4x256x1024 .f32 := m ((c : Thread nD τ).loc main_arg0)
abbrev gain : FVec Ideal S1024 .f32 := m ((c : Thread nD τ).loc main_arg1)
abbrev proj : FVec Ideal S1024x1024 .f32 := m ((c : Thread nD τ).loc main_arg2)

def pt (t : Fin cfg0.N) : Fin 4 := ⟨t.val, t.isLt.trans_eq N_0⟩

theorem iblk0_apply (t : Fin cfg0.N) (a : Fin 1) (r : Fin 256) (l : Fin 1024) :
    iblk m c 0 t (ix3 a r l) = mem m c (ix3 (pt t) r l) := by
  obtain ⟨e0, e1, e2⟩ := index0 t
  show V m c main_arg0 (((cfg0.win 0).blk t).view.emb (ix3 a r l)) = _
  rw [V_main_arg0]
  refine congrArg _ (funext fun x => Fin.ext ?_)
  match x with
  | ⟨0, _⟩ => show win0_0.index t (0 : Fin 3) * 1 + 1 * a.val = t.val; omega
  | ⟨1, _⟩ => show win0_0.index t (1 : Fin 3) * 256 + 1 * r.val = r.val; omega
  | ⟨2, _⟩ => show win0_0.index t (2 : Fin 3) * 1024 + 1 * l.val = l.val; omega

theorem iblk1_apply (t : Fin cfg0.N) (a : Fin 1) (l : Fin 1024) :
    iblk m c 1 t (ix2 a l) = gain m c (ix1 l) := by
  obtain ⟨e0, e1⟩ := index1 t
  show V m c main_v1 (((cfg0.win 1).blk t).view.emb (ix2 a l)) = _
  have e : ((cfg0.win 1).blk t).view.emb (ix2 a l) = (ix2 a l : S1x1024.Idx) := funext fun x => Fin.ext (by
    match x with
    | ⟨0, _⟩ => show win0_1.index t (0 : Fin 2) * 1 + 1 * a.val = a.val; omega
    | ⟨1, _⟩ => show win0_1.index t (1 : Fin 2) * 1024 + 1 * l.val = l.val; omega)
  rw [e]
  entry_read
  pointwise

theorem iblk2_apply (t : Fin cfg0.N) (k : Fin 1024) (l : Fin 1024) :
    iblk m c 2 t (ix2 k l) = proj m c (ix2 k l) := by
  obtain ⟨e0, e1⟩ := index2 t
  show V m c main_v0 (((cfg0.win 2).blk t).view.emb (ix2 k l)) = _
  have e : ((cfg0.win 2).blk t).view.emb (ix2 k l) = (ix2 k l : S1024x1024.Idx) := funext fun x => Fin.ext (by
    match x with
    | ⟨0, _⟩ => show win0_2.index t (0 : Fin 2) * 1024 + 1 * k.val = k.val; omega
    | ⟨1, _⟩ => show win0_2.index t (1 : Fin 2) * 1024 + 1 * l.val = l.val; omega)
  rw [e]
  entry_read
  pointwise

open MemoryKvRefIdeal.Read

/-- The keys' half of the product, element by element. -/
theorem keys (t : Fin cfg0.N) (r : Fin 256) (l : Fin 512) :
    k0_pay3 (View.ld (iblk m c 0 t) r0_0) (View.ld (iblk m c 1 t) r0_1) (View.ld (iblk m c 2 t) r0_2) (ix2 r l)
      = val_main_v14 (F := Ideal) (mem m c) (gain m c) (proj m c) (ix3 (pt t) r l) := by
  pointwise [k0_pay3, k0_pay2, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, iblk0_apply, iblk1_apply, iblk2_apply]

/-- The values' half. -/
theorem values (t : Fin cfg0.N) (r : Fin 256) (l : Fin 512) :
    k0_pay4 (View.ld (iblk m c 0 t) r0_0) (View.ld (iblk m c 1 t) r0_1) (View.ld (iblk m c 2 t) r0_3) (ix2 r l)
      = val_main_v15 (F := Ideal) (mem m c) (gain m c) (proj m c) (ix3 (pt t) r l) := by
  pointwise [k0_pay4, k0_pay2, val_main_v15, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, iblk0_apply, iblk1_apply, iblk2_apply]

/-- The four results' windows are indexed alike, and each covers one stream's rows: an index of the array is its block's. -/
theorem emb3 (t : Fin cfg0.N) (a : Fin 1) (r : Fin 256) (l : Fin 512) :
    ((cfg0.win 3).blk t).view.emb (ix3 a r l) = (ix3 (pt t) r l : S4x256x512.Idx) := by
  obtain ⟨e0, e1, e2⟩ := index3 t
  refine funext fun x => Fin.ext ?_
  match x with
  | ⟨0, _⟩ => show win0_3.index t (0 : Fin 3) * 1 + 1 * a.val = t.val; omega
  | ⟨1, _⟩ => show win0_3.index t (1 : Fin 3) * 256 + 1 * r.val = r.val; omega
  | ⟨2, _⟩ => show win0_3.index t (2 : Fin 3) * 512 + 1 * l.val = l.val; omega

theorem emb4 (t : Fin cfg0.N) (j : S1x256x512.Idx) : ((cfg0.win 4).blk t).view.emb j = (((cfg0.win 3).blk t).view.emb j : S4x256x512.Idx) := rfl
theorem emb5 (t : Fin cfg0.N) (j : S1x256x512.Idx) : ((cfg0.win 5).blk t).view.emb j = (((cfg0.win 3).blk t).view.emb j : S4x256x512.Idx) := rfl
theorem emb6 (t : Fin cfg0.N) (j : S1x256x512.Idx) : ((cfg0.win 6).blk t).view.emb j = (((cfg0.win 3).blk t).view.emb j : S4x256x512.Idx) := rfl

/-- The grid point of a stream. -/
def at_ (a : Fin 4) : Fin cfg0.N := ⟨a.val, a.isLt.trans_eq N_0.symm⟩

theorem covered3 (i : S4x256x512.Idx) : i ∈ ((cfg0.win 3).blk (at_ (i 0))).view.set := by
  have h := ((cfg0.win 3).blk (at_ (i 0))).view.emb_mem_set (ix3 (0 : Fin 1) (i 1) (i 2))
  exact Eq.mp (congrArg (· ∈ ((cfg0.win 3).blk (at_ (i 0))).view.set) ((emb3 (at_ (i 0)) 0 (i 1) (i 2)).trans (eq_ix3 i).symm)) h

theorem final3 : (dats m 0 c).arrAt 3 cfg0.N = val_main_v14 (F := Ideal) (mem m c) (gain m c) (proj m c) := by
  refine (dats m 0 c).arrAt_eq_of_cover 3 (val_main_v14 (F := Ideal) (mem m c) (gain m c) (proj m c)) (fun t _ => ?_)
    fun i => ⟨at_ (i 0), flush0_3 _, covered3 i⟩
  rw [flushed3]
  funext j
  idx_vars j
  show out0_3 (iblk m c 0 t) (iblk m c 1 t) (iblk m c 2 t) (ix3 j0 j1 j2) = val_main_v14 _ _ _ (((cfg0.win 3).blk t).view.emb (ix3 j0 j1 j2))
  rw [emb3]
  unfold out0_3
  rw [canon3_eq]
  exact keys m c t j1 j2

theorem final4 : (dats m 0 c).arrAt 4 cfg0.N = val_main_v15 (F := Ideal) (mem m c) (gain m c) (proj m c) := by
  refine (dats m 0 c).arrAt_eq_of_cover 4 (val_main_v15 (F := Ideal) (mem m c) (gain m c) (proj m c)) (fun t _ => ?_)
    fun i => ⟨at_ (i 0), flush0_4 _, covered3 i⟩
  rw [flushed4]
  funext j
  idx_vars j
  show out0_4 (iblk m c 0 t) (iblk m c 1 t) (iblk m c 2 t) (ix3 j0 j1 j2) = val_main_v15 _ _ _ (((cfg0.win 4).blk t).view.emb (ix3 j0 j1 j2))
  rw [emb4, emb3]
  unfold out0_4
  rw [canon4_eq]
  exact values m c t j1 j2

theorem final5 : (dats m 0 c).arrAt 5 cfg0.N = val_main_v16 (F := Ideal) (mem m c) (gain m c) (proj m c) := by
  refine (dats m 0 c).arrAt_eq_of_cover 5 (val_main_v16 (F := Ideal) (mem m c) (gain m c) (proj m c)) (fun t _ => ?_)
    fun i => ⟨at_ (i 0), flush0_5 _, covered3 i⟩
  rw [flushed5]
  funext j
  idx_vars j
  show out0_5 (iblk m c 0 t) (iblk m c 1 t) (iblk m c 2 t) (ix3 j0 j1 j2) = val_main_v16 _ _ _ (((cfg0.win 5).blk t).view.emb (ix3 j0 j1 j2))
  rw [emb5, emb3]
  unfold out0_5
  rw [canon5_eq]
  exact keys m c t j1 j2

theorem final6 : (dats m 0 c).arrAt 6 cfg0.N = val_main_v17 (F := Ideal) (mem m c) (gain m c) (proj m c) := by
  refine (dats m 0 c).arrAt_eq_of_cover 6 (val_main_v17 (F := Ideal) (mem m c) (gain m c) (proj m c)) (fun t _ => ?_)
    fun i => ⟨at_ (i 0), flush0_6 _, covered3 i⟩
  rw [flushed6]
  funext j
  idx_vars j
  show out0_6 (iblk m c 0 t) (iblk m c 1 t) (iblk m c 2 t) (ix3 j0 j1 j2) = val_main_v17 _ _ _ (((cfg0.win 6).blk t).view.emb (ix3 j0 j1 j2))
  rw [emb6, emb3]
  unfold out0_6
  rw [canon6_eq]
  exact values m c t j1 j2

/-- The claim: the kernel's four results and the reference's are the same functions of the arguments. -/
theorem algebraic : Cert.algebraic_MemoryKvIdeal_MemoryKvRefIdeal := by
  intro m ρ m' ρ' _ hagree
  refine ⟨fun c => val_main_v14 (mem m c) (gain m c) (proj m c), fun c => val_main_v15 (mem m c) (gain m c) (proj m c),
    fun c => val_main_v16 (mem m c) (gain m c) (proj m c), fun c => val_main_v17 (mem m c) (gain m c) (proj m c),
    (θ_run defs _ _).mono (fun r h c => ?_) (run_blocks m ρ), (θ_run Cert.MemoryKvRefIdeal.defs _ _).mono (fun _ h c => ?_)
      (Cert.MemoryKvRefIdeal.Value.run (F := Ideal) m' ρ')⟩
  · obtain ⟨h3, h4, h5, h6, h⟩ := h c
    exact ⟨h3.trans (final3 m c), h4.trans (final4 m c), h5.trans (final5 m c), h6.trans (final6 m c), h⟩
  · obtain ⟨h3, h4, h5, h6, h⟩ := h c
    obtain ⟨a0, a1, a2⟩ := hagree c
    refine ⟨h3.trans ?_, h4.trans ?_, h5.trans ?_, h6.trans ?_, h⟩
    · rw [val_main_v14_eq, a0, a1, a2]
    · rw [val_main_v15_eq, a0, a1, a2]
    · rw [val_main_v16_eq, a0, a1, a2]
    · rw [val_main_v17_eq, a0, a1, a2]

end Cert.Proof.MemoryKv

end
-- ==== Proof.MergeBlocks.lean ====
/-
  The branches' merge and the feed-forward layer. A grid point takes 512 rows of one stream; the reference takes all rows at
  once. Row by row both compute the same sums, so each stage of the body, read at an element, is the reference's stage at
  that row.
-/
module

public import proofs.«01_k».proof.Proof.Gen.MergeIdeal.Value
public import proofs.«01_k».proof.Proof.Gen.MergeRefIdeal.Read
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Cert.MergeIdeal Cert.MergeIdeal.Gen Cert.MergeIdeal.Value

namespace Cert.Proof.Merge

/-- The windows' block indices at a grid point: the stream's tile of rows, the stream's memory, the whole of a weight. -/
theorem index0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem index1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem index2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, _)
theorem index3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, _)
theorem index4 : ∀ t : Fin cfg0.N, win0_4.index t (0 : Fin 3) = t.val / 16 ∧ win0_4.index t (1 : Fin 3) = 0 ∧ win0_4.index t (2 : Fin 3) = 0 :=
  (by decide +kernel : ∀ t : Fin grid0.N, _)
theorem index5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem index6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 2) = 0 ∧ win0_12.index t (1 : Fin 2) = 0 :=
  (by decide +kernel : ∀ t : Fin grid0.N, _)
theorem index13 : ∀ t : Fin cfg0.N, win0_13.index t (0 : Fin 2) = 0 ∧ win0_13.index t (1 : Fin 2) = 0 :=
  (by decide +kernel : ∀ t : Fin grid0.N, _)
theorem index14 : ∀ t : Fin cfg0.N, win0_14.index t (0 : Fin 2) = 0 ∧ win0_14.index t (1 : Fin 2) = 0 :=
  (by decide +kernel : ∀ t : Fin grid0.N, _)
theorem index15 : ∀ t : Fin cfg0.N, win0_15.index t (0 : Fin 2) = 0 ∧ win0_15.index t (1 : Fin 2) = 0 :=
  (by decide +kernel : ∀ t : Fin grid0.N, _)
theorem index16 : ∀ t : Fin cfg0.N, win0_16.index t (0 : Fin 3) = t.val / 16 ∧ win0_16.index t (1 : Fin 3) = t.val % 16 ∧ win0_16.index t (2 : Fin 3) = 0 :=
  (by decide +kernel : ∀ t : Fin grid0.N, _)

/-- A grid point's stream, and the row of the stream that row `r` of its tile is. -/
def stream (t : Fin cfg0.N) : Fin 4 := ⟨t.val / 16, by have := t.isLt.trans_eq N_0; omega⟩
def row (t : Fin cfg0.N) (r : Fin 512) : Fin 8192 := ⟨t.val % 16 * 512 + r.val, by omega⟩

variable (m : (ℓ : Loc nD τ sig) → Buf (Elt Ideal) ℓ) (c : Dev nD)

/-- The arguments. -/
abbrev x : FVec Ideal S4x8192x1024 .f32 := m ((c : Thread nD τ).loc main_arg0)
abbrev ya : FVec Ideal S4x8192x768 .bf16 := m ((c : Thread nD τ).loc main_arg1)
abbrev yb : FVec Ideal S4x8192x768 .bf16 := m ((c : Thread nD τ).loc main_arg2)
abbrev cq : FVec Ideal S4x8192x512 .bf16 := m ((c : Thread nD τ).loc main_arg3)
abbrev memK : FVec Ideal S4x256x4x128 .f32 := m ((c : Thread nD τ).loc main_arg4)
abbrev memV : FVec Ideal S4x256x4x128 .f32 := m ((c : Thread nD τ).loc main_arg5)
abbrev gates : FVec Ideal S4x8192x3072 .bf16 := m ((c : Thread nD τ).loc main_arg6)
abbrev wA : FVec Ideal S768x1024 .f32 := m ((c : Thread nD τ).loc main_arg7)
abbrev wB : FVec Ideal S768x1024 .f32 := m ((c : Thread nD τ).loc main_arg8)
abbrev wC : FVec Ideal S512x1024 .f32 := m ((c : Thread nD τ).loc main_arg9)
abbrev wO : FVec Ideal S1024x1024 .f32 := m ((c : Thread nD τ).loc main_arg10)
abbrev gMix : FVec Ideal S1024 .f32 := m ((c : Thread nD τ).loc main_arg11)
abbrev gPre : FVec Ideal S1024 .f32 := m ((c : Thread nD τ).loc main_arg12)
abbrev gPost : FVec Ideal S1024 .f32 := m ((c : Thread nD τ).loc main_arg13)
abbrev wUp : FVec Ideal S1024x4096 .f32 := m ((c : Thread nD τ).loc main_arg14)
abbrev wDown : FVec Ideal S4096x1024 .f32 := m ((c : Thread nD τ).loc main_arg15)

/-! ## The blocks -/

theorem iblk0_apply (t : Fin cfg0.N) (a : Fin 1) (r : Fin 512) (l : Fin 1024) :
    iblk m c 0 t (ix3 a r l) = x m c (ix3 (stream t) (row t r) l) := by
  obtain ⟨e0, e1, e2⟩ := index0 t
  show V m c main_arg0 (((cfg0.win 0).blk t).view.emb (ix3 a r l)) = _
  rw [V_main_arg0]
  refine congrArg _ (funext fun x => Fin.ext ?_)
  match x with
  | ⟨0, _⟩ => show win0_0.index t (0 : Fin 3) * 1 + 1 * a.val = t.val / 16; omega
  | ⟨1, _⟩ => show win0_0.index t (1 : Fin 3) * 512 + 1 * r.val = t.val % 16 * 512 + r.val; omega
  | ⟨2, _⟩ => show win0_0.index t (2 : Fin 3) * 1024 + 1 * l.val = l.val; omega

theorem iblk1_apply (t : Fin cfg0.N) (a : Fin 1) (r : Fin 512) (l : Fin 768) :
    iblk m c 1 t (ix3 a r l) = ya m c (ix3 (stream t) (row t r) l) := by
  obtain ⟨e0, e1, e2⟩ := index1 t
  show V m c main_arg1 (((cfg0.win 1).blk t).view.emb (ix3 a r l)) = _
  rw [V_main_arg1]
  refine congrArg _ (funext fun x => Fin.ext ?_)
  match x with
  | ⟨0, _⟩ => show win0_1.index t (0 : Fin 3) * 1 + 1 * a.val = t.val / 16; omega
  | ⟨1, _⟩ => show win0_1.index t (1 : Fin 3) * 512 + 1 * r.val = t.val % 16 * 512 + r.val; omega
  | ⟨2, _⟩ => show win0_1.index t (2 : Fin 3) * 768 + 1 * l.val = l.val; omega

theorem iblk2_apply (t : Fin cfg0.N) (a : Fin 1) (r : Fin 512) (l : Fin 768) :
    iblk m c 2 t (ix3 a r l) = yb m c (ix3 (stream t) (row t r) l) := by
  obtain ⟨e0, e1, e2⟩ := index2 t
  show V m c main_arg2 (((cfg0.win 2).blk t).view.emb (ix3 a r l)) = _
  rw [V_main_arg2]
  refine congrArg _ (funext fun x => Fin.ext ?_)
  match x with
  | ⟨0, _⟩ => show win0_2.index t (0 : Fin 3) * 1 + 1 * a.val = t.val / 16; omega
  | ⟨1, _⟩ => show win0_2.index t (1 : Fin 3) * 512 + 1 * r.val = t.val % 16 * 512 + r.val; omega
  | ⟨2, _⟩ => show win0_2.index t (2 : Fin 3) * 768 + 1 * l.val = l.val; omega

theorem iblk3_apply (t : Fin cfg0.N) (a : Fin 1) (r : Fin 512) (l : Fin 512) :
    iblk m c 3 t (ix3 a r l) = cq m c (ix3 (stream t) (row t r) l) := by
  obtain ⟨e0, e1, e2⟩ := index3 t
  show V m c main_arg3 (((cfg0.win 3).blk t).view.emb (ix3 a r l)) = _
  rw [V_main_arg3]
  refine congrArg _ (funext fun x => Fin.ext ?_)
  match x with
  | ⟨0, _⟩ => show win0_3.index t (0 : Fin 3) * 1 + 1 * a.val = t.val / 16; omega
  | ⟨1, _⟩ => show win0_3.index t (1 : Fin 3) * 512 + 1 * r.val = t.val % 16 * 512 + r.val; omega
  | ⟨2, _⟩ => show win0_3.index t (2 : Fin 3) * 512 + 1 * l.val = l.val; omega

theorem iblk6_apply (t : Fin cfg0.N) (a : Fin 1) (r : Fin 512) (l : Fin 3072) :
    iblk m c 6 t (ix3 a r l) = gates m c (ix3 (stream t) (row t r) l) := by
  obtain ⟨e0, e1, e2⟩ := index6 t
  show V m c main_arg6 (((cfg0.win 6).blk t).view.emb (ix3 a r l)) = _
  rw [V_main_arg6]
  refine congrArg _ (funext fun x => Fin.ext ?_)
  match x with
  | ⟨0, _⟩ => show win0_6.index t (0 : Fin 3) * 1 + 1 * a.val = t.val / 16; omega
  | ⟨1, _⟩ => show win0_6.index t (1 : Fin 3) * 512 + 1 * r.val = t.val % 16 * 512 + r.val; omega
  | ⟨2, _⟩ => show win0_6.index t (2 : Fin 3) * 3072 + 1 * l.val = l.val; omega

theorem iblk4_apply (t : Fin cfg0.N) (a : Fin 1) (n : Fin 256) (l : Fin 512) :
    iblk m c 4 t (ix3 a n l) = memK m c (ix4 (stream t) n ⟨l.val / 128, by omega⟩ ⟨l.val % 128, by omega⟩) := by
  obtain ⟨e0, e1, e2⟩ := index4 t
  show V m c main_v1 (((cfg0.win 4).blk t).view.emb (ix3 a n l)) = _
  have e : ((cfg0.win 4).blk t).view.emb (ix3 a n l) = (ix3 (stream t) n l : S4x256x512.Idx) := funext fun x => Fin.ext (by
    match x with
    | ⟨0, _⟩ => show win0_4.index t (0 : Fin 3) * 1 + 1 * a.val = t.val / 16; omega
    | ⟨1, _⟩ => show win0_4.index t (1 : Fin 3) * 256 + 1 * n.val = n.val; omega
    | ⟨2, _⟩ => show win0_4.index t (2 : Fin 3) * 512 + 1 * l.val = l.val; omega)
  rw [e]
  entry_read
  pointwise

theorem iblk5_apply (t : Fin cfg0.N) (a : Fin 1) (n : Fin 256) (l : Fin 512) :
    iblk m c 5 t (ix3 a n l) = memV m c (ix4 (stream t) n ⟨l.val / 128, by omega⟩ ⟨l.val % 128, by omega⟩) := by
  obtain ⟨e0, e1, e2⟩ := index5 t
  show V m c main_v3 (((cfg0.win 5).blk t).view.emb (ix3 a n l)) = _
  have e : ((cfg0.win 5).blk t).view.emb (ix3 a n l) = (ix3 (stream t) n l : S4x256x512.Idx) := funext fun x => Fin.ext (by
    match x with
    | ⟨0, _⟩ => show win0_5.index t (0 : Fin 3) * 1 + 1 * a.val = t.val / 16; omega
    | ⟨1, _⟩ => show win0_5.index t (1 : Fin 3) * 256 + 1 * n.val = n.val; omega
    | ⟨2, _⟩ => show win0_5.index t (2 : Fin 3) * 512 + 1 * l.val = l.val; omega)
  rw [e]
  entry_read
  pointwise

theorem iblk7_apply (t : Fin cfg0.N) (k : Fin 768) (l : Fin 1024) :
    iblk m c 7 t (ix2 k l) = wA m c (ix2 k l) := by
  obtain ⟨e0, e1⟩ := index7 t
  show V m c main_v4 (((cfg0.win 7).blk t).view.emb (ix2 k l)) = _
  have e : ((cfg0.win 7).blk t).view.emb (ix2 k l) = (ix2 k l : S768x1024.Idx) := funext fun x => Fin.ext (by
    match x with
    | ⟨0, _⟩ => show win0_7.index t (0 : Fin 2) * 768 + 1 * k.val = k.val; omega
    | ⟨1, _⟩ => show win0_7.index t (1 : Fin 2) * 1024 + 1 * l.val = l.val; omega)
  rw [e]
  entry_read
  pointwise

theorem iblk8_apply (t : Fin cfg0.N) (k : Fin 768) (l : Fin 1024) :
    iblk m c 8 t (ix2 k l) = wB m c (ix2 k l) := by
  obtain ⟨e0, e1⟩ := index8 t
  show V m c main_v5 (((cfg0.win 8).blk t).view.emb (ix2 k l)) = _
  have e : ((cfg0.win 8).blk t).view.emb (ix2 k l) = (ix2 k l : S768x1024.Idx) := funext fun x => Fin.ext (by
    match x with
    | ⟨0, _⟩ => show win0_8.index t (0 : Fin 2) * 768 + 1 * k.val = k.val; omega
    | ⟨1, _⟩ => show win0_8.index t (1 : Fin 2) * 1024 + 1 * l.val = l.val; omega)
  rw [e]
  entry_read
  pointwise

theorem iblk9_apply (t : Fin cfg0.N) (k : Fin 512) (l : Fin 1024) :
    iblk m c 9 t (ix2 k l) = wC m c (ix2 k l) := by
  obtain ⟨e0, e1⟩ := index9 t
  show V m c main_v6 (((cfg0.win 9).blk t).view.emb (ix2 k l)) = _
  have e : ((cfg0.win 9).blk t).view.emb (ix2 k l) = (ix2 k l : S512x1024.Idx) := funext fun x => Fin.ext (by
    match x with
    | ⟨0, _⟩ => show win0_9.index t (0 : Fin 2) * 512 + 1 * k.val = k.val; omega
    | ⟨1, _⟩ => show win0_9.index t (1 : Fin 2) * 1024 + 1 * l.val = l.val; omega)
  rw [e]
  entry_read
  pointwise

theorem iblk10_apply (t : Fin cfg0.N) (k : Fin 1024) (l : Fin 1024) :
    iblk m c 10 t (ix2 k l) = wO m c (ix2 k l) := by
  obtain ⟨e0, e1⟩ := index10 t
  show V m c main_v7 (((cfg0.win 10).blk t).view.emb (ix2 k l)) = _
  have e : ((cfg0.win 10).blk t).view.emb (ix2 k l) = (ix2 k l : S1024x1024.Idx) := funext fun x => Fin.ext (by
    match x with
    | ⟨0, _⟩ => show win0_10.index t (0 : Fin 2) * 1024 + 1 * k.val = k.val; omega
    | ⟨1, _⟩ => show win0_10.index t (1 : Fin 2) * 1024 + 1 * l.val = l.val; omega)
  rw [e]
  entry_read
  pointwise

theorem iblk14_apply (t : Fin cfg0.N) (k : Fin 1024) (l : Fin 4096) :
    iblk m c 14 t (ix2 k l) = wUp m c (ix2 k l) := by
  obtain ⟨e0, e1⟩ := index14 t
  show V m c main_v8 (((cfg0.win 14).blk t).view.emb (ix2 k l)) = _
  have e : ((cfg0.win 14).blk t).view.emb (ix2 k l) = (ix2 k l : S1024x4096.Idx) := funext fun x => Fin.ext (by
    match x with
    | ⟨0, _⟩ => show win0_14.index t (0 : Fin 2) * 1024 + 1 * k.val = k.val; omega
    | ⟨1, _⟩ => show win0_14.index t (1 : Fin 2) * 4096 + 1 * l.val = l.val; omega)
  rw [e]
  entry_read
  pointwise

theorem iblk15_apply (t : Fin cfg0.N) (k : Fin 4096) (l : Fin 1024) :
    iblk m c 15 t (ix2 k l) = wDown m c (ix2 k l) := by
  obtain ⟨e0, e1⟩ := index15 t
  show V m c main_v9 (((cfg0.win 15).blk t).view.emb (ix2 k l)) = _
  have e : ((cfg0.win 15).blk t).view.emb (ix2 k l) = (ix2 k l : S4096x1024.Idx) := funext fun x => Fin.ext (by
    match x with
    | ⟨0, _⟩ => show win0_15.index t (0 : Fin 2) * 4096 + 1 * k.val = k.val; omega
    | ⟨1, _⟩ => show win0_15.index t (1 : Fin 2) * 1024 + 1 * l.val = l.val; omega)
  rw [e]
  entry_read
  pointwise

theorem iblk11_apply (t : Fin cfg0.N) (k : Fin 1) (l : Fin 1024) :
    iblk m c 11 t (ix2 k l) = gMix m c (ix1 l) := by
  obtain ⟨e0, e1⟩ := index11 t
  show V m c main_v10 (((cfg0.win 11).blk t).view.emb (ix2 k l)) = _
  have e : ((cfg0.win 11).blk t).view.emb (ix2 k l) = (ix2 k l : S1x1024.Idx) := funext fun x => Fin.ext (by
    match x with
    | ⟨0, _⟩ => show win0_11.index t (0 : Fin 2) * 1 + 1 * k.val = k.val; omega
    | ⟨1, _⟩ => show win0_11.index t (1 : Fin 2) * 1024 + 1 * l.val = l.val; omega)
  rw [e]
  entry_read
  pointwise

theorem iblk12_apply (t : Fin cfg0.N) (k : Fin 1) (l : Fin 1024) :
    iblk m c 12 t (ix2 k l) = gPre m c (ix1 l) := by
  obtain ⟨e0, e1⟩ := index12 t
  show V m c main_v11 (((cfg0.win 12).blk t).view.emb (ix2 k l)) = _
  have e : ((cfg0.win 12).blk t).view.emb (ix2 k l) = (ix2 k l : S1x1024.Idx) := funext fun x => Fin.ext (by
    match x with
    | ⟨0, _⟩ => show win0_12.index t (0 : Fin 2) * 1 + 1 * k.val = k.val; omega
    | ⟨1, _⟩ => show win0_12.index t (1 : Fin 2) * 1024 + 1 * l.val = l.val; omega)
  rw [e]
  entry_read
  pointwise

theorem iblk13_apply (t : Fin cfg0.N) (k : Fin 1) (l : Fin 1024) :
    iblk m c 13 t (ix2 k l) = gPost m c (ix1 l) := by
  obtain ⟨e0, e1⟩ := index13 t
  show V m c main_v12 (((cfg0.win 13).blk t).view.emb (ix2 k l)) = _
  have e : ((cfg0.win 13).blk t).view.emb (ix2 k l) = (ix2 k l : S1x1024.Idx) := funext fun x => Fin.ext (by
    match x with
    | ⟨0, _⟩ => show win0_13.index t (0 : Fin 2) * 1 + 1 * k.val = k.val; omega
    | ⟨1, _⟩ => show win0_13.index t (1 : Fin 2) * 1024 + 1 * l.val = l.val; omega)
  rw [e]
  entry_read
  pointwise

end Cert.Proof.Merge

end
-- ==== Proof.MergeAttend.lean ====
/-
  The attention over the memory, one head and one row at a time. `attend q K v` is a row's softmax of its products with the
  memory's keys `K`, summed against one column `v` of the values. The body computes it for its four heads from slices of its
  blocks, the reference for all heads at once.
-/
module

public import proofs.«01_k».proof.Proof.MergeBlocks

@[expose] public section

set_option maxRecDepth 16384

noncomputable section

open Idealize.ShloMosaic Idealize.ShloMosaic.TcCoe Idealize.SL.Sem
open Cert.MergeIdeal Cert.MergeIdeal.Gen Cert.MergeIdeal.Value

namespace Cert.Proof.Merge

/-- The products of a row with the keys. -/
def score (q : Fin 128 → EReal) (K : Fin 256 → Fin 128 → EReal) (n : Fin 256) : EReal := ∑ x, q x * K n x

/-- The greatest of a row's products. -/
def peak (s : Fin 256 → EReal) : EReal := Finset.fold max (Ideal.ofBits .f32 0xFF800000#32) s Finset.univ

/-- A row's softmax. -/
def soft (s : Fin 256 → EReal) (n : Fin 256) : EReal := Ideal.div (Ideal.exp (s n - peak s)) (∑ n', Ideal.exp (s n' - peak s))

def attend (q : Fin 128 → EReal) (K : Fin 256 → Fin 128 → EReal) (v : Fin 256 → EReal) : EReal :=
  ∑ n, soft (score q K) n * v n

/-! ## The body's four heads, of any blocks -/

theorem pay2_apply (q : FVec Ideal S1x512x128 .bf16) (k v : FVec Ideal S1x256x128 .bf16) (r : Fin 512) (d : Fin 128) :
    k0_pay2 (F := Ideal) q k v (ix2 r d) = attend (fun x => q (ix3 0 r x)) (fun n x => k (ix3 0 n x)) (fun n => v (ix3 0 n d)) := by
  pointwise [k0_pay2]
  rfl

theorem pay3_apply (q : FVec Ideal S1x512x128 .bf16) (k : FVec Ideal S1x256x128 .bf16) (r : Fin 512) (n : Fin 256) :
    k0_pay3 (F := Ideal) q k (ix2 r n) = soft (score (fun x => q (ix3 0 r x)) (fun n x => k (ix3 0 n x))) n := by
  pointwise [k0_pay3]
  rfl

theorem pay4_apply (q : FVec Ideal S1x512x128 .bf16) (k v : FVec Ideal S1x256x128 .bf16) (r : Fin 512) (d : Fin 128) :
    k0_pay4 (F := Ideal) (k0_pay3 (F := Ideal) q k) v (ix2 r d) = attend (fun x => q (ix3 0 r x)) (fun n x => k (ix3 0 n x)) (fun n => v (ix3 0 n d)) := by
  pointwise [k0_pay4, pay3_apply]
  rfl

theorem pay5_apply (q : FVec Ideal S1x512x128 .bf16) (k v : FVec Ideal S1x256x128 .bf16) (r : Fin 512) (d : Fin 128) :
    k0_pay5 (F := Ideal) q k v (ix2 r d) = attend (fun x => q (ix3 0 r x)) (fun n x => k (ix3 0 n x)) (fun n => v (ix3 0 n d)) :=
  pay2_apply q k v r d

theorem pay67_apply (q : FVec Ideal S1x512x128 .bf16) (k : FVec Ideal S1x256x128 .bf16) (r : Fin 512) (n : Fin 256) :
    Ideal.div (k0_pay6 (F := Ideal) q k (ix2 r n)) (k0_pay7 (F := Ideal) q k (ix2 r n)) = soft (score (fun x => q (ix3 0 r x)) (fun n x => k (ix3 0 n x))) n := by
  pointwise [k0_pay7, k0_pay6]
  rfl

variable (m : (ℓ : Loc nD τ sig) → Buf (Elt Ideal) ℓ) (c : Dev nD)
open MergeRefIdeal.Read

/-- Head `h` of row `r` of a grid point's tile against the stream's memory. -/
abbrev head (t : Fin cfg0.N) (r : Fin 512) (h : Fin 4) (d : Fin 128) : EReal :=
  attend (fun x => cq m c (ix3 (stream t) (row t r) ⟨h.val * 128 + x.val, by omega⟩)) (fun n x => memK m c (ix4 (stream t) n h x))
    (fun n => memV m c (ix4 (stream t) n h d))

/-! ## The reference's stages -/

theorem peak_eq (s : Fin 256 → EReal) : max (Ideal.ofBits .f32 0xFF800000#32) (peak s) = peak s :=
  max_eq_right ((Finset.le_fold_max _).2 (Or.inl le_rfl))

/-- The reference's maximum over the memory's rows is the fold over them. -/
theorem ref_max (v : FVec Ideal Cert.MergeRefIdeal.S4x4x8192x256 .f32) (c0 : FVec Ideal Cert.MergeRefIdeal.S_ .f32) (b h : Fin 4) (R : Fin 8192) :
    Host.reduce FloatOps.maximumf v c0 Cert.MergeRefIdeal.Gen.reducesTo_S4x4x8192x256_S4x4x8192_d3 Cert.MergeRefIdeal.Gen.h_S_ (ix3 b h R)
      = Finset.univ.fold max (c0 (Shape.Idx.first Cert.MergeRefIdeal.Gen.h_S_)) (fun n : Fin 256 => v (ix4 b h R n)) := by
  rw [Host.reduce_eq_fold]
  exact Shape.ReducesTo.fold_fiber_r4_a3 _ _ _ _ _

theorem ref_score (b : Fin 4) (h : Fin 4) (R : Fin 8192) (n : Fin 256) :
    val_main_v2 (F := Ideal) (cq m c) (memK m c) (ix4 b h R n)
      = score (fun x => cq m c (ix3 b R ⟨h.val * 128 + x.val, by omega⟩)) (fun n x => memK m c (ix4 b n h x)) n := by
  rw [val_main_v2_apply]
  refine Finset.sum_congr rfl fun x _ => ?_
  rw [val_main_v1_apply]
  show cq m c _ * memK m c _ = _
  refine congrArg₂ (· * ·) (congrArg (cq m c) (funext fun a => Fin.ext ?_)) (congrArg (memK m c) (funext fun a => Fin.ext ?_))
  · match a with
    | ⟨0, _⟩ => show (((b.val * 8192 + R.val) * 4 + h.val) * 128 + x.val) / 4194304 = b.val; omega
    | ⟨1, _⟩ => show (((b.val * 8192 + R.val) * 4 + h.val) * 128 + x.val) / 512 % 8192 = R.val; omega
    | ⟨2, _⟩ => show (((b.val * 8192 + R.val) * 4 + h.val) * 128 + x.val) % 512 = h.val * 128 + x.val; omega
  · match a with
    | ⟨0, _⟩ => rfl
    | ⟨1, _⟩ => rfl
    | ⟨2, _⟩ => rfl
    | ⟨3, _⟩ => rfl

theorem ref_max_score (b : Fin 4) (h : Fin 4) (R : Fin 8192) :
    val_main_v3 (F := Ideal) (cq m c) (memK m c) (ix3 b h R)
      = peak (score (fun x => cq m c (ix3 b R ⟨h.val * 128 + x.val, by omega⟩)) (fun n x => memK m c (ix4 b n h x))) := by
  unfold val_main_v3
  rw [ref_max]
  refine congrArg₂ (fun b f => Finset.fold max b f Finset.univ) ?_ ?_
  · rw [val_main_cst_apply]; exact Ideal.ofBits_def _
  · exact funext fun n => ref_score m c b h R n

theorem ref_peak (b : Fin 4) (h : Fin 4) (R : Fin 8192) :
    val_main_v5 (F := Ideal) (cq m c) (memK m c) (ix3 b h R)
      = peak (score (fun x => cq m c (ix3 b R ⟨h.val * 128 + x.val, by omega⟩)) (fun n x => memK m c (ix4 b n h x))) := by
  rw [← peak_eq, ← ref_max_score, val_main_v5_apply, val_main_v4_apply, val_main_cst_0_apply, Ideal.ofBits_def, Ideal.maximumf_def]

theorem ref_exp (b : Fin 4) (h : Fin 4) (R : Fin 8192) (n : Fin 256) :
    val_main_v9 (F := Ideal) (cq m c) (memK m c) (ix4 b h R n)
      = Ideal.exp (score (fun x => cq m c (ix3 b R ⟨h.val * 128 + x.val, by omega⟩)) (fun n x => memK m c (ix4 b n h x)) n
        - peak (score (fun x => cq m c (ix3 b R ⟨h.val * 128 + x.val, by omega⟩)) (fun n x => memK m c (ix4 b n h x)))) := by
  pointwise [val_main_v9, val_main_v8, val_main_v7, val_main_v6, ref_score, ref_peak]

theorem ref_soft (b : Fin 4) (h : Fin 4) (R : Fin 8192) (n : Fin 256) :
    val_main_v13 (F := Ideal) (cq m c) (memK m c) (ix4 b h R n)
      = soft (score (fun x => cq m c (ix3 b R ⟨h.val * 128 + x.val, by omega⟩)) (fun n x => memK m c (ix4 b n h x))) n := by
  pointwise [val_main_v13, val_main_v12, val_main_v11, val_main_v10, val_main_cst_1, ref_exp]
  rfl

theorem ref_head (t : Fin cfg0.N) (r : Fin 512) (h : Fin 4) (d : Fin 128) :
    val_main_v15 (F := Ideal) (cq m c) (memK m c) (memV m c) (ix4 (stream t) (row t r) h d) = head m c t r h d := by
  pointwise [val_main_v15, val_main_v14, ref_soft]
  exact Finset.sum_congr rfl fun n _ => mul_comm _ _

/-! ## The body's heads, of its own blocks -/

/-- A load of 128 of a block's columns, for the rows' block and for the memory's. -/
theorem ld_rows (B : FVec Ideal S1x512x512 .bf16) (o : ℕ) (ho : o + 128 ≤ 512) (inb) (r : Fin 512) (x : Fin 128) :
    B ((Rect.unit (s := S1x512x512) ![0, 0, o] S1x512x128.size inb).idx (ix3 0 r x)) = B (ix3 0 r ⟨o + x.val, by omega⟩) := by
  refine congrArg B (funext fun a => Fin.ext ?_)
  match a with
  | ⟨0, _⟩ => rfl
  | ⟨1, _⟩ => show 0 + 1 * r.val = r.val; omega
  | ⟨2, _⟩ => show o + 1 * x.val = o + x.val; omega

theorem ld_memory (B : FVec Ideal S1x256x512 .bf16) (o : ℕ) (ho : o + 128 ≤ 512) (inb) (n : Fin 256) (x : Fin 128) :
    B ((Rect.unit (s := S1x256x512) ![0, 0, o] S1x256x128.size inb).idx (ix3 0 n x)) = B (ix3 0 n ⟨o + x.val, by omega⟩) := by
  refine congrArg B (funext fun a => Fin.ext ?_)
  match a with
  | ⟨0, _⟩ => rfl
  | ⟨1, _⟩ => show 0 + 1 * n.val = n.val; omega
  | ⟨2, _⟩ => show o + 1 * x.val = o + x.val; omega

/-- Row `r` against the memory in the columns of head `h` of a grid point's blocks. -/
theorem attend_blocks (t : Fin cfg0.N) (r : Fin 512) (h : Fin 4) (d : Fin 128) (o : ℕ) (ho : o = h.val * 128) (inb inb' : _) :
    attend (fun x => View.ld (iblk m c 3 t) (Rect.unit (s := S1x512x512) ![0, 0, o] S1x512x128.size inb) (ix3 0 r x))
        (fun n x => View.ld (iblk m c 4 t) (Rect.unit (s := S1x256x512) ![0, 0, o] S1x256x128.size inb') (ix3 0 n x))
        (fun n => View.ld (iblk m c 5 t) (Rect.unit (s := S1x256x512) ![0, 0, o] S1x256x128.size inb') (ix3 0 n d))
      = head m c t r h d := by
  subst ho
  have e : ∀ x : Fin 128, (⟨(h.val * 128 + x.val) / 128, by omega⟩ : Fin 4) = h ∧ (⟨(h.val * 128 + x.val) % 128, by omega⟩ : Fin 128) = x :=
    fun x => ⟨Fin.ext (by show (h.val * 128 + x.val) / 128 = h.val; omega), Fin.ext (by show (h.val * 128 + x.val) % 128 = x.val; omega)⟩
  unfold head
  congr 1
  · funext x
    exact (ld_rows (iblk m c 3 t) _ (by omega) _ r x).trans (iblk3_apply ..)
  · funext n x
    refine ((ld_memory (iblk m c 4 t) _ (by omega) _ n x).trans (iblk4_apply ..)).trans ?_
    simp only [e]
  · funext n
    refine ((ld_memory (iblk m c 5 t) _ (by omega) _ n d).trans (iblk5_apply ..)).trans ?_
    simp only [e]

theorem head0 (t : Fin cfg0.N) (r : Fin 512) (d : Fin 128) :
    k0_pay2 (View.ld (iblk m c 3 t) r0_0) (View.ld (iblk m c 4 t) r0_1) (View.ld (iblk m c 5 t) r0_1) (ix2 r d) = head m c t r 0 d :=
  (pay2_apply _ _ _ r d).trans (attend_blocks m c t r 0 d 0 rfl _ _)

theorem head1 (t : Fin cfg0.N) (r : Fin 512) (d : Fin 128) :
    k0_pay4 (k0_pay3 (View.ld (iblk m c 3 t) r0_2) (View.ld (iblk m c 4 t) r0_3)) (View.ld (iblk m c 5 t) r0_3) (ix2 r d)
      = head m c t r 1 d :=
  (pay4_apply _ _ _ r d).trans (attend_blocks m c t r 1 d 128 rfl _ _)

theorem head2 (t : Fin cfg0.N) (r : Fin 512) (d : Fin 128) :
    k0_pay5 (View.ld (iblk m c 3 t) r0_4) (View.ld (iblk m c 4 t) r0_5) (View.ld (iblk m c 5 t) r0_5) (ix2 r d) = head m c t r 2 d :=
  (pay5_apply _ _ _ r d).trans (attend_blocks m c t r 2 d 256 rfl _ _)

theorem head3 (t : Fin cfg0.N) (r : Fin 512) (d : Fin 128) :
    ∑ n : Fin 256, Ideal.div (k0_pay6 (View.ld (iblk m c 3 t) r0_6) (View.ld (iblk m c 4 t) r0_7) (ix2 r n))
        (k0_pay7 (View.ld (iblk m c 3 t) r0_6) (View.ld (iblk m c 4 t) r0_7) (ix2 r n)) * View.ld (iblk m c 5 t) r0_7 (ix3 0 n d)
      = head m c t r 3 d :=
  (Finset.sum_congr rfl fun n _ => congrArg (· * _) (pay67_apply _ _ r n)).trans (attend_blocks m c t r 3 d 384 rfl _ _)

end Cert.Proof.Merge

end
-- ==== Proof.MergeValue.lean ====
/-
  The value of the merge and of the feed-forward network: what a grid point writes back is the reference's result on the
  point's rows. Each of the body's stages is stated of any values first (`pay8_apply`, `pay10_apply`, `pay11_apply`,
  `pay1_apply`), then the reference's stages in the same words, and the two are joined block by block.
-/
module

public import proofs.«01_k».proof.Proof.MergeAttend

@[expose] public section

set_option maxRecDepth 16384

noncomputable section

open Idealize.ShloMosaic Idealize.ShloMosaic.TcCoe Idealize.SL.Sem
open Cert.MergeIdeal Cert.MergeIdeal.Gen Cert.MergeIdeal.Value

namespace Cert.Proof.Merge

/-- A row divided by the root of its mean square, and scaled by the gains. -/
def rms (y g : Fin 1024 → EReal) (l : Fin 1024) : EReal :=
  y l * Ideal.rsqrt (Ideal.div (∑ k, y k * y k) (Ideal.ofBits .f32 0x44800000#32) + Ideal.ofBits .f32 0x358637BD#32) * g l

/-! ## The body's stages, of any values -/

/-- Four heads side by side: column `k` of the joined row. -/
def joined (A B C D : Fin 128 → EReal) (k : Fin 512) : EReal :=
  if h : k.val < 128 then A ⟨k.val, h⟩
  else if h : k.val - 128 < 128 then B ⟨k.val - 128, h⟩
  else if h : k.val - 128 - 128 < 128 then C ⟨k.val - 128 - 128, h⟩
  else D ⟨k.val - 128 - 128 - 128, by omega⟩

/-- Joined heads are read by the quotient and the remainder of the column. -/
theorem joined_eq (f : Fin 4 → Fin 128 → EReal) (k : Fin 512) :
    joined (f 0) (f 1) (f 2) (f 3) k = f ⟨k.val / 128, by omega⟩ ⟨k.val % 128, by omega⟩ := by
  have e (h : Fin 4) (d : Fin 128) (hk : k.val = h.val * 128 + d.val) :
      f h d = f ⟨k.val / 128, by omega⟩ ⟨k.val % 128, by omega⟩ := by
    exact congr (congrArg f (show h = ⟨k.val / 128, by omega⟩ from Fin.ext (by show h.val = k.val / 128; omega)))
      (show d = ⟨k.val % 128, by omega⟩ from Fin.ext (by show d.val = k.val % 128; omega))
  unfold joined
  split_ifs with h h h
  · exact e 0 _ (by simp)
  · exact e 1 _ (by simp; omega)
  · exact e 2 _ (by simp; omega)
  · exact e 3 _ (by simp; omega)

/-- The three branches' products, each under its gates. -/
theorem pay8_apply (A B C : FVec Ideal S512x128 .bf16) (p s : FVec Ideal S512x256 .f32) (v : FVec Ideal S1x256x128 .bf16)
    (g : FVec Ideal S1x512x3072 .bf16) (ya : FVec Ideal S1x512x768 .bf16) (wa : FVec Ideal S768x1024 .bf16)
    (yb : FVec Ideal S1x512x768 .bf16) (wb : FVec Ideal S768x1024 .bf16) (wc : FVec Ideal S512x1024 .bf16) (r : Fin 512) (l : Fin 1024) :
    k0_pay8 (F := Ideal) A B C p s v g ya wa yb wb wc (ix2 r l)
      = g (ix3 0 r ⟨l.val, by omega⟩) * (∑ k, ya (ix3 0 r k) * wa (ix2 k l))
        + g (ix3 0 r ⟨1024 + l.val, by omega⟩) * (∑ k, yb (ix3 0 r k) * wb (ix2 k l))
        + g (ix3 0 r ⟨2048 + l.val, by omega⟩) * (∑ k, joined (fun d => A (ix2 r d)) (fun d => B (ix2 r d)) (fun d => C (ix2 r d))
            (fun d => ∑ n : Fin 256, Ideal.div (p (ix2 r n)) (s (ix2 r n)) * v (ix3 0 n d)) k * wc (ix2 k l)) := by
  pointwise [k0_pay8]
  rfl

theorem pay10_apply (a y : FVec Ideal S512x1024 .f32) (w : FVec Ideal S1024x1024 .bf16) (g : FVec Ideal S1x1024 .f32) (r : Fin 512) (l : Fin 1024) :
    k0_pay10 (F := Ideal) a y w g (ix2 r l)
      = y (ix2 r l) + rms (fun l => ∑ k, a (ix2 r k) * w (ix2 k l)) (fun l => g (ix2 0 l)) l := by
  pointwise [k0_pay10]
  rfl

theorem pay11_apply (a y : FVec Ideal S512x1024 .f32) (w : FVec Ideal S1024x1024 .bf16) (g g' : FVec Ideal S1x1024 .f32)
    (w' : FVec Ideal S1024x4096 .bf16) (r : Fin 512) (l : Fin 4096) :
    k0_pay11 (F := Ideal) a y w g g' w' (ix2 r l)
      = (fun u : EReal => max u 0 * max u 0)
          (∑ k : Fin 1024, rms (fun l => k0_pay10 (F := Ideal) a y w g (ix2 r l)) (fun l => g' (ix2 0 l)) k * w' (ix2 k l)) := by
  pointwise [k0_pay11]
  rfl

theorem pay1_apply (y : FVec Ideal S512x1024 .f32) (u : FVec Ideal S512x4096 .bf16) (w : FVec Ideal S4096x1024 .bf16)
    (g : FVec Ideal S1x1024 .f32) (a : Fin 1) (r : Fin 512) (l : Fin 1024) :
    k0_pay1 (F := Ideal) y u w g (ix3 a r l)
      = y (ix2 r l) + rms (fun l => ∑ k, u (ix2 r k) * w (ix2 k l)) (fun l => g (ix2 0 l)) l := by
  pointwise [k0_pay1]
  rfl

variable (m : (ℓ : Loc MergeIdeal.nD MergeIdeal.τ MergeIdeal.sig) → Buf (Elt Ideal) ℓ) (c : Dev MergeIdeal.nD)

open MergeRefIdeal.Read

/-! ## The reference's stages -/

/-- The gated sum of the branches. -/
abbrev mergedRef := val_main_v30 (F := Ideal) (ya m c) (yb m c) (cq m c) (memK m c) (memV m c) (gates m c) (wA m c) (wB m c) (wC m c)

/-- The residual stream after the mixing branches. -/
abbrev mixedRef := val_main_v45 (F := Ideal) (x m c) (ya m c) (yb m c) (cq m c) (memK m c) (memV m c) (gates m c) (wA m c) (wB m c)
  (wC m c) (wO m c) (gMix m c)

/-- The network's hidden layer, squared. -/
abbrev hiddenRef := val_main_v61 (F := Ideal) (x m c) (ya m c) (yb m c) (cq m c) (memK m c) (memV m c) (gates m c) (wA m c) (wB m c)
  (wC m c) (wO m c) (gMix m c) (gPre m c) (wUp m c)

/-- The layer's result. -/
abbrev resultRef := val_main_v76 (F := Ideal) (x m c) (ya m c) (yb m c) (cq m c) (memK m c) (memV m c) (gates m c) (wA m c) (wB m c)
  (wC m c) (wO m c) (gMix m c) (gPre m c) (gPost m c) (wUp m c) (wDown m c)

theorem ref_joined (t : Fin cfg0.N) (r : Fin 512) (k : Fin 512) :
    val_main_v16 (F := Ideal) (cq m c) (memK m c) (memV m c) (ix3 (stream t) (row t r) k)
      = head m c t r ⟨k.val / 128, by omega⟩ ⟨k.val % 128, by omega⟩ := by
  pointwise [val_main_v16, ref_head]

theorem ref_merged (t : Fin cfg0.N) (r : Fin 512) (l : Fin 1024) :
    mergedRef m c (ix3 (stream t) (row t r) l)
      = gates m c (ix3 (stream t) (row t r) ⟨l.val, by omega⟩) * (∑ k, ya m c (ix3 (stream t) (row t r) k) * wA m c (ix2 k l))
        + gates m c (ix3 (stream t) (row t r) ⟨1024 + l.val, by omega⟩) * (∑ k, yb m c (ix3 (stream t) (row t r) k) * wB m c (ix2 k l))
        + gates m c (ix3 (stream t) (row t r) ⟨2048 + l.val, by omega⟩)
          * (∑ k : Fin 512, head m c t r ⟨k.val / 128, by omega⟩ ⟨k.val % 128, by omega⟩ * wC m c (ix2 k l)) := by
  pointwise [val_main_v30, val_main_v29, val_main_v28, val_main_v27, val_main_v26, val_main_v25, val_main_v24, val_main_v23,
    val_main_v22, val_main_v21, val_main_v20, val_main_v19, val_main_v18, val_main_v17, ref_joined]

theorem ref_mixed (b : Fin 4) (R : Fin 8192) (l : Fin 1024) :
    mixedRef m c (ix3 b R l)
      = x m c (ix3 b R l) + rms (fun l => ∑ k, mergedRef m c (ix3 b R k) * wO m c (ix2 k l)) (fun l => gMix m c (ix1 l)) l := by
  pointwise [val_main_v45, val_main_v44, val_main_v43, val_main_v42, val_main_v41, val_main_v40, val_main_v39, val_main_v38,
    val_main_v37, val_main_v36, val_main_v35, val_main_v34, val_main_v33, val_main_v32, val_main_v31, val_main_cst_2,
    val_main_cst_3, val_main_cst_4]
  rfl

theorem ref_hidden (b : Fin 4) (R : Fin 8192) (l : Fin 4096) :
    hiddenRef m c (ix3 b R l)
      = (fun u : EReal => max u 0 * max u 0)
          (∑ k : Fin 1024, rms (fun l => mixedRef m c (ix3 b R l)) (fun l => gPre m c (ix1 l)) k * wUp m c (ix2 k l)) := by
  pointwise [val_main_v61, val_main_v60, val_main_call0_v0, val_main_call0_cst, val_main_v59, val_main_v58, val_main_v57, val_main_v56, val_main_v55,
    val_main_v54, val_main_v53, val_main_v52, val_main_v51, val_main_v50, val_main_v49, val_main_v48, val_main_v47, val_main_v46,
    val_main_cst_5, val_main_cst_6, val_main_cst_7]
  rfl

theorem ref_result (b : Fin 4) (R : Fin 8192) (l : Fin 1024) :
    resultRef m c (ix3 b R l)
      = mixedRef m c (ix3 b R l)
        + rms (fun l => ∑ k, hiddenRef m c (ix3 b R k) * wDown m c (ix2 k l)) (fun l => gPost m c (ix1 l)) l := by
  pointwise [val_main_v76, val_main_v75, val_main_v74, val_main_v73, val_main_v72, val_main_v71, val_main_v70, val_main_v69,
    val_main_v68, val_main_v67, val_main_v66, val_main_v65, val_main_v64, val_main_v63, val_main_v62, val_main_cst_8,
    val_main_cst_9, val_main_cst_10]
  rfl

/-! ## The body's stages, of a grid point's blocks -/

/-- The gated sum of a grid point. -/
abbrev mergedPt (t : Fin cfg0.N) := k0_pay12 (iblk m c 0 t) (iblk m c 1 t) (iblk m c 2 t) (iblk m c 3 t) (iblk m c 4 t) (iblk m c 5 t)
  (iblk m c 6 t) (iblk m c 7 t) (iblk m c 8 t) (iblk m c 9 t) (iblk m c 10 t) (iblk m c 11 t) (iblk m c 12 t) (iblk m c 13 t)
  (iblk m c 14 t) (iblk m c 15 t)

/-- The rows of the residual stream of a grid point. -/
abbrev rowsPt (t : Fin cfg0.N) := k0_pay13 (iblk m c 0 t) (iblk m c 1 t) (iblk m c 2 t) (iblk m c 3 t) (iblk m c 4 t) (iblk m c 5 t)
  (iblk m c 6 t) (iblk m c 7 t) (iblk m c 8 t) (iblk m c 9 t) (iblk m c 10 t) (iblk m c 11 t) (iblk m c 12 t) (iblk m c 13 t)
  (iblk m c 14 t) (iblk m c 15 t)

abbrev mixedPt (t : Fin cfg0.N) := k0_pay10 (mergedPt m c t) (rowsPt m c t) (View.ld (iblk m c 10 t) r0_13) (View.ld (iblk m c 11 t) r0_14)

abbrev hiddenPt (t : Fin cfg0.N) := k0_pay11 (mergedPt m c t) (rowsPt m c t) (View.ld (iblk m c 10 t) r0_13) (View.ld (iblk m c 11 t) r0_14)
  (View.ld (iblk m c 12 t) r0_14) (View.ld (iblk m c 14 t) r0_15)

theorem rows_at (t : Fin cfg0.N) (r : Fin 512) (l : Fin 1024) : rowsPt m c t (ix2 r l) = x m c (ix3 (stream t) (row t r) l) := by
  pointwise [k0_pay13, k0_pay9, iblk0_apply]

theorem merged_at (t : Fin cfg0.N) (r : Fin 512) (l : Fin 1024) :
    mergedPt m c t (ix2 r l) = mergedRef m c (ix3 (stream t) (row t r) l) := by
  refine (pay8_apply _ _ _ _ _ _ _ _ _ _ _ _ r l).trans ?_
  rw [ref_merged]
  have h (k : Fin 512) := (congrFun (congr (congr (congr (congrArg joined (funext (head0 m c t r))) (funext (head1 m c t r)))
    (funext (head2 m c t r))) (funext (head3 m c t r))) k).trans (joined_eq (head m c t r) k)
  refine congrArg₂ (· + ·) (congrArg₂ (· + ·) ?_ ?_) (congrArg₂ (· * ·) ?_ (Finset.sum_congr rfl fun k _ => congrArg₂ (· * ·) (h k) ?_))
  all_goals pointwise [iblk6_apply, iblk1_apply, iblk2_apply, iblk7_apply, iblk8_apply, iblk9_apply]

theorem mixed_at (t : Fin cfg0.N) (r : Fin 512) (l : Fin 1024) :
    mixedPt m c t (ix2 r l) = mixedRef m c (ix3 (stream t) (row t r) l) := by
  refine (pay10_apply _ _ _ _ r l).trans ?_
  rw [ref_mixed]
  simp only [merged_at m c, rows_at m c]
  pointwise [iblk10_apply, iblk11_apply]

theorem hidden_at (t : Fin cfg0.N) (r : Fin 512) (l : Fin 4096) :
    hiddenPt m c t (ix2 r l) = hiddenRef m c (ix3 (stream t) (row t r) l) := by
  refine (pay11_apply _ _ _ _ _ _ r l).trans ?_
  rw [ref_hidden]
  simp only [mixed_at m c]
  pointwise [iblk12_apply, iblk14_apply]

theorem result_at (t : Fin cfg0.N) (a : Fin 1) (r : Fin 512) (l : Fin 1024) :
    k0_pay1 (mixedPt m c t) (hiddenPt m c t) (View.ld (iblk m c 15 t) r0_16) (View.ld (iblk m c 13 t) r0_14) (ix3 a r l)
      = resultRef m c (ix3 (stream t) (row t r) l) := by
  refine (pay1_apply _ _ _ _ a r l).trans ?_
  rw [ref_result]
  simp only [mixed_at m c, hidden_at m c]
  pointwise [iblk15_apply, iblk13_apply]

/-! ## The array written -/

theorem emb16 (t : Fin cfg0.N) (a : Fin 1) (r : Fin 512) (l : Fin 1024) :
    ((cfg0.win 16).blk t).view.emb (ix3 a r l) = (ix3 (stream t) (row t r) l : S4x8192x1024.Idx) := by
  obtain ⟨e0, e1, e2⟩ := index16 t
  refine funext fun x => Fin.ext ?_
  match x with
  | ⟨0, _⟩ => show win0_16.index t (0 : Fin 3) * 1 + 1 * a.val = t.val / 16; omega
  | ⟨1, _⟩ => show win0_16.index t (1 : Fin 3) * 512 + 1 * r.val = t.val % 16 * 512 + r.val; omega
  | ⟨2, _⟩ => show win0_16.index t (2 : Fin 3) * 1024 + 1 * l.val = l.val; omega

/-- The grid point whose block holds row `R` of stream `b`. -/
def at_ (b : Fin 4) (R : Fin 8192) : Fin cfg0.N := ⟨b.val * 16 + R.val / 512, lt_of_lt_of_eq (by omega) N_0.symm⟩

theorem covered16 (i : S4x8192x1024.Idx) : i ∈ ((cfg0.win 16).blk (at_ (i 0) (i 1))).view.set := by
  have h0 : (i 0).val < 4 := (i 0).isLt
  have h1 : (i 1).val < 8192 := (i 1).isLt
  have h := ((cfg0.win 16).blk (at_ (i 0) (i 1))).view.emb_mem_set (ix3 (0 : Fin 1) (⟨(i 1).val % 512, by omega⟩ : Fin 512) (i 2))
  have e : (ix3 (stream (at_ (i 0) (i 1))) (row (at_ (i 0) (i 1)) ⟨(i 1).val % 512, by omega⟩) (i 2) : S4x8192x1024.Idx) = i := by
    refine (funext fun x => Fin.ext ?_).trans (eq_ix3 i).symm
    match x with
    | ⟨0, _⟩ => show ((i 0).val * 16 + (i 1).val / 512) / 16 = (i 0).val; omega
    | ⟨1, _⟩ => show ((i 0).val * 16 + (i 1).val / 512) % 16 * 512 + (i 1).val % 512 = (i 1).val; omega
    | ⟨2, _⟩ => rfl
  exact Eq.mp (congrArg (· ∈ ((cfg0.win 16).blk (at_ (i 0) (i 1))).view.set)
    ((emb16 (at_ (i 0) (i 1)) 0 ⟨(i 1).val % 512, by omega⟩ (i 2)).trans e)) h

theorem final16 : (dats m 0 c).arrAt 16 cfg0.N = resultRef m c := by
  refine (dats m 0 c).arrAt_eq_of_cover 16 (resultRef m c) (fun t _ => ?_) fun i => ⟨at_ (i 0) (i 1), flush0_16 _, covered16 i⟩
  rw [flushed16]
  funext j
  idx_vars j
  refine Eq.trans ?_ ((result_at m c t j0 j1 j2).trans (congrArg (resultRef m c) (emb16 t j0 j1 j2).symm))
  refine congrFun (?_ : out0_16 (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) (iblk m c 15 t) = _) (ix3 j0 j1 j2)
  unfold out0_16
  exact View.canon_cons_unit_zero (by decide) inb_S1x512x1024_S1x512x1024_0_0_0 _ _

/-- The claim: the kernel's result and the reference's are the same function of the arguments. -/
theorem algebraic : Cert.algebraic_MergeIdeal_MergeRefIdeal := by
  intro m ρ m' ρ' _ hagree
  refine ⟨fun c => resultRef m c, (θ_run defs _ _).mono (fun r h c => ?_) (run_blocks m ρ),
    (θ_run Cert.MergeRefIdeal.defs _ _).mono (fun _ h c => ?_) (Cert.MergeRefIdeal.Value.run (F := Ideal) m' ρ')⟩
  · obtain ⟨h16, h⟩ := h c
    exact ⟨h16.trans (final16 m c), h⟩
  · obtain ⟨h16, h⟩ := h c
    obtain ⟨a0, a1, a2, a3, a4, a5, a6, a7, a8, a9, a10, a11, a12, a13, a14, a15⟩ := hagree c
    refine ⟨h16.trans ?_, h⟩
    rw [val_main_v76_eq]
    refine congr (congr (congr (congr (congr (congr (congr (congr (congr (congr (congr (congr (congr (congr (congr
      (congrArg (val_main_v76 (F := Ideal)) ?_) ?_) ?_) ?_) ?_) ?_) ?_) ?_) ?_) ?_) ?_) ?_) ?_) ?_) ?_) ?_ <;> assumption

end Cert.Proof.Merge

end
-- ==== Proof.ProjIdealFrame.lean ====
/-
  The frame of the input projection's program `ProjIdeal`: its run from any memory, every argument unchanged. This is the generated
  frame's text with larger budgets (the body has 28 windows, and the step that opens one point's obligation names them all).
-/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 2000000

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S1024x8576 := Rect.unit (s := S1024x8576) ![0, 0] S1024x768.size inb_S1024x8576_S1024x768_0_0
abbrev r0_4 : Rect S512x768 := Rect.unit (s := S512x768) ![0, 0] S512x128.size inb_S512x768_S512x128_0_0
abbrev r0_5 : Rect S512x768 := Rect.unit (s := S512x768) ![0, 128] S512x128.size inb_S512x768_S512x128_0_128
abbrev r0_6 : Rect S512x768 := Rect.unit (s := S512x768) ![0, 256] S512x128.size inb_S512x768_S512x128_0_256
abbrev r0_7 : Rect S512x768 := Rect.unit (s := S512x768) ![0, 384] S512x128.size inb_S512x768_S512x128_0_384
abbrev r0_8 : Rect S512x768 := Rect.unit (s := S512x768) ![0, 512] S512x128.size inb_S512x768_S512x128_0_512
abbrev r0_9 : Rect S512x768 := Rect.unit (s := S512x768) ![0, 640] S512x128.size inb_S512x768_S512x128_0_640
abbrev r0_10 : Rect S1024x8576 := Rect.unit (s := S1024x8576) ![0, 768] S1024x256.size inb_S1024x8576_S1024x256_0_768
abbrev r0_11 : Rect S512x256 := Rect.unit (s := S512x256) ![0, 0] S512x128.size inb_S512x256_S512x128_0_0
abbrev r0_12 : Rect S512x256 := Rect.unit (s := S512x256) ![0, 128] S512x128.size inb_S512x256_S512x128_0_128
abbrev r0_13 : Rect S1024x8576 := Rect.unit (s := S1024x8576) ![0, 1024] S1024x256.size inb_S1024x8576_S1024x256_0_1024
abbrev r0_14 : Rect S512x256 := Rect.unit (s := S512x256) ![0, 0] S512x256.size inb_S512x256_S512x256_0_0
abbrev r0_15 : Rect S1024x8576 := Rect.unit (s := S1024x8576) ![0, 1280] S1024x512.size inb_S1024x8576_S1024x512_0_1280
abbrev r0_16 : Rect S512x512 := Rect.unit (s := S512x512) ![0, 0] S512x128.size inb_S512x512_S512x128_0_0
abbrev r0_17 : Rect S512x512 := Rect.unit (s := S512x512) ![0, 128] S512x128.size inb_S512x512_S512x128_0_128
abbrev r0_18 : Rect S512x512 := Rect.unit (s := S512x512) ![0, 256] S512x128.size inb_S512x512_S512x128_0_256
abbrev r0_19 : Rect S512x512 := Rect.unit (s := S512x512) ![0, 384] S512x128.size inb_S512x512_S512x128_0_384
abbrev r0_20 : Rect S1024x8576 := Rect.unit (s := S1024x8576) ![0, 1792] S1024x128.size inb_S1024x8576_S1024x128_0_1792
abbrev r0_21 : Rect S512x64 := Rect.unit (s := S512x64) ![0, 0] S512x64.size inb_S512x64_S512x64_0_0
abbrev r0_22 : Rect S1024x8576 := Rect.unit (s := S1024x8576) ![0, 1920] S1024x768.size inb_S1024x8576_S1024x768_0_1920
abbrev r0_23 : Rect S512x768 := Rect.unit (s := S512x768) ![0, 0] S512x768.size inb_S512x768_S512x768_0_0
abbrev r0_24 : Rect S1x768 := Rect.unit (s := S1x768) ![0, 0] S1x768.size inb_S1x768_S1x768_0_0
abbrev r0_25 : Rect S1024x8576 := Rect.unit (s := S1024x8576) ![0, 2688] S1024x768.size inb_S1024x8576_S1024x768_0_2688
abbrev r0_26 : Rect S256x256 := Rect.unit (s := S256x256) ![0, 0] S256x256.size inb_S256x256_S256x256_0_0
abbrev r0_27 : Rect S512x768 := Rect.unit (s := S512x768) ![0, 0] S256x768.size inb_S512x768_S256x768_0_0
abbrev r0_28 : Rect S512x768 := Rect.unit (s := S512x768) ![256, 0] S256x768.size inb_S512x768_S256x768_256_0
abbrev r0_29 : Rect S1024x8576 := Rect.unit (s := S1024x8576) ![0, 3456] S1024x768.size inb_S1024x8576_S1024x768_0_3456
abbrev r0_30 : Rect S1024x8576 := Rect.unit (s := S1024x8576) ![0, 4224] S1024x768.size inb_S1024x8576_S1024x768_0_4224
abbrev r0_31 : Rect S1024x8576 := Rect.unit (s := S1024x8576) ![0, 4992] S1024x512.size inb_S1024x8576_S1024x512_0_4992
abbrev r0_32 : Rect S512x512 := Rect.unit (s := S512x512) ![0, 0] S512x512.size inb_S512x512_S512x512_0_0
abbrev r0_33 : Rect S1024x8576 := Rect.unit (s := S1024x8576) ![0, 5504] S1024x768.size inb_S1024x8576_S1024x768_0_5504
abbrev r0_34 : Rect S512x3072 := Rect.unit (s := S512x3072) ![0, 0] S512x768.size inb_S512x3072_S512x768_0_0
abbrev r0_35 : Rect S1024x8576 := Rect.unit (s := S1024x8576) ![0, 6272] S1024x768.size inb_S1024x8576_S1024x768_0_6272
abbrev r0_36 : Rect S512x3072 := Rect.unit (s := S512x3072) ![0, 768] S512x768.size inb_S512x3072_S512x768_0_768
abbrev r0_37 : Rect S1024x8576 := Rect.unit (s := S1024x8576) ![0, 7040] S1024x768.size inb_S1024x8576_S1024x768_0_7040
abbrev r0_38 : Rect S512x3072 := Rect.unit (s := S512x3072) ![0, 1536] S512x768.size inb_S512x3072_S512x768_0_1536
abbrev r0_39 : Rect S1024x8576 := Rect.unit (s := S1024x8576) ![0, 7808] S1024x768.size inb_S1024x8576_S1024x768_0_7808
abbrev r0_40 : Rect S512x3072 := Rect.unit (s := S512x3072) ![0, 2304] S512x768.size inb_S512x3072_S512x768_0_2304

/-! ## What the body leaves in each output window's buffer -/

/-! ### Values of the body that the stores' payloads, spelt out, would write more than once

    Each is a vector the body binds (often a part call's result), stated over the input windows' blocks and
    numbered on from the skeleton's payload functions (`k0_pay58` …, after `k0_pay57`), so that
    `out0_W` and the values after it name it instead of spelling it out (unfold them with the payloads); the comment after each is the printed function's
    name for the value (a count appended where that name is bound again). -/

def k0_pay58 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x1024 .bf16 :=
  k0_pay3 (View.ld x0 r0_0) (View.ld x1 r0_1) -- `v16`
def k0_pay59 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay4 (View.ld x5 r0_2) -- `v18`
def k0_pay60 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay5 (View.ld x6 r0_2) -- `v20`
def k0_pay61 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay6 (View.ld x7 r0_2) -- `v22`
def k0_pay62 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay7 (View.ld x8 r0_2) -- `v24`
def k0_pay63 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay8 (View.ld x9 r0_2) -- `v26`
def k0_pay64 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay9 (View.ld x10 r0_2) -- `v28`
def k0_pay65 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x768 .f32 :=
  k0_pay10 (View.ld x0 r0_0) (View.ld x1 r0_1) (View.ld x3 r0_3) -- `v31`
def k0_pay66 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x256 .f32 :=
  k0_pay21 (k0_pay58 x0 x1 x2 x3 x4 x5 x6 x7 x8 x9 x10) (View.ld x3 r0_10) -- `v106`
def k0_pay67 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay22 (k0_pay58 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10) (View.ld x3 r0_10) -- `v114`
def k0_pay68 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x512 .f32 :=
  k0_pay28 (k0_pay58 x0 x1 x2 x3 x4 x5 x6 x7 x8 x9 x10) (View.ld x3 r0_15) -- `v137`
def k0_pay69 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay33 (k0_pay58 x0 x1 x2 x3 x4 x5 x6 x7 x8 x9 x10) (View.ld x3 r0_20) -- `v180`
def k0_pay70 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : FVec F S512x128 .f32 :=
  k0_pay34 (k0_pay58 x0 x1 x2 x3 x4 x5 x6 x7 x8 x9 x10) (k0_pay62 x0 x1 x2 x3 x4 x5 x6 x7 x8 x9 x10) (k0_pay63 x0 x1 x2 x3 x4 x5 x6 x7 x8 x9 x10) (View.ld x3 r0_20) -- `v184`

/-- Window 11's staging buffer after the body, from the input windows' blocks: its 6 stores as pieces, LAST
    FIRST (Lib/Pipeline/FrameBody.lean `View.canon`; the payloads are the skeleton's and the values stated above). -/
def out0_11 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .bf16 :=
  View.canon [⟨r0_9, k0_pay20 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay65 x0 x1 x2 x3 x4 x5 x6 x7 x8 x9 x10)⟩,
    ⟨r0_8, k0_pay19 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay65 x0 x1 x2 x3 x4 x5 x6 x7 x8 x9 x10)⟩,
    ⟨r0_7, k0_pay18 (k0_pay17 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay65 x0 x1 x2 x3 x4 x5 x6 x7 x8 x9 x10)) (Scalar.ofBits .f32 0x3E0293EE#32)⟩,
    ⟨r0_6, k0_pay16 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay65 x0 x1 x2 x3 x4 x5 x6 x7 x8 x9 x10)⟩,
    ⟨r0_5, k0_pay15 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay65 x0 x1 x2 x3 x4 x5 x6 x7 x8 x9 x10)⟩,
    ⟨r0_4, k0_pay14 (k0_pay61 x0 x1 x2 x3 x4 x5 x6 x7 x8 x9 x10) (k0_pay11 (View.ld x0 r0_0) (View.ld x1 r0_1) (View.ld x3 r0_3)) (k0_pay12 (View.ld x0 r0_0) (View.ld x1 r0_1) (View.ld x5 r0_2) (View.ld x3 r0_3)) (k0_pay13 (View.ld x0 r0_0) (View.ld x1 r0_1) (View.ld x6 r0_2) (View.ld x3 r0_3))⟩]

/-- Its stores tile the buffer (checked by evaluation), so they cover it. -/
theorem cover0_11 (p0 : Vec F S512x128 .bf16) (p1 : Vec F S512x128 .bf16) (p2 : Vec F S512x128 .bf16) (p3 : Vec F S512x128 .bf16) (p4 : Vec F S512x128 .bf16) (p5 : Vec F S512x128 .bf16) (y : S512x768.Idx) :
    ∃ pc ∈ ([⟨r0_9, p0⟩, ⟨r0_8, p1⟩, ⟨r0_7, p2⟩, ⟨r0_6, p3⟩, ⟨r0_5, p4⟩, ⟨r0_4, p5⟩] : List (View.Piece (Elt F) S512x768 .bf16)), y ∈ pc.1.set :=
  View.cover_of_tiled [⟨r0_9, p0⟩, ⟨r0_8, p1⟩, ⟨r0_7, p2⟩, ⟨r0_6, p3⟩, ⟨r0_5, p4⟩, ⟨r0_4, p5⟩] S512x128.size (by rfl) y

/-- Window 12's staging buffer after the body, from the input windows' blocks: its 2 stores as pieces, LAST
    FIRST (Lib/Pipeline/FrameBody.lean `View.canon`; the payloads are the skeleton's and the values stated above). -/
def out0_12 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x256 .f32 :=
  View.canon [⟨r0_12, k0_pay24 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay66 x0 x1 x2 x3 x4 x5 x6 x7 x8 x9 x10)⟩,
    ⟨r0_11, k0_pay67 x0 x1 x2 x3 x4 x5 x6 x7 x8 x9 x10⟩]

/-- Its stores tile the buffer (checked by evaluation), so they cover it. -/
theorem cover0_12 (p0 : Vec F S512x128 .f32) (p1 : Vec F S512x128 .f32) (y : S512x256.Idx) :
    ∃ pc ∈ ([⟨r0_12, p0⟩, ⟨r0_11, p1⟩] : List (View.Piece (Elt F) S512x256 .f32)), y ∈ pc.1.set :=
  View.cover_of_tiled [⟨r0_12, p0⟩, ⟨r0_11, p1⟩] S512x128.size (by rfl) y

/-- Window 13's staging buffer after the body, from the input windows' blocks: its 1 store as pieces, LAST
    FIRST (Lib/Pipeline/FrameBody.lean `View.canon`; the payloads are the skeleton's and the values stated above). -/
def out0_13 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x256 .f32 :=
  View.canon [⟨r0_14, k0_pay26 (k0_pay58 x0 x1 x2 x3 x4 x5 x6 x7 x8 x9 x10) (View.ld x3 r0_13)⟩]

/-- Its stores tile the buffer (checked by evaluation), so they cover it. -/
theorem cover0_13 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 14's staging buffer after the body, from the input windows' blocks: its 2 stores as pieces, LAST
    FIRST (Lib/Pipeline/FrameBody.lean `View.canon`; the payloads are the skeleton's and the values stated above). -/
def out0_14 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x256 .bf16 :=
  View.canon [⟨r0_12, k0_pay25 (k0_pay59 x0 x1 x2 x3 x4 x5 x6 x7 x8 x9 x10) (k0_pay60 x0 x1 x2 x3 x4 x5 x6 x7 x8 x9 x10) (k0_pay61 x0 x1 x2 x3 x4 x5 x6 x7 x8 x9 x10) (k0_pay66 x0 x1 x2 x3 x4 x5 x6 x7 x8 x9 x10)⟩,
    ⟨r0_11, k0_pay23 (k0_pay67 x0 x1 x2 x3 x4 x5 x6 x7 x8 x9 x10)⟩]

/-- Its stores tile the buffer (checked by evaluation), so they cover it. -/
theorem cover0_14 (p0 : Vec F S512x128 .bf16) (p1 : Vec F S512x128 .bf16) (y : S512x256.Idx) :
    ∃ pc ∈ ([⟨r0_12, p0⟩, ⟨r0_11, p1⟩] : List (View.Piece (Elt F) S512x256 .bf16)), y ∈ pc.1.set :=
  View.cover_of_tiled [⟨r0_12, p0⟩, ⟨r0_11, p1⟩] S512x128.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x256 .bf16 :=
  View.canon [⟨r0_14, k0_pay27 (k0_pay58 x0 x1 x2 x3 x4 x5 x6 x7 x8 x9 x10) (View.ld x3 r0_13)⟩]

/-- Its stores tile the buffer (checked by evaluation), so they cover it. -/
theorem cover0_15 (p0 : Vec F S512x256 .bf16) (y : S512x256.Idx) :
    ∃ pc ∈ ([⟨r0_14, p0⟩] : List (View.Piece (Elt F) S512x256 .bf16)), y ∈ pc.1.set :=
  View.cover_of_tiled [⟨r0_14, p0⟩] S512x256.size (by rfl) y

/-- Window 16's staging buffer after the body, from the input windows' blocks: its 4 stores as pieces, LAST
    FIRST (Lib/Pipeline/FrameBody.lean `View.canon`; the payloads are the skeleton's and the values stated above). -/
def out0_16 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x512 .bf16 :=
  View.canon [⟨r0_19, k0_pay32 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (k0_pay68 x0 x1 x2 x3 x4 x5 x6 x7 x8 x9 x10)⟩,
    ⟨r0_18, k0_pay31 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (k0_pay68 x0 x1 x2 x3 x4 x5 x6 x7 x8 x9 x10)⟩,
    ⟨r0_17, k0_pay30 (k0_pay62 x0 x1 x2 x3 x4 x5 x6 x7 x8 x9 x10) (k0_pay63 x0 x1 x2 x3 x4 x5 x6 x7 x8 x9 x10) (k0_pay64 x0 x1 x2 x3 x4 x5 x6 x7 x8 x9 x10) (k0_pay68 x0 x1 x2 x3 x4 x5 x6 x7 x8 x9 x10)⟩,
    ⟨r0_16, k0_pay29 (k0_pay58 x0 x1 x2 x3 x4 x5 x6 x7 x8 x9 x10) (k0_pay62 x0 x1 x2 x3 x4 x5 x6 x7 x8 x9 x10) (k0_pay63 x0 x1 x2 x3 x4 x5 x6 x7 x8 x9 x10) (k0_pay64 x0 x1 x2 x3 x4 x5 x6 x7 x8 x9 x10) (View.ld x3 r0_15)⟩]

/-- Its stores tile the buffer (checked by evaluation), so they cover it. -/
theorem cover0_16 (p0 : Vec F S512x128 .bf16) (p1 : Vec F S512x128 .bf16) (p2 : Vec F S512x128 .bf16) (p3 : Vec F S512x128 .bf16) (y : S512x512.Idx) :
    ∃ pc ∈ ([⟨r0_19, p0⟩, ⟨r0_18, p1⟩, ⟨r0_17, p2⟩, ⟨r0_16, p3⟩] : List (View.Piece (Elt F) S512x512 .bf16)), y ∈ pc.1.set :=
  View.cover_of_tiled [⟨r0_19, p0⟩, ⟨r0_18, p1⟩, ⟨r0_17, p2⟩, ⟨r0_16, p3⟩] S512x128.size (by rfl) y

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x128 .f32 :=
  View.canon [⟨r0_2, k0_pay36 (k0_pay64 x0 x1 x2 x3 x4 x5 x6 x7 x8 x9 x10) (k0_pay69 x0 x1 x2 x3 x4 x5 x6 x7 x8 x9 x10) (k0_pay70 x0 x1 x2 x3 x4 x5 x6 x7 x8 x9 x10) 120#32⟩]

/-- Its stores tile the buffer (checked by evaluation), so they cover it. -/
theorem cover0_17 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x128 .bf16 :=
  View.canon [⟨r0_2, k0_pay39 (k0_pay64 x0 x1 x2 x3 x4 x5 x6 x7 x8 x9 x10) (k0_pay69 x0 x1 x2 x3 x4 x5 x6 x7 x8 x9 x10) (k0_pay70 x0 x1 x2 x3 x4 x5 x6 x7 x8 x9 x10) 120#32⟩]

/-- Its stores tile the buffer (checked by evaluation), so they cover it. -/
theorem cover0_18 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x128 .bf16 :=
  View.canon [⟨r0_2, k0_pay40 (k0_pay64 x0 x1 x2 x3 x4 x5 x6 x7 x8 x9 x10) (k0_pay69 x0 x1 x2 x3 x4 x5 x6 x7 x8 x9 x10) (k0_pay70 x0 x1 x2 x3 x4 x5 x6 x7 x8 x9 x10) 120#32⟩]

/-- Its stores tile the buffer (checked by evaluation), so they cover it. -/
theorem cover0_19 (p0 : Vec F S512x128 .bf16) (y : S512x128.Idx) :
    ∃ pc ∈ ([⟨r0_2, p0⟩] : List (View.Piece (Elt F) S512x128 .bf16)), y ∈ pc.1.set :=
  View.cover_of_tiled [⟨r0_2, p0⟩] S512x128.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .bf16 :=
  View.canon [⟨r0_23, k0_pay41 (k0_pay58 x0 x1 x2 x3 x4 x5 x6 x7 x8 x9 x10) (View.ld x3 r0_22)⟩]

/-- Its stores tile the buffer (checked by evaluation), so they cover it. -/
theorem cover0_20 (p0 : Vec F S512x768 .bf16) (y : S512x768.Idx) :
    ∃ pc ∈ ([⟨r0_23, p0⟩] : List (View.Piece (Elt F) S512x768 .bf16)), y ∈ pc.1.set :=
  View.cover_of_tiled [⟨r0_23, p0⟩] S512x768.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .bf16 :=
  View.canon [⟨r0_23, k0_pay43 (k0_pay58 x0 x1 x2 x3 x4 x5 x6 x7 x8 x9 x10) (View.ld x2 r0_24) (View.ld x3 r0_25)⟩]

/-- Its stores tile the buffer (checked by evaluation), so they cover it. -/
theorem cover0_21 (p0 : Vec F S512x768 .bf16) (y : S512x768.Idx) :
    ∃ pc ∈ ([⟨r0_23, p0⟩] : List (View.Piece (Elt F) S512x768 .bf16)), y ∈ pc.1.set :=
  View.cover_of_tiled [⟨r0_23, p0⟩] S512x768.size (by rfl) y

/-- Window 22's staging buffer after the body, from the input windows' blocks: its 2 stores as pieces, LAST
    FIRST (Lib/Pipeline/FrameBody.lean `View.canon`; the payloads are the skeleton's and the values stated above). -/
def out0_22 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .f32 :=
  View.canon [⟨r0_28, k0_pay50 (k0_pay45 (k0_pay58 x0 x1 x2 x3 x4 x5 x6 x7 x8 x9 x10) (View.ld x2 r0_24) (View.ld x3 r0_25)) (k0_pay47 (k0_pay58 x0 x1 x2 x3 x4 x5 x6 x7 x8 x9 x10) (View.ld x2 r0_24) (View.ld x3 r0_25)) (k0_pay48 (k0_pay58 x0 x1 x2 x3 x4 x5 x6 x7 x8 x9 x10) (View.ld x2 r0_24) (View.ld x3 r0_25)) (View.ld x4 r0_26)⟩,
    ⟨r0_27, k0_pay49 (k0_pay58 x0 x1 x2 x3 x4 x5 x6 x7 x8 x9 x10) (View.ld x2 r0_24) (View.ld x3 r0_25) (View.ld x4 r0_26)⟩]

/-- Its stores tile the buffer (checked by evaluation), so they cover it. -/
theorem cover0_22 (p0 : Vec F S256x768 .f32) (p1 : Vec F S256x768 .f32) (y : S512x768.Idx) :
    ∃ pc ∈ ([⟨r0_28, p0⟩, ⟨r0_27, p1⟩] : List (View.Piece (Elt F) S512x768 .f32)), y ∈ pc.1.set :=
  View.cover_of_tiled [⟨r0_28, p0⟩, ⟨r0_27, p1⟩] S256x768.size (by rfl) y

/-- Window 23's staging buffer after the body, from the input windows' blocks: its 1 store as pieces, LAST
    FIRST (Lib/Pipeline/FrameBody.lean `View.canon`; the payloads are the skeleton's and the values stated above). -/
def out0_23 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .bf16 :=
  View.canon [⟨r0_23, k0_pay51 (k0_pay58 x0 x1 x2 x3 x4 x5 x6 x7 x8 x9 x10) (View.ld x3 r0_29)⟩]

/-- Its stores tile the buffer (checked by evaluation), so they cover it. -/
theorem cover0_23 (p0 : Vec F S512x768 .bf16) (y : S512x768.Idx) :
    ∃ pc ∈ ([⟨r0_23, p0⟩] : List (View.Piece (Elt F) S512x768 .bf16)), y ∈ pc.1.set :=
  View.cover_of_tiled [⟨r0_23, p0⟩] S512x768.size (by rfl) y

/-- Window 24's staging buffer after the body, from the input windows' blocks: its 1 store as pieces, LAST
    FIRST (Lib/Pipeline/FrameBody.lean `View.canon`; the payloads are the skeleton's and the values stated above). -/
def out0_24 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x768 .bf16 :=
  View.canon [⟨r0_23, k0_pay52 (k0_pay58 x0 x1 x2 x3 x4 x5 x6 x7 x8 x9 x10) (View.ld x3 r0_30)⟩]

/-- Its stores tile the buffer (checked by evaluation), so they cover it. -/
theorem cover0_24 (p0 : Vec F S512x768 .bf16) (y : S512x768.Idx) :
    ∃ pc ∈ ([⟨r0_23, p0⟩] : List (View.Piece (Elt F) S512x768 .bf16)), y ∈ pc.1.set :=
  View.cover_of_tiled [⟨r0_23, p0⟩] S512x768.size (by rfl) y

/-- Window 25's staging buffer after the body, from the input windows' blocks: its 1 store as pieces, LAST
    FIRST (Lib/Pipeline/FrameBody.lean `View.canon`; the payloads are the skeleton's and the values stated above). -/
def out0_25 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x512 .bf16 :=
  View.canon [⟨r0_32, k0_pay53 (k0_pay58 x0 x1 x2 x3 x4 x5 x6 x7 x8 x9 x10) (View.ld x3 r0_31)⟩]

/-- Its stores tile the buffer (checked by evaluation), so they cover it. -/
theorem cover0_25 (p0 : Vec F S512x512 .bf16) (y : S512x512.Idx) :
    ∃ pc ∈ ([⟨r0_32, p0⟩] : List (View.Piece (Elt F) S512x512 .bf16)), y ∈ pc.1.set :=
  View.cover_of_tiled [⟨r0_32, p0⟩] S512x512.size (by rfl) y

/-- Window 26's staging buffer after the body, from the input windows' blocks: its 4 stores as pieces, LAST
    FIRST (Lib/Pipeline/FrameBody.lean `View.canon`; the payloads are the skeleton's and the values stated above). -/
def out0_26 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x3072 .bf16 :=
  View.canon [⟨r0_40, k0_pay2 (k0_pay58 x0 x1 x2 x3 x4 x5 x6 x7 x8 x9 x10) (View.ld x3 r0_39)⟩,
    ⟨r0_38, k0_pay1 (k0_pay56 (k0_pay58 x0 x1 x2 x3 x4 x5 x6 x7 x8 x9 x10) (View.ld x3 r0_37)) (k0_pay57 (F := F))⟩,
    ⟨r0_36, k0_pay55 (k0_pay58 x0 x1 x2 x3 x4 x5 x6 x7 x8 x9 x10) (View.ld x3 r0_35)⟩,
    ⟨r0_34, k0_pay54 (k0_pay58 x0 x1 x2 x3 x4 x5 x6 x7 x8 x9 x10) (View.ld x3 r0_33)⟩]

/-- Its stores tile the buffer (checked by evaluation), so they cover it. -/
theorem cover0_26 (p0 : Vec F S512x768 .bf16) (p1 : Vec F S512x768 .bf16) (p2 : Vec F S512x768 .bf16) (p3 : Vec F S512x768 .bf16) (y : S512x3072.Idx) :
    ∃ pc ∈ ([⟨r0_40, p0⟩, ⟨r0_38, p1⟩, ⟨r0_36, p2⟩, ⟨r0_34, p3⟩] : List (View.Piece (Elt F) S512x3072 .bf16)), y ∈ pc.1.set :=
  View.cover_of_tiled [⟨r0_40, p0⟩, ⟨r0_38, p1⟩, ⟨r0_36, p2⟩, ⟨r0_34, p3⟩] S512x768.size (by rfl) y

/-- Window 27's staging buffer after the body, from the input windows' blocks: its 1 store as pieces, LAST
    FIRST (Lib/Pipeline/FrameBody.lean `View.canon`; the payloads are the skeleton's and the values stated above). -/
def out0_27 (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) : Vec F S512x64 .f32 :=
  View.canon [⟨r0_21, k0_pay37 (k0_pay64 x0 x1 x2 x3 x4 x5 x6 x7 x8 x9 x10) (k0_pay69 x0 x1 x2 x3 x4 x5 x6 x7 x8 x9 x10) (k0_pay70 x0 x1 x2 x3 x4 x5 x6 x7 x8 x9 x10) 120#32⟩]

/-- Its stores tile the buffer (checked by evaluation), so they cover it. -/
theorem cover0_27 (p0 : Vec F S512x64 .f32) (y : S512x64.Idx) :
    ∃ pc ∈ ([⟨r0_21, p0⟩] : List (View.Piece (Elt F) S512x64 .f32)), y ∈ pc.1.set :=
  View.cover_of_tiled [⟨r0_21, p0⟩] S512x64.size (by rfl) y

/-! ## The body's triple -/

/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1x768 .f32) (harg3 : arg3.IsWhole) (arg4 : Memref sig .tc .vmem S1024x8576 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x768 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S512x256 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x128 .f32) (harg18 : arg18.IsWhole) (arg19 : Memref sig .tc .vmem S512x128 .bf16) (harg19 : arg19.IsWhole) (arg20 : Memref sig .tc .vmem S512x128 .bf16) (harg20 : arg20.IsWhole) (arg21 : Memref sig .tc .vmem S512x768 .bf16) (harg21 : arg21.IsWhole) (arg22 : Memref sig .tc .vmem S512x768 .bf16) (harg22 : arg22.IsWhole) (arg23 : Memref sig .tc .vmem S512x768 .f32) (harg23 : arg23.IsWhole) (arg24 : Memref sig .tc .vmem S512x768 .bf16) (harg24 : arg24.IsWhole) (arg25 : Memref sig .tc .vmem S512x768 .bf16) (harg25 : arg25.IsWhole) (arg26 : Memref sig .tc .vmem S512x512 .bf16) (harg26 : arg26.IsWhole) (arg27 : Memref sig .tc .vmem S512x3072 .bf16) (harg27 : arg27.IsWhole) (arg28 : Memref sig .tc .vmem S512x64 .f32) (harg28 : arg28.IsWhole)
    (x0 : Vec F S512x1024 .f32) (x1 : Vec F S1x1024 .f32) (x2 : Vec F S1x768 .f32) (x3 : Vec F S1024x8576 .bf16) (x4 : Vec F S256x256 .bf16) (x5 : Vec F S512x128 .f32) (x6 : Vec F S512x128 .f32) (x7 : Vec F S512x128 .f32) (x8 : Vec F S512x128 .f32) (x9 : Vec F S512x128 .f32) (x10 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10) ∗ owns (c : Thread nD τ) arg22 fullShare (out0_21 x0 x1 x2 x3 x4 x5 x6 x7 x8 x9 x10) ∗ owns (c : Thread nD τ) arg23 fullShare (out0_22 x0 x1 x2 x3 x4 x5 x6 x7 x8 x9 x10) ∗ owns (c : Thread nD τ) arg24 fullShare (out0_23 x0 x1 x2 x3 x4 x5 x6 x7 x8 x9 x10) ∗ owns (c : Thread nD τ) arg25 fullShare (out0_24 x0 x1 x2 x3 x4 x5 x6 x7 x8 x9 x10) ∗ owns (c : Thread nD τ) arg26 fullShare (out0_25 x0 x1 x2 x3 x4 x5 x6 x7 x8 x9 x10) ∗ owns (c : Thread nD τ) arg27 fullShare (out0_26 x0 x1 x2 x3 x4 x5 x6 x7 x8 x9 x10) ∗ owns (c : Thread nD τ) arg28 fullShare (out0_27 x0 x1 x2 x3 x4 x5 x6 x7 x8 x9 x10)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _ _ _ _ _ _)).trans ?_
    rfl
  isplitl [H12]
  · iexists _; isplitr
    swap; · iexact H12
    ipureintro
    refine (View.read_writes_eq_canon _ _ _ (cover0_12 _ _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _ _ _ _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _ _ _ _)).trans ?_
    rfl
  iexists _; isplitr
  swap; · iexact H27
  ipureintro
  refine (View.read_writes_eq_canon _ _ _ (cover0_27 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.ProjIdeal.Gen

end
-- ==== Proof.ProjRun.lean ====
/-
  The projection's run with each result named: what a grid point writes back to a result is the body's value for its window,
  and after the run a result's array is what the points wrote.
-/
module

public import proofs.«01_k».proof.Proof.ProjIdealFrame
public import Idealize.ShloMosaic.Lib.Pipeline.Value

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 11).cut (grid0.coords t) ((dats m 0 c).after 11 t) = _
  rw [after0_11]

theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 12).cut (grid0.coords t) ((dats m 0 c).after 12 t) = _
  rw [after0_12]

theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 16).cut (grid0.coords t) ((dats m 0 c).after 16 t) = _
  rw [after0_16]

theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 17).cut (grid0.coords t) ((dats m 0 c).after 17 t) = _
  rw [after0_17]

theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 18).cut (grid0.coords t) ((dats m 0 c).after 18 t) = _
  rw [after0_18]

theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 19).cut (grid0.coords t) ((dats m 0 c).after 19 t) = _
  rw [after0_19]

theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 20).cut (grid0.coords t) ((dats m 0 c).after 20 t) = _
  rw [after0_20]

theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 21).cut (grid0.coords t) ((dats m 0 c).after 21 t) = _
  rw [after0_21]

theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 22).cut (grid0.coords t) ((dats m 0 c).after 22 t) = _
  rw [after0_22]

theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 23).cut (grid0.coords t) ((dats m 0 c).after 23 t) = _
  rw [after0_23]

theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 24).cut (grid0.coords t) ((dats m 0 c).after 24 t) = _
  rw [after0_24]

theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 25).cut (grid0.coords t) ((dats m 0 c).after 25 t) = _
  rw [after0_25]

theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 26).cut (grid0.coords t) ((dats m 0 c).after 26 t) = _
  rw [after0_26]

theorem flushed27 (c : Dev nD) (t : Fin cfg0.N) :
    (dats m 0 c).flushed 27 t = (cfg0.win 27).cut (grid0.coords t) (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 27).cut (grid0.coords t) ((dats m 0 c).after 27 t) = _
  rw [after0_27]

theorem post11 (r : PUnit × MemSt nD τ sig (Elt F)) (h : Pipeline.FramePost cfgs (dats m) 0 (V m) r) (c : Dev nD) :
    r.2.mem ((c : Thread nD τ).loc main_v119_0) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v119_1) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v119_2) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v119_3) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v119_4) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v119_5) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v119_6) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v119_7) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v119_8) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v119_9) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v119_10) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v119_11) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v119_12) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v119_13) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v119_14) = (dats m 0 c).arrAt 25 cfg0.N :=
  (h c).1 25

theorem post26 (r : PUnit × MemSt nD τ sig (Elt F)) (h : Pipeline.FramePost cfgs (dats m) 0 (V m) r) (c : Dev nD) :
    r.2.mem ((c : Thread nD τ).loc main_v119_15) = (dats m 0 c).arrAt 26 cfg0.N :=
  (h c).1 26

theorem post27 (r : PUnit × MemSt nD τ sig (Elt F)) (h : Pipeline.FramePost cfgs (dats m) 0 (V m) r) (c : Dev nD) :
    r.2.mem ((c : Thread nD τ).loc main_v119_16) = (dats m 0 c).arrAt 27 cfg0.N :=
  (h c).1 27

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

set_option maxHeartbeats 666440 in
/-- The run, with each result after it named and the arguments unchanged. -/
theorem run_blocks : θ_run defs (onTc (τ := τ) (main (F := F))) ⟨m, fun _ => 0, ρ⟩ fun r => ∀ c : Dev nD,
      r.2.mem ((c : Thread nD τ).loc main_v119_0) = (dats m 0 c).arrAt 11 cfg0.N
      ∧ r.2.mem ((c : Thread nD τ).loc main_v119_1) = (dats m 0 c).arrAt 12 cfg0.N
      ∧ r.2.mem ((c : Thread nD τ).loc main_v119_2) = (dats m 0 c).arrAt 13 cfg0.N
      ∧ r.2.mem ((c : Thread nD τ).loc main_v119_3) = (dats m 0 c).arrAt 14 cfg0.N
      ∧ r.2.mem ((c : Thread nD τ).loc main_v119_4) = (dats m 0 c).arrAt 15 cfg0.N
      ∧ r.2.mem ((c : Thread nD τ).loc main_v119_5) = (dats m 0 c).arrAt 16 cfg0.N
      ∧ r.2.mem ((c : Thread nD τ).loc main_v119_6) = (dats m 0 c).arrAt 17 cfg0.N
      ∧ r.2.mem ((c : Thread nD τ).loc main_v119_7) = (dats m 0 c).arrAt 18 cfg0.N
      ∧ r.2.mem ((c : Thread nD τ).loc main_v119_8) = (dats m 0 c).arrAt 19 cfg0.N
      ∧ r.2.mem ((c : Thread nD τ).loc main_v119_9) = (dats m 0 c).arrAt 20 cfg0.N
      ∧ r.2.mem ((c : Thread nD τ).loc main_v119_10) = (dats m 0 c).arrAt 21 cfg0.N
      ∧ r.2.mem ((c : Thread nD τ).loc main_v119_11) = (dats m 0 c).arrAt 22 cfg0.N
      ∧ r.2.mem ((c : Thread nD τ).loc main_v119_12) = (dats m 0 c).arrAt 23 cfg0.N
      ∧ r.2.mem ((c : Thread nD τ).loc main_v119_13) = (dats m 0 c).arrAt 24 cfg0.N
      ∧ r.2.mem ((c : Thread nD τ).loc main_v119_14) = (dats m 0 c).arrAt 25 cfg0.N
      ∧ r.2.mem ((c : Thread nD τ).loc main_v119_15) = (dats m 0 c).arrAt 26 cfg0.N
      ∧ r.2.mem ((c : Thread nD τ).loc main_v119_16) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      post21 m r h c,
      post22 m r h c,
      post23 m r h c,
      post24 m r h c,
      post25 m r h c,
      post26 m r h c,
      post27 m r h c,
      kept_main_arg0 m r h c,
      kept_main_arg1 m r h c,
      kept_main_arg2 m r h c,
      kept_main_arg3 m r h c⟩)
    (run_main m ρ)

end Cert.ProjIdeal.Value
-- ==== Proof.ProjBlocks.lean ====
/-
  The projection's input blocks at a grid point: 512 rows of the input, the packed weights, and the rotary tables, each read
  from the arguments.
-/
module

public import proofs.«01_k».proof.Proof.ProjRun
public import proofs.«01_k».proof.Proof.Gen.ProjRefIdeal.Read
public import Idealize.ShloMosaic.Lib.Pointwise
public import Idealize.ShloMosaic.Lib.Claim
public import proofs.«01_k».proof.Defs

@[expose] public section

set_option maxRecDepth 16384

noncomputable section

open Idealize.ShloMosaic Idealize.ShloMosaic.TcCoe Idealize.SL.Sem
open Cert.ProjIdeal Cert.ProjIdeal.Gen Cert.ProjIdeal.Value

namespace Cert.Proof.Proj

/-- The block indices of the inputs' windows. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val % 16 ∧ win0_5.index t (1 : Fin 2) = 0 :=
  (by decide +kernel : ∀ t : Fin grid0.N, _)
theorem index6 : ∀ t : Fin cfg0.N, win0_6.index t (0 : Fin 2) = t.val % 16 ∧ win0_6.index t (1 : Fin 2) = 0 :=
  (by decide +kernel : ∀ t : Fin grid0.N, _)
theorem index7 : ∀ t : Fin cfg0.N, win0_7.index t (0 : Fin 2) = t.val % 16 ∧ win0_7.index t (1 : Fin 2) = 0 :=
  (by decide +kernel : ∀ t : Fin grid0.N, _)
theorem index8 : ∀ t : Fin cfg0.N, win0_8.index t (0 : Fin 2) = t.val % 16 ∧ win0_8.index t (1 : Fin 2) = 0 :=
  (by decide +kernel : ∀ t : Fin grid0.N, _)
theorem index9 : ∀ t : Fin cfg0.N, win0_9.index t (0 : Fin 2) = t.val % 16 ∧ win0_9.index t (1 : Fin 2) = 0 :=
  (by decide +kernel : ∀ t : Fin grid0.N, _)
theorem index10 : ∀ t : Fin cfg0.N, win0_10.index t (0 : Fin 2) = t.val % 16 ∧ win0_10.index t (1 : Fin 2) = 0 :=
  (by decide +kernel : ∀ t : Fin grid0.N, _)

variable (m : (ℓ : Loc nD τ sig) → Buf (Elt Ideal) ℓ) (c : Dev nD)

/-- The arguments. -/
abbrev x : FVec Ideal S4x8192x1024 .f32 := m ((c : Thread nD τ).loc main_arg0)
abbrev w : FVec Ideal S1024x8520 .f32 := m ((c : Thread nD τ).loc main_arg1)
abbrev gain : FVec Ideal S1024 .f32 := m ((c : Thread nD τ).loc main_arg2)
abbrev logits : FVec Ideal S2x768 .f32 := m ((c : Thread nD τ).loc main_arg3)

/-- The stream of a grid point, the row of the stream that row `r` of the point's block is, and the same row counted over
    all streams. -/
def stream (t : Fin cfg0.N) : Fin 4 := ⟨t.val / 16, by have := t.isLt.trans_eq N_0; omega⟩
def row (t : Fin cfg0.N) (r : Fin 512) : Fin 8192 := ⟨t.val % 16 * 512 + r.val, by omega⟩
def flat (t : Fin cfg0.N) (r : Fin 512) : Fin 32768 := ⟨t.val * 512 + r.val, by have := t.isLt.trans_eq N_0; omega⟩

/-- Reshaping streams of rows to rows, and back, is reading the same row. -/
theorem rows_of_streams {α : Type} {W : Nat} (v : (⟨3, ![4, 8192, W]⟩ : Shape).Idx → α)
    (h : (⟨3, ![4, 8192, W]⟩ : Shape).ShapeCasts ⟨2, ![32768, W]⟩) (t : Fin cfg0.N) (r : Fin 512) (l : Fin W) :
    shapeCast ⟨2, ![32768, W]⟩ v h (ix2 (flat t r) l) = v (ix3 (stream t) (row t r) l) := by
  refine congrArg v (Shape.reshapeEquiv_eq_of_rowMajor _ ?_)
  rw [Shape.rowMajor_val_two, Shape.rowMajor_val_three]
  show (t.val / 16 * 8192 + (t.val % 16 * 512 + r.val)) * W + l.val = (t.val * 512 + r.val) * W + l.val
  rw [show t.val / 16 * 8192 + (t.val % 16 * 512 + r.val) = t.val * 512 + r.val by omega]

theorem iblk0_apply (t : Fin cfg0.N) (r : Fin 512) (l : Fin 1024) :
    iblk m c 0 t (ix2 r l) = x m c (ix3 (stream t) (row t r) l) := by
  obtain ⟨e0, e1⟩ := index0 t
  show V m c main_v116 (((cfg0.win 0).blk t).view.emb (ix2 r l)) = _
  have e : ((cfg0.win 0).blk t).view.emb (ix2 r l) = (ix2 (flat t r) l : S32768x1024.Idx) := funext fun x => Fin.ext (by
    match x with
    | ⟨0, _⟩ => show win0_0.index t (0 : Fin 2) * 512 + 1 * r.val = t.val * 512 + r.val; omega
    | ⟨1, _⟩ => show win0_0.index t (1 : Fin 2) * 1024 + 1 * l.val = l.val; omega)
  rw [e]
  entry_read
  exact rows_of_streams _ _ t r l

theorem iblk1_apply (t : Fin cfg0.N) (a : Fin 1) (l : Fin 1024) :
    iblk m c 1 t (ix2 a l) = gain m c (ix1 l) := by
  obtain ⟨e0, e1⟩ := index1 t
  show V m c main_v117 (((cfg0.win 1).blk t).view.emb (ix2 a l)) = _
  have e : ((cfg0.win 1).blk t).view.emb (ix2 a l) = (ix2 a l : S1x1024.Idx) := funext fun x => Fin.ext (by
    match x with
    | ⟨0, _⟩ => show win0_1.index t (0 : Fin 2) * 1 + 1 * a.val = a.val; omega
    | ⟨1, _⟩ => show win0_1.index t (1 : Fin 2) * 1024 + 1 * l.val = l.val; omega)
  rw [e, show V m c main_v117 = shapeCast S1x1024 (gain m c) shapeCasts_S1024_S1x1024 from rfl]
  pointwise

/-- The packed weights: the given columns, with zero columns either side of the index weights. -/
def ikw (w : FVec Ideal S1024x8520 .f32) : FVec Ideal S1024x128 .f32 :=
  concatenate S1024x128 1 [⟨S1024x64, extractStridedSlice S1024x64 ![0, 1792] w slices_S1024x8520_S1024x64_0_1792⟩,
    ⟨S1024x32, broadcastInDim S1024x32 ![] bcast_S_S1024x32 (constant S_ .f32 0x00000000#32)⟩,
    ⟨S1024x8, extractStridedSlice S1024x8 ![0, 1856] w slices_S1024x8520_S1024x8_0_1856⟩,
    ⟨S1024x24, broadcastInDim S1024x24 ![] bcast_S_S1024x24 (constant S_ .f32 0x00000000#32)⟩]
    concatenates_S1024x64_S1024x32_S1024x8_S1024x24_S1024x128_d1

def packed (w : FVec Ideal S1024x8520 .f32) : FVec Ideal S1024x8576 .f32 :=
  concatenate S1024x8576 1 [⟨S1024x768, extractStridedSlice S1024x768 ![0, 0] w slices_S1024x8520_S1024x768_0_0⟩,
    ⟨S1024x256, extractStridedSlice S1024x256 ![0, 768] w slices_S1024x8520_S1024x256_0_768⟩,
    ⟨S1024x256, extractStridedSlice S1024x256 ![0, 1024] w slices_S1024x8520_S1024x256_0_1024⟩,
    ⟨S1024x512, extractStridedSlice S1024x512 ![0, 1280] w slices_S1024x8520_S1024x512_0_1280⟩,
    ⟨S1024x128, ikw w⟩,
    ⟨S1024x768, extractStridedSlice S1024x768 ![0, 1864] w slices_S1024x8520_S1024x768_0_1864⟩,
    ⟨S1024x768, extractStridedSlice S1024x768 ![0, 2632] w slices_S1024x8520_S1024x768_0_2632⟩,
    ⟨S1024x768, extractStridedSlice S1024x768 ![0, 3400] w slices_S1024x8520_S1024x768_0_3400⟩,
    ⟨S1024x768, extractStridedSlice S1024x768 ![0, 4168] w slices_S1024x8520_S1024x768_0_4168⟩,
    ⟨S1024x512, extractStridedSlice S1024x512 ![0, 4936] w slices_S1024x8520_S1024x512_0_4936⟩,
    ⟨S1024x3072, extractStridedSlice S1024x3072 ![0, 5448] w slices_S1024x8520_S1024x3072_0_5448⟩]
    concatenates_S1024x768_S1024x256_S1024x256_S1024x512_S1024x128_S1024x768_S1024x768_S1024x768_S1024x768_S1024x512_S1024x3072_S1024x8576_d1

theorem ikw_apply (w : FVec Ideal S1024x8520 .f32) (k : Fin 1024) (l : Fin 128) :
    ikw w (ix2 k l) = if h : l.val < 64 then w (ix2 k ⟨1792 + l.val, by omega⟩) else if h : l.val < 96 then 0
      else if h : l.val < 104 then w (ix2 k ⟨1760 + l.val, by omega⟩) else 0 := by
  pointwise [ikw]
  repeat' split
  all_goals first
    | rfl
    | (exfalso; omega)
    | (refine congrArg (fun a => w (ix2 k a)) (Fin.ext ?_); dsimp only; omega)

theorem dite_of {α : Type} {p : Prop} [Decidable p] {a : p → α} {b : ¬p → α} {y : α} (ha : ∀ h, a h = y) (hb : ∀ h, b h = y) :
    dite p a b = y := by
  split
  · exact ha _
  · exact hb _

theorem packed_apply (w : FVec Ideal S1024x8520 .f32) (k : Fin 1024) (l : Fin 8576) :
    packed w (ix2 k l) = if h : l.val < 1792 then w (ix2 k ⟨l.val, by omega⟩)
      else if h : l.val < 1920 then ikw w (ix2 k ⟨l.val - 1792, by omega⟩) else w (ix2 k ⟨l.val - 56, by omega⟩) := by
  pointwise [packed]
  refine dite_of (fun _ => ?_) fun _ => dite_of (fun _ => ?_) fun _ => dite_of (fun _ => ?_) fun _ => dite_of (fun _ => ?_) fun _ => dite_of (fun _ => ?_) fun _ => dite_of (fun _ => ?_) fun _ => dite_of (fun _ => ?_) fun _ => dite_of (fun _ => ?_) fun _ => dite_of (fun _ => ?_) fun _ => dite_of (fun _ => ?_) fun _ => ?_
  all_goals first
    | (rw [dif_pos (show l.val < 1792 by omega)]; done)
    | (rw [dif_pos (show l.val < 1792 by omega)]; refine congrArg (fun a => w (ix2 k a)) (Fin.ext ?_); dsimp only; omega)
    | (rw [dif_neg (show ¬ l.val < 1792 by omega), dif_pos (show l.val < 1920 by omega)]
       refine congrArg (fun a => ikw w (ix2 k a)) (Fin.ext ?_); dsimp only; omega)
    | (rw [dif_neg (show ¬ l.val < 1792 by omega), dif_neg (show ¬ l.val < 1920 by omega)]
       refine congrArg (fun a => w (ix2 k a)) (Fin.ext ?_); dsimp only; omega)

set_option maxHeartbeats 4000000 in
theorem iblk3_apply (t : Fin cfg0.N) (k : Fin 1024) (l : Fin 8576) :
    iblk m c 3 t (ix2 k l) = packed (w m c) (ix2 k l) := by
  obtain ⟨e0, e1⟩ := index3 t
  show V m c main_v31 (((cfg0.win 3).blk t).view.emb (ix2 k l)) = _
  have e : ((cfg0.win 3).blk t).view.emb (ix2 k l) = (ix2 k l : S1024x8576.Idx) := funext fun x => Fin.ext (by
    match x with
    | ⟨0, _⟩ => show win0_3.index t (0 : Fin 2) * 1024 + 1 * k.val = k.val; omega
    | ⟨1, _⟩ => show win0_3.index t (1 : Fin 2) * 8576 + 1 * l.val = l.val; omega)
  rw [e]
  exact congrFun (show V m c main_v31 = packed (w m c) from rfl) _

end Cert.Proof.Proj
-- ==== Proof.ProjTables.lean ====
/-
  The projection's rotary tables: each lane of a table row is a cosine or a sine of the row's angles, or the lane's fill.
-/
module

public import proofs.«01_k».proof.Proof.ProjBlocks

@[expose] public section

set_option maxRecDepth 16384

noncomputable section

open Idealize.ShloMosaic Idealize.ShloMosaic.TcCoe Idealize.SL.Sem
open Cert.ProjIdeal Cert.ProjIdeal.Gen Cert.ProjIdeal.Value

namespace Cert.Proof.Proj

/-- A gather of columns, read at an index. -/
theorem columns_apply {α : Type} {N n : Nat} (hN : 0 < N)
    (d : GatherDims ⟨2, ![8192, N]⟩ ⟨2, ![128, 1]⟩ ⟨2, ![8192, 128]⟩) (h0 : d.offsetDims = [0]) (h1 : d.collapsedSliceDims = [1])
    (h2 : d.operandBatchingDims = []) (h3 : d.startIndicesBatchingDims = []) (h4 : d.startIndexMap = [1]) (h5 : d.indexVectorDim = 1)
    (h6 : d.sliceSizes = ![8192, 1])
    (v : (⟨2, ![8192, N]⟩ : Shape).Idx → α) (i : IVec ⟨2, ![128, 1]⟩ n) (R : Fin 8192) (l : Fin 128) :
    Host.gather d v i (ix2 R l) = v (ix2 R ⟨min (i (ix2 l 0)).toInt.toNat (N - 1), by omega⟩) := by
  obtain ⟨a, b, c', d', e', f, g, hw⟩ := d
  subst h0 h1 h2 h3 h4 h5 h6
  unfold Host.gather
  congr 1
  funext x
  refine Fin.ext ?_
  show GatherDims.start _ (ix2 R l) i x + GatherDims.batchCoord _ (ix2 R l) x + GatherDims.offCoord _ (ix2 R l) x = _
  match x with
  | ⟨0, _⟩ =>
    rw [GatherDims.batchCoord_eq_zero _ _ _ List.not_mem_nil]
    refine (congr (congrArg HAdd.hAdd (congrArg (· + 0) (dif_neg (show ¬ (0 : Fin 2) ∈ [(1 : Fin 2)] by decide))))
      (dif_pos ((GatherDims.mem_sKept _ _).mpr ⟨(show ¬ (0 : Fin 2) ∈ [(1 : Fin 2)] by decide), List.not_mem_nil⟩))).trans ?_
    exact Nat.zero_add _
  | ⟨1, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    refine (dif_pos (show (1 : Fin 2) ∈ [(1 : Fin 2)] from List.mem_singleton.mpr rfl)).trans ?_
    refine congrArg (fun q => min (i q).toInt.toNat (N - 1)) (funext fun b => Fin.ext ?_)
    match b with
    | ⟨0, _⟩ => rfl
    | ⟨1, _⟩ => rfl

def lanes16 (v : FVec Ideal S8192x16 .f32) : FVec Ideal S8192x128 .f32 :=
  Host.gather gather_S8192x16_S128x1_S8192x128_0_1_n_n_1_1_81921 v (broadcastInDim S128x1 ![0] bcast_S128_S128x1_0
    (select (constantI S128 1 0#1) (addi (fun i => lit0 (S128.rowMajor i)) (broadcastInDim S128 ![] bcast_S_S128 (constantI S_ 32 16#32)))
      (fun i => lit0 (S128.rowMajor i))))

theorem lit0_apply : ∀ l : Fin 128, min (lit0 (S128.rowMajor (ix1 l))).toInt.toNat (16 - 1) = l.val % 16 := by
  decide +kernel

theorem lanes16_apply (v : FVec Ideal S8192x16 .f32) (R : Fin 8192) (l : Fin 128) :
    lanes16 v (ix2 R l) = v (ix2 R ⟨l.val % 16, by omega⟩) := by
  refine (columns_apply (by decide) gather_S8192x16_S128x1_S8192x128_0_1_n_n_1_1_81921 rfl rfl rfl rfl rfl rfl rfl v _ R l).trans ?_
  refine congrArg (fun a => v (ix2 R a)) (Fin.ext ?_)
  exact lit0_apply l

def lanes8 (v : FVec Ideal S8192x8 .f32) : FVec Ideal S8192x128 .f32 :=
  Host.gather gather_S8192x8_S128x1_S8192x128_0_1_n_n_1_1_81921 v (broadcastInDim S128x1 ![0] bcast_S128_S128x1_0
    (select (constantI S128 1 0#1) (addi (fun i => lit4 (S128.rowMajor i)) (broadcastInDim S128 ![] bcast_S_S128 (constantI S_ 32 8#32)))
      (fun i => lit4 (S128.rowMajor i))))

theorem lit4_apply : ∀ l : Fin 128, min (lit4 (S128.rowMajor (ix1 l))).toInt.toNat (8 - 1) = l.val % 8 := by
  decide +kernel

theorem lanes8_apply (v : FVec Ideal S8192x8 .f32) (R : Fin 8192) (l : Fin 128) :
    lanes8 v (ix2 R l) = v (ix2 R ⟨l.val % 8, by omega⟩) := by
  refine (columns_apply (by decide) gather_S8192x8_S128x1_S8192x128_0_1_n_n_1_1_81921 rfl rfl rfl rfl rfl rfl rfl v _ R l).trans ?_
  refine congrArg (fun a => v (ix2 R a)) (Fin.ext ?_)
  exact lit4_apply l

/-- The masks of the tables' lanes. -/
theorem lit1_apply : ∀ l : Fin 128, lit1 (S128.rowMajor (ix1 l)) = if l.val < 32 then 1#1 else 0#1 := by decide +kernel
theorem lit2_apply : ∀ l : Fin 128, lit2 (S128.rowMajor (ix1 l)) = if 16 ≤ l.val ∧ l.val < 32 then 1#1 else 0#1 := by decide +kernel
theorem lit3_apply : ∀ l : Fin 128, lit3 (S128.rowMajor (ix1 l)) = if l.val < 16 then 1#1 else 0#1 := by decide +kernel
theorem lit5_apply : ∀ l : Fin 128, lit5 (S128.rowMajor (ix1 l)) = if l.val % 64 < 16 then 1#1 else 0#1 := by decide +kernel
theorem lit6_apply : ∀ l : Fin 128, lit6 (S128.rowMajor (ix1 l)) = if 8 ≤ l.val % 64 ∧ l.val % 64 < 16 then 1#1 else 0#1 := by decide +kernel
theorem lit7_apply : ∀ l : Fin 128, lit7 (S128.rowMajor (ix1 l)) = if l.val % 64 < 8 then 1#1 else 0#1 := by decide +kernel

/-- A table's lanes: the given values where the mask holds, else the fill; and the table as the body is given it. -/
def masked (mask : Fin 128 → BitVec 1) (v : FVec Ideal S8192x128 .f32) (fill : BitVec 32) : FVec Ideal S8192x128 .f32 :=
  select (broadcastInDim S8192x128 ![1] bcast_S128_S8192x128_1 fun i => mask (S128.rowMajor i)) v
    (broadcastInDim S8192x128 ![] bcast_S_S8192x128 (constant S_ .f32 fill))

def negated (v : FVec Ideal S8192x128 .f32) : FVec Ideal S8192x128 .f32 := Host.negf v

def relaid (v : FVec Ideal S8192x128 .f32) : FVec Ideal S8192x128 .f32 :=
  shapeCast S8192x128 (broadcastInDim S1x8192x1x128 ![0, 1, 2, 3] bcast_S1x8192x1x128_S1x8192x1x128_0_1_2_3
    (shapeCast S1x8192x1x128 v shapeCasts_S8192x128_S1x8192x1x128)) shapeCasts_S1x8192x1x128_S8192x128

theorem masked_apply (mask : Fin 128 → BitVec 1) (v : FVec Ideal S8192x128 .f32) (fill : BitVec 32) (R : Fin 8192) (l : Fin 128) :
    relaid (masked mask v fill) (ix2 R l)
      = Scalar.select (mask (S128.rowMajor (ix1 l))) (v (ix2 R l)) (FloatOps.ofBits (F := Ideal) .f32 fill) := by
  pointwise [masked, relaid]

variable (m : (ℓ : Loc nD τ sig) → Buf (Elt Ideal) ℓ) (c : Dev nD)

theorem cos16 : V m c main_v44 = ProjRefIdeal.Read.val_main_v52 (F := Ideal) := rfl
theorem sin16 : V m c main_v45 = ProjRefIdeal.Read.val_main_v54 (F := Ideal) := rfl
theorem cos8 : V m c main_v77 = ProjRefIdeal.Read.val_main_v125 (F := Ideal) := rfl
theorem sin8 : V m c main_v78 = ProjRefIdeal.Read.val_main_v127 (F := Ideal) := rfl

set_option maxHeartbeats 4000000 in
theorem entry5 : V m c main_v100 = relaid (masked lit1 (lanes16 (ProjRefIdeal.Read.val_main_v52 (F := Ideal))) 0x3F800000#32) := by
  have h0 : V m c main_v50 = lanes16 (V m c main_v44) := rfl
  have h2 : V m c main_v51 = masked lit1 (V m c main_v50) 0x3F800000#32 := rfl
  have h3 : V m c main_v100 = relaid (V m c main_v51) := rfl
  rw [h3, h2, h0, cos16]

set_option maxHeartbeats 4000000 in
theorem entry6 : V m c main_v103 = relaid (masked lit2 (lanes16 (ProjRefIdeal.Read.val_main_v54 (F := Ideal))) 0x00000000#32) := by
  have h0 : V m c main_v56 = lanes16 (V m c main_v45) := rfl
  have h2 : V m c main_v57 = masked lit2 (V m c main_v56) 0x00000000#32 := rfl
  have h3 : V m c main_v103 = relaid (V m c main_v57) := rfl
  rw [h3, h2, h0, sin16]

set_option maxHeartbeats 4000000 in
theorem entry7 : V m c main_v106 = relaid (masked lit3 (negated (lanes16 (ProjRefIdeal.Read.val_main_v54 (F := Ideal)))) 0x00000000#32) := by
  have h0 : V m c main_v62 = lanes16 (V m c main_v45) := rfl
  have h1 : V m c main_v63 = negated (V m c main_v62) := rfl
  have h2 : V m c main_v64 = masked lit3 (V m c main_v63) 0x00000000#32 := rfl
  have h3 : V m c main_v106 = relaid (V m c main_v64) := rfl
  rw [h3, h2, h1, h0, sin16]

set_option maxHeartbeats 4000000 in
theorem entry8 : V m c main_v109 = relaid (masked lit5 (lanes8 (ProjRefIdeal.Read.val_main_v125 (F := Ideal))) 0x3F800000#32) := by
  have h0 : V m c main_v83 = lanes8 (V m c main_v77) := rfl
  have h2 : V m c main_v84 = masked lit5 (V m c main_v83) 0x3F800000#32 := rfl
  have h3 : V m c main_v109 = relaid (V m c main_v84) := rfl
  rw [h3, h2, h0, cos8]

set_option maxHeartbeats 4000000 in
theorem entry9 : V m c main_v112 = relaid (masked lit6 (lanes8 (ProjRefIdeal.Read.val_main_v127 (F := Ideal))) 0x00000000#32) := by
  have h0 : V m c main_v89 = lanes8 (V m c main_v78) := rfl
  have h2 : V m c main_v90 = masked lit6 (V m c main_v89) 0x00000000#32 := rfl
  have h3 : V m c main_v112 = relaid (V m c main_v90) := rfl
  rw [h3, h2, h0, sin8]

set_option maxHeartbeats 4000000 in
theorem entry10 : V m c main_v115 = relaid (masked lit7 (negated (lanes8 (ProjRefIdeal.Read.val_main_v127 (F := Ideal)))) 0x00000000#32) := by
  have h0 : V m c main_v95 = lanes8 (V m c main_v78) := rfl
  have h1 : V m c main_v96 = negated (V m c main_v95) := rfl
  have h2 : V m c main_v97 = masked lit7 (V m c main_v96) 0x00000000#32 := rfl
  have h3 : V m c main_v115 = relaid (V m c main_v97) := rfl
  rw [h3, h2, h1, h0, sin8]

theorem emb5 (t : Fin cfg0.N) (r : Fin 512) (l : Fin 128) :
    ((cfg0.win 5).blk t).view.emb (ix2 r l) = (ix2 (row t r) l : S8192x128.Idx) := by
  obtain ⟨e0, e1⟩ := index5 t
  refine funext fun x => Fin.ext ?_
  match x with
  | ⟨0, _⟩ => show win0_5.index t (0 : Fin 2) * 512 + 1 * r.val = t.val % 16 * 512 + r.val; omega
  | ⟨1, _⟩ => show win0_5.index t (1 : Fin 2) * 128 + 1 * l.val = l.val; omega

theorem emb6 (t : Fin cfg0.N) (r : Fin 512) (l : Fin 128) :
    ((cfg0.win 6).blk t).view.emb (ix2 r l) = (ix2 (row t r) l : S8192x128.Idx) := by
  obtain ⟨e0, e1⟩ := index6 t
  refine funext fun x => Fin.ext ?_
  match x with
  | ⟨0, _⟩ => show win0_6.index t (0 : Fin 2) * 512 + 1 * r.val = t.val % 16 * 512 + r.val; omega
  | ⟨1, _⟩ => show win0_6.index t (1 : Fin 2) * 128 + 1 * l.val = l.val; omega

theorem emb7 (t : Fin cfg0.N) (r : Fin 512) (l : Fin 128) :
    ((cfg0.win 7).blk t).view.emb (ix2 r l) = (ix2 (row t r) l : S8192x128.Idx) := by
  obtain ⟨e0, e1⟩ := index7 t
  refine funext fun x => Fin.ext ?_
  match x with
  | ⟨0, _⟩ => show win0_7.index t (0 : Fin 2) * 512 + 1 * r.val = t.val % 16 * 512 + r.val; omega
  | ⟨1, _⟩ => show win0_7.index t (1 : Fin 2) * 128 + 1 * l.val = l.val; omega

theorem emb8 (t : Fin cfg0.N) (r : Fin 512) (l : Fin 128) :
    ((cfg0.win 8).blk t).view.emb (ix2 r l) = (ix2 (row t r) l : S8192x128.Idx) := by
  obtain ⟨e0, e1⟩ := index8 t
  refine funext fun x => Fin.ext ?_
  match x with
  | ⟨0, _⟩ => show win0_8.index t (0 : Fin 2) * 512 + 1 * r.val = t.val % 16 * 512 + r.val; omega
  | ⟨1, _⟩ => show win0_8.index t (1 : Fin 2) * 128 + 1 * l.val = l.val; omega

theorem emb9 (t : Fin cfg0.N) (r : Fin 512) (l : Fin 128) :
    ((cfg0.win 9).blk t).view.emb (ix2 r l) = (ix2 (row t r) l : S8192x128.Idx) := by
  obtain ⟨e0, e1⟩ := index9 t
  refine funext fun x => Fin.ext ?_
  match x with
  | ⟨0, _⟩ => show win0_9.index t (0 : Fin 2) * 512 + 1 * r.val = t.val % 16 * 512 + r.val; omega
  | ⟨1, _⟩ => show win0_9.index t (1 : Fin 2) * 128 + 1 * l.val = l.val; omega

theorem emb10 (t : Fin cfg0.N) (r : Fin 512) (l : Fin 128) :
    ((cfg0.win 10).blk t).view.emb (ix2 r l) = (ix2 (row t r) l : S8192x128.Idx) := by
  obtain ⟨e0, e1⟩ := index10 t
  refine funext fun x => Fin.ext ?_
  match x with
  | ⟨0, _⟩ => show win0_10.index t (0 : Fin 2) * 512 + 1 * r.val = t.val % 16 * 512 + r.val; omega
  | ⟨1, _⟩ => show win0_10.index t (1 : Fin 2) * 128 + 1 * l.val = l.val; omega

/-- A table's element is the lanes' value or the fill, by its lane. -/
theorem select_mask {α : Type} (p : Prop) [Decidable p] (a b : α) : Scalar.select (if p then 1#1 else 0#1) a b = if p then a else b := by
  by_cases h : p <;> simp only [h, if_true, if_false] <;> rfl

/-- The cosines and sines of a row's angles. -/
abbrev cosA (R : Fin 8192) (l : Fin 16) : EReal := ProjRefIdeal.Read.val_main_v52 (F := Ideal) (ix2 R l)
abbrev sinA (R : Fin 8192) (l : Fin 16) : EReal := ProjRefIdeal.Read.val_main_v54 (F := Ideal) (ix2 R l)
abbrev cosI (R : Fin 8192) (l : Fin 8) : EReal := ProjRefIdeal.Read.val_main_v125 (F := Ideal) (ix2 R l)
abbrev sinI (R : Fin 8192) (l : Fin 8) : EReal := ProjRefIdeal.Read.val_main_v127 (F := Ideal) (ix2 R l)

theorem one_bits : FloatOps.ofBits (F := Ideal) .f32 0x3F800000#32 = (1 : EReal) := by pointwise
theorem zero_bits : FloatOps.ofBits (F := Ideal) .f32 0x00000000#32 = (0 : EReal) := by pointwise

theorem iblk5_apply (t : Fin cfg0.N) (r : Fin 512) (l : Fin 128) :
    iblk m c 5 t (ix2 r l) = if l.val < 32 then cosA (row t r) ⟨l.val % 16, by omega⟩ else 1 := by
  show V m c main_v100 (((cfg0.win 5).blk t).view.emb (ix2 r l)) = _
  rw [emb5]
  refine (congrFun (entry5 m c) _).trans ?_
  rw [masked_apply, lit1_apply, select_mask, one_bits]
  rw [lanes16_apply]

theorem iblk6_apply (t : Fin cfg0.N) (r : Fin 512) (l : Fin 128) :
    iblk m c 6 t (ix2 r l) = if 16 ≤ l.val ∧ l.val < 32 then sinA (row t r) ⟨l.val % 16, by omega⟩ else 0 := by
  show V m c main_v103 (((cfg0.win 6).blk t).view.emb (ix2 r l)) = _
  rw [emb6]
  refine (congrFun (entry6 m c) _).trans ?_
  rw [masked_apply, lit2_apply, select_mask, zero_bits]
  rw [lanes16_apply]

theorem iblk7_apply (t : Fin cfg0.N) (r : Fin 512) (l : Fin 128) :
    iblk m c 7 t (ix2 r l) = if l.val < 16 then -sinA (row t r) ⟨l.val % 16, by omega⟩ else 0 := by
  show V m c main_v106 (((cfg0.win 7).blk t).view.emb (ix2 r l)) = _
  rw [emb7]
  refine (congrFun (entry7 m c) _).trans ?_
  rw [masked_apply, lit3_apply, select_mask, zero_bits]
  show (if _ then -(lanes16 _ _) else _) = _
  rw [lanes16_apply]

theorem iblk8_apply (t : Fin cfg0.N) (r : Fin 512) (l : Fin 128) :
    iblk m c 8 t (ix2 r l) = if l.val % 64 < 16 then cosI (row t r) ⟨l.val % 8, by omega⟩ else 1 := by
  show V m c main_v109 (((cfg0.win 8).blk t).view.emb (ix2 r l)) = _
  rw [emb8]
  refine (congrFun (entry8 m c) _).trans ?_
  rw [masked_apply, lit5_apply, select_mask, one_bits]
  rw [lanes8_apply]

theorem iblk9_apply (t : Fin cfg0.N) (r : Fin 512) (l : Fin 128) :
    iblk m c 9 t (ix2 r l) = if 8 ≤ l.val % 64 ∧ l.val % 64 < 16 then sinI (row t r) ⟨l.val % 8, by omega⟩ else 0 := by
  show V m c main_v112 (((cfg0.win 9).blk t).view.emb (ix2 r l)) = _
  rw [emb9]
  refine (congrFun (entry9 m c) _).trans ?_
  rw [masked_apply, lit6_apply, select_mask, zero_bits]
  rw [lanes8_apply]

theorem iblk10_apply (t : Fin cfg0.N) (r : Fin 512) (l : Fin 128) :
    iblk m c 10 t (ix2 r l) = if l.val % 64 < 8 then -sinI (row t r) ⟨l.val % 8, by omega⟩ else 0 := by
  show V m c main_v115 (((cfg0.win 10).blk t).view.emb (ix2 r l)) = _
  rw [emb10]
  refine (congrFun (entry10 m c) _).trans ?_
  rw [masked_apply, lit7_apply, select_mask, zero_bits]
  show (if _ then -(lanes8 _ _) else _) = _
  rw [lanes8_apply]

end Cert.Proof.Proj
-- ==== Proof.ProjRows.lean ====
/-
  The projection's rows: at a grid point the normalized rows and their products with the packed weights are the
  reference's.
-/
module

public import proofs.«01_k».proof.Proof.ProjTables

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

theorem ref_norm (x : FVec Ideal S4x8192x1024 .f32) (g : FVec Ideal S1024 .f32) (s : Fin 4) (R : Fin 8192) (k : Fin 1024) :
    val_main_v25 (F := Ideal) x g (ix3 s R k) = x (ix3 s R k) * Ideal.rsqrt (Ideal.div (∑ y, x (ix3 s R y) * x (ix3 s R y))
      (Ideal.ofBits FTy.f32 1149239296#32) + Ideal.ofBits FTy.f32 897988541#32) * g (ix1 k) := by
  pointwise [val_main_v25, val_main_v24, val_main_v23, val_main_v22, val_main_v21, val_main_v20, val_main_v19, val_main_v18,
    val_main_v17, val_main_v16, val_main_v15, val_main_v14, val_main_v13, val_main_cst_2,
    val_main_cst_3, val_main_cst_4]

theorem pay3_apply (X : FVec Ideal S512x1024 .f32) (G : FVec Ideal S1x1024 .f32) (r : Fin 512) (k : Fin 1024) :
    k0_pay3 (F := Ideal) X G (ix2 r k) = X (ix2 r k) * Ideal.rsqrt (Ideal.div (∑ y, X (ix2 r y) * X (ix2 r y))
      (Ideal.ofBits FTy.f32 1149239296#32) + Ideal.ofBits FTy.f32 897988541#32) * G (ix2 0 k) := by
  pointwise [k0_pay3]

theorem ref_product (x : FVec Ideal S4x8192x1024 .f32) (w : FVec Ideal S1024x8520 .f32) (g : FVec Ideal S1024 .f32)
    (s : Fin 4) (R : Fin 8192) (l : Fin 8520) :
    val_main_v26 (F := Ideal) x w g (ix3 s R l) = ∑ k : Fin 1024, val_main_v25 (F := Ideal) x g (ix3 s R k) * w (ix2 k l) := by
  pointwise [val_main_v26]

variable (m : (ℓ : Loc nD τ sig) → Buf (Elt Ideal) ℓ) (c : Dev nD)

/-- A grid point's normalized rows, and a window of its packed weights. -/
def rows (t : Fin cfg0.N) : FVec Ideal S512x1024 .bf16 :=
  k0_pay58 (iblk m c 0 t) (iblk m c 1 t) (iblk m c 2 t) (iblk m c 3 t) (iblk m c 4 t) (iblk m c 5 t) (iblk m c 6 t)
    (iblk m c 7 t) (iblk m c 8 t) (iblk m c 9 t) (iblk m c 10 t)

theorem rows_apply (t : Fin cfg0.N) (r : Fin 512) (k : Fin 1024) :
    rows m c t (ix2 r k) = val_main_v25 (F := Ideal) (x m c) (gain m c) (ix3 (stream t) (row t r) k) := by
  refine (pay3_apply (View.ld (iblk m c 0 t) r0_0) (View.ld (iblk m c 1 t) r0_1) r k).trans ?_
  rw [ref_norm]
  have e (k : Fin 1024) : View.ld (iblk m c 0 t) r0_0 (ix2 r k) = x m c (ix3 (stream t) (row t r) k) :=
    (congrArg (iblk m c 0 t) (funext fun x => Fin.ext (by
      match x with
      | ⟨0, _⟩ => show 0 + 1 * r.val = r.val; omega
      | ⟨1, _⟩ => show 0 + 1 * k.val = k.val; omega))).trans (iblk0_apply m c t r k)
  have e' : View.ld (iblk m c 1 t) r0_1 (ix2 0 k) = gain m c (ix1 k) :=
    (congrArg (iblk m c 1 t) (funext fun x => Fin.ext (by
      match x with
      | ⟨0, _⟩ => rfl
      | ⟨1, _⟩ => show 0 + 1 * k.val = k.val; omega))).trans (iblk1_apply m c t 0 k)
  refine congr (congrArg HMul.hMul (congr (congrArg HMul.hMul (e k)) (congrArg Ideal.rsqrt (congrArg (· + _)
    (congrArg (Ideal.div · _) (Finset.sum_congr rfl fun y _ => congr (congrArg HMul.hMul (e y)) (e y))))))) e'

theorem weights_apply (t : Fin cfg0.N) (o n : Nat) (h : ∀ a, (![0, o] : Fin 2 → Nat) a + (![1024, n] : Fin 2 → Nat) a ≤ S1024x8576.size a) (k : Fin 1024) (l : Fin n)
    (hl : o + l.val < 8576) :
    View.ld (iblk m c 3 t) (Rect.unit (s := S1024x8576) ![0, o] ![1024, n] h) (ix2 k l) = packed (w m c) (ix2 k ⟨o + l.val, hl⟩) :=
  (congrArg (iblk m c 3 t) (funext fun x => Fin.ext (by
    match x with
    | ⟨0, _⟩ => show 0 + 1 * k.val = k.val; omega
    | ⟨1, _⟩ => show o + 1 * l.val = o + l.val; omega))).trans (iblk3_apply m c t k _)

/-- The reference's projection of a grid point's row. -/
def proj (t : Fin cfg0.N) (r : Fin 512) (l : Fin 8520) : EReal :=
  val_main_v26 (F := Ideal) (x m c) (w m c) (gain m c) (ix3 (stream t) (row t r) l)

theorem product_low (t : Fin cfg0.N) (r : Fin 512) (o n : Nat) (h : ∀ a, (![0, o] : Fin 2 → Nat) a + (![1024, n] : Fin 2 → Nat) a ≤ S1024x8576.size a) (l : Fin n)
    (hl : o + l.val < 1792) :
    ∑ k : Fin 1024, rows m c t (ix2 r k) * View.ld (iblk m c 3 t) (Rect.unit (s := S1024x8576) ![0, o] ![1024, n] h) (ix2 k l)
      = proj m c t r ⟨o + l.val, by omega⟩ := by
  unfold proj
  rw [ref_product]
  refine Finset.sum_congr rfl fun k _ => congr (congrArg HMul.hMul (rows_apply m c t r k)) ?_
  rw [weights_apply m c t o n h k l (by omega), packed_apply]
  exact dif_pos hl

theorem product_high (t : Fin cfg0.N) (r : Fin 512) (o n : Nat) (h : ∀ a, (![0, o] : Fin 2 → Nat) a + (![1024, n] : Fin 2 → Nat) a ≤ S1024x8576.size a) (l : Fin n)
    (h1 : 1920 ≤ o) (hl : o + l.val < 8576) :
    ∑ k : Fin 1024, rows m c t (ix2 r k) * View.ld (iblk m c 3 t) (Rect.unit (s := S1024x8576) ![0, o] ![1024, n] h) (ix2 k l)
      = proj m c t r ⟨o + l.val - 56, by omega⟩ := by
  unfold proj
  rw [ref_product]
  refine Finset.sum_congr rfl fun k _ => congr (congrArg HMul.hMul (rows_apply m c t r k)) ?_
  rw [weights_apply m c t o n h k l hl, packed_apply]
  exact (dif_neg (by show ¬ o + l.val < 1792; omega)).trans (dif_neg (by show ¬ o + l.val < 1920; omega))

theorem product_index (t : Fin cfg0.N) (r : Fin 512) (h : ∀ a, (![0, 1792] : Fin 2 → Nat) a + (![1024, 128] : Fin 2 → Nat) a ≤ S1024x8576.size a) (l : Fin 128) :
    ∑ k : Fin 1024, rows m c t (ix2 r k) * View.ld (iblk m c 3 t) (Rect.unit (s := S1024x8576) ![0, 1792] ![1024, 128] h) (ix2 k l)
      = if h : l.val < 64 then proj m c t r ⟨1792 + l.val, by omega⟩ else if h : l.val < 96 then 0
        else if h : l.val < 104 then proj m c t r ⟨1760 + l.val, by omega⟩ else 0 := by
  have e (k : Fin 1024) : View.ld (iblk m c 3 t) (Rect.unit (s := S1024x8576) ![0, 1792] ![1024, 128] h) (ix2 k l)
      = ikw (w m c) (ix2 k l) := by
    rw [weights_apply m c t 1792 128 h k l (by omega), packed_apply]
    refine (dif_neg (by show ¬ 1792 + l.val < 1792; omega)).trans ((dif_pos (by show 1792 + l.val < 1920; omega)).trans ?_)
    exact congrArg (fun q => ikw (w m c) (ix2 k q)) (Fin.ext (by show 1792 + l.val - 1792 = l.val; omega))
  refine (Finset.sum_congr rfl fun k _ => congr (congrArg HMul.hMul (rows_apply m c t r k)) ((e k).trans (ikw_apply _ k l))).trans ?_
  unfold proj
  by_cases h1 : l.val < 64
  · simp only [dif_pos h1]; exact (ref_product ..).symm
  by_cases h2 : l.val < 96
  · simp only [dif_neg h1, dif_pos h2, mul_zero, Finset.sum_const_zero]
  by_cases h3 : l.val < 104
  · simp only [dif_neg h1, dif_neg h2, dif_pos h3]; exact (ref_product ..).symm
  · simp only [dif_neg h1, dif_neg h2, dif_neg h3, mul_zero, Finset.sum_const_zero]

end Cert.Proof.Proj
-- ==== Proof.ProjRope.lean ====
/-
  The rotary turn of the projection's heads: the kernel's three products with masked tables, added, are the reference's
  rotation of a head's first lanes.
-/
module

public import proofs.«01_k».proof.Proof.ProjRows

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

/-- The rotation of a 128-lane head: its first 32 lanes by the angles, in two halves. -/
def rope16 (Y : Fin 128 → EReal) (C S : Fin 16 → EReal) (l : Fin 128) : EReal :=
  if h : l.val < 16 then Y l * C ⟨l.val, h⟩ - Y ⟨l.val + 16, by omega⟩ * S ⟨l.val, h⟩
  else if h : l.val < 32 then Y l * C ⟨l.val - 16, by omega⟩ + Y ⟨l.val - 16, by omega⟩ * S ⟨l.val - 16, by omega⟩
  else Y l

/-- The rotation of two 64-lane heads side by side: the first 16 lanes of each. -/
def rope8 (Y : Fin 128 → EReal) (C S : Fin 8 → EReal) (l : Fin 128) : EReal :=
  if h : l.val % 64 < 8 then Y l * C ⟨l.val % 64, h⟩ - Y ⟨l.val + 8, by omega⟩ * S ⟨l.val % 64, h⟩
  else if h : l.val % 64 < 16 then Y l * C ⟨l.val % 64 - 8, by omega⟩ + Y ⟨l.val - 8, by omega⟩ * S ⟨l.val % 64 - 8, by omega⟩
  else Y l

/-- A row, the row turned up and the row turned down, by three tables. -/
def spin16 (Y a b d : Fin 128 → EReal) (l : Fin 128) : EReal :=
  Y l * a l + Y ⟨(l.val + 128 - 16) % 128, by omega⟩ * b l + Y ⟨(l.val + 128 - 112) % 128, by omega⟩ * d l
def spin8 (Y a b d : Fin 128 → EReal) (l : Fin 128) : EReal :=
  Y l * a l + Y ⟨(l.val + 128 - 8) % 128, by omega⟩ * b l + Y ⟨(l.val + 128 - 120) % 128, by omega⟩ * d l

theorem spin16_eq (Y a b d : Fin 128 → EReal) (C S : Fin 16 → EReal) (l : Fin 128)
    (ha : a l = if l.val < 32 then C ⟨l.val % 16, by omega⟩ else 1)
    (hb : b l = if 16 ≤ l.val ∧ l.val < 32 then S ⟨l.val % 16, by omega⟩ else 0)
    (hd : d l = if l.val < 16 then - S ⟨l.val % 16, by omega⟩ else 0) : spin16 Y a b d l = rope16 Y C S l := by
  unfold spin16 rope16
  rw [ha, hb, hd]
  by_cases h1 : l.val < 16
  · rw [if_pos (by omega), if_neg (by omega), if_pos h1, dif_pos h1, mul_zero, add_zero, mul_neg, sub_eq_add_neg]
    have e : (⟨l.val % 16, by omega⟩ : Fin 16) = ⟨l.val, h1⟩ := Fin.ext (by show l.val % 16 = l.val; omega)
    have e' : (⟨(l.val + 128 - 112) % 128, by omega⟩ : Fin 128) = ⟨l.val + 16, by omega⟩ :=
      Fin.ext (by show (l.val + 128 - 112) % 128 = l.val + 16; omega)
    rw [e, e']
  by_cases h2 : l.val < 32
  · rw [if_pos h2, if_pos (by omega), if_neg h1, dif_neg h1, dif_pos h2, mul_zero, add_zero]
    have e : (⟨l.val % 16, by omega⟩ : Fin 16) = ⟨l.val - 16, by omega⟩ := Fin.ext (by show l.val % 16 = l.val - 16; omega)
    have e' : (⟨(l.val + 128 - 16) % 128, by omega⟩ : Fin 128) = ⟨l.val - 16, by omega⟩ :=
      Fin.ext (by show (l.val + 128 - 16) % 128 = l.val - 16; omega)
    rw [e, e']
  · rw [if_neg h2, if_neg (by omega), if_neg h1, dif_neg h1, dif_neg h2, mul_zero, mul_zero, add_zero, add_zero, mul_one]

theorem spin8_eq (Y a b d : Fin 128 → EReal) (C S : Fin 8 → EReal) (l : Fin 128)
    (ha : a l = if l.val % 64 < 16 then C ⟨l.val % 8, by omega⟩ else 1)
    (hb : b l = if 8 ≤ l.val % 64 ∧ l.val % 64 < 16 then S ⟨l.val % 8, by omega⟩ else 0)
    (hd : d l = if l.val % 64 < 8 then - S ⟨l.val % 8, by omega⟩ else 0) : spin8 Y a b d l = rope8 Y C S l := by
  unfold spin8 rope8
  rw [ha, hb, hd]
  by_cases h1 : l.val % 64 < 8
  · rw [if_pos (by omega), if_neg (by omega), if_pos h1, dif_pos h1, mul_zero, add_zero, mul_neg, sub_eq_add_neg]
    have e : (⟨l.val % 8, by omega⟩ : Fin 8) = ⟨l.val % 64, h1⟩ := Fin.ext (by show l.val % 8 = l.val % 64; omega)
    have e' : (⟨(l.val + 128 - 120) % 128, by omega⟩ : Fin 128) = ⟨l.val + 8, by omega⟩ :=
      Fin.ext (by show (l.val + 128 - 120) % 128 = l.val + 8; omega)
    rw [e, e']
  by_cases h2 : l.val % 64 < 16
  · rw [if_pos h2, if_pos (by omega), if_neg h1, dif_neg h1, dif_pos h2, mul_zero, add_zero]
    have e : (⟨l.val % 8, by omega⟩ : Fin 8) = ⟨l.val % 64 - 8, by omega⟩ := Fin.ext (by show l.val % 8 = l.val % 64 - 8; omega)
    have e' : (⟨(l.val + 128 - 8) % 128, by omega⟩ : Fin 128) = ⟨l.val - 8, by omega⟩ :=
      Fin.ext (by show (l.val + 128 - 8) % 128 = l.val - 8; omega)
    rw [e, e']
  · rw [if_neg h2, if_neg (by omega), if_neg h1, dif_neg h1, dif_neg h2, mul_zero, mul_zero, add_zero, add_zero, mul_one]

section Reference

/-- The three tables of each kind are the same angles. -/
theorem cos_key : val_main_v89 (F := Ideal) = val_main_v52 := by
  unfold val_main_v89 val_main_v88 val_main_v87 val_main_v86 val_main_v85 val_main_v84 val_main_v83 val_main_v82 val_main_v81
    val_main_v80 val_main_v79 val_main_v78 val_main_v77 val_main_v52 val_main_v51 val_main_v50 val_main_v49 val_main_v48
    val_main_v47 val_main_v46 val_main_v45 val_main_v44 val_main_v43 val_main_v42 val_main_v41 val_main_v40
  rfl
theorem sin_key : val_main_v91 (F := Ideal) = val_main_v54 := by
  unfold val_main_v91 val_main_v88 val_main_v87 val_main_v86 val_main_v85 val_main_v84 val_main_v83 val_main_v82 val_main_v81
    val_main_v80 val_main_v79 val_main_v78 val_main_v77 val_main_v54 val_main_v51 val_main_v50 val_main_v49 val_main_v48
    val_main_v47 val_main_v46 val_main_v45 val_main_v44 val_main_v43 val_main_v42 val_main_v41 val_main_v40
  rfl
theorem cos_index : val_main_v162 (F := Ideal) = val_main_v125 := by
  unfold val_main_v162 val_main_v161 val_main_v160 val_main_v159 val_main_v158 val_main_v157 val_main_v156 val_main_v155
    val_main_v154 val_main_v153 val_main_v152 val_main_v151 val_main_v150 val_main_v125 val_main_v124 val_main_v123 val_main_v122
    val_main_v121 val_main_v120 val_main_v119 val_main_v118 val_main_v117 val_main_v116 val_main_v115 val_main_v114 val_main_v113
  rfl
theorem sin_index : val_main_v164 (F := Ideal) = val_main_v127 := by
  unfold val_main_v164 val_main_v161 val_main_v160 val_main_v159 val_main_v158 val_main_v157 val_main_v156 val_main_v155
    val_main_v154 val_main_v153 val_main_v152 val_main_v151 val_main_v150 val_main_v127 val_main_v124 val_main_v123 val_main_v122
    val_main_v121 val_main_v120 val_main_v119 val_main_v118 val_main_v117 val_main_v116 val_main_v115 val_main_v114 val_main_v113
  rfl

/-- Two halves joined in front of the other lanes, as the reference joins them, are the rotation. -/
theorem halves16 {N : Nat} (P : Fin N → EReal) (C S : Fin 16 → EReal) (o : Nat) (ho : o + 128 ≤ N) (l : Fin 128) :
    (if h : l.val < 32 then
      if h' : l.val < 16 then P ⟨o + l.val, by omega⟩ * C ⟨l.val, h'⟩ - P ⟨o + (16 + l.val), by omega⟩ * S ⟨l.val, h'⟩
      else P ⟨o + (16 + (l.val - 16)), by omega⟩ * C ⟨l.val - 16, by omega⟩ + P ⟨o + (l.val - 16), by omega⟩ * S ⟨l.val - 16, by omega⟩
    else P ⟨o + (32 + (l.val - 32)), by omega⟩) = rope16 (fun j => P ⟨o + j.val, by omega⟩) C S l := by
  unfold rope16
  by_cases h1 : l.val < 16
  · rw [dif_pos (by omega), dif_pos h1, dif_pos h1]
    simp only [Nat.add_comm 16]
  by_cases h2 : l.val < 32
  · rw [dif_pos h2, dif_neg h1, dif_neg h1, dif_pos h2]
    simp only [show 16 + (l.val - 16) = l.val by omega]
  · rw [dif_neg h2, dif_neg h1, dif_neg h2]
    simp only [show 32 + (l.val - 32) = l.val by omega]

theorem halves8 {N : Nat} (P : Fin N → EReal) (Y : Fin 128 → EReal) (C S : Fin 8 → EReal) (o b : Nat) (ho : o + 64 ≤ N)
    (hb : b = 0 ∨ b = 64) (l : Fin 64) (hY : ∀ (j : Fin 64) (q : Fin 128), q.val = b + j.val → Y q = P ⟨o + j.val, by omega⟩) :
    (if h : l.val < 16 then
      if h' : l.val < 8 then P ⟨o + l.val, by omega⟩ * C ⟨l.val, h'⟩ - P ⟨o + (8 + l.val), by omega⟩ * S ⟨l.val, h'⟩
      else P ⟨o + (8 + (l.val - 8)), by omega⟩ * C ⟨l.val - 8, by omega⟩ + P ⟨o + (l.val - 8), by omega⟩ * S ⟨l.val - 8, by omega⟩
    else P ⟨o + (16 + (l.val - 16)), by omega⟩) = rope8 Y C S ⟨b + l.val, by omega⟩ := by
  unfold rope8
  have e : (b + l.val) % 64 = l.val := by omega
  by_cases h1 : l.val < 8
  · rw [dif_pos (by omega), dif_pos h1, dif_pos (by show (b + l.val) % 64 < 8; omega), hY l _ rfl,
      hY ⟨8 + l.val, by omega⟩ _ (by show b + l.val + 8 = b + (8 + l.val); omega)]
    simp only [e]
  by_cases h2 : l.val < 16
  · rw [dif_pos h2, dif_neg h1, dif_neg (by show ¬ (b + l.val) % 64 < 8; omega), dif_pos (by show (b + l.val) % 64 < 16; omega), hY l _ rfl,
      hY ⟨l.val - 8, by omega⟩ _ (by show b + l.val - 8 = b + (l.val - 8); omega)]
    simp only [e, show 8 + (l.val - 8) = l.val by omega]
  · rw [dif_neg h2, dif_neg (by show ¬ (b + l.val) % 64 < 8; omega), dif_neg (by show ¬ (b + l.val) % 64 < 16; omega), hY l _ rfl]
    simp only [show 16 + (l.val - 16) = l.val by omega]

variable (x : FVec Ideal S4x8192x1024 .f32) (w : FVec Ideal S1024x8520 .f32) (g : FVec Ideal S1024 .f32) (s : Fin 4) (R : Fin 8192)

theorem ref_query (h : Fin 6) (l : Fin 128) :
    val_main_v74 (F := Ideal) x w g (ix4 s R h l) = rope16 (fun j => val_main_v26 (F := Ideal) x w g (ix3 s R ⟨h.val * 128 + j.val, by omega⟩))
      (cosA R) (sinA R) l := by
  pointwise [val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v53, val_main_v39, val_main_v27]
  exact halves16 (fun q : Fin 768 => val_main_v26 (F := Ideal) x w g (ix3 s R ⟨q.val, by omega⟩)) (cosA R) (sinA R) (h.val * 128) (by omega) l

theorem ref_key (h : Fin 2) (l : Fin 128) :
    val_main_v111 (F := Ideal) x w g (ix4 s R h l) = rope16 (fun j => val_main_v26 (F := Ideal) x w g (ix3 s R ⟨768 + (h.val * 128 + j.val), by omega⟩))
      (cosA R) (sinA R) l := by
  pointwise [val_main_v111, val_main_v109, val_main_v110, val_main_v108, val_main_v107, val_main_v106, val_main_v105, val_main_v104,
    val_main_v103, val_main_v102, val_main_v101, val_main_v100, val_main_v99, val_main_v98, val_main_v97, val_main_v96,
    val_main_v95, val_main_v94, val_main_v93, val_main_v92, val_main_v90, val_main_v76, val_main_v28, cos_key, sin_key]
  exact halves16 (fun q : Fin 256 => val_main_v26 (F := Ideal) x w g (ix3 s R ⟨768 + q.val, by omega⟩)) (cosA R) (sinA R) (h.val * 128) (by omega) l

theorem ref_index_query (h : Fin 8) (l : Fin 64) :
    val_main_v147 (F := Ideal) x w g (ix4 s R h l) = rope8 (fun j => val_main_v26 (F := Ideal) x w g (ix3 s R ⟨1280 + (h.val / 2 * 128 + j.val), by omega⟩))
      (cosI R) (sinI R) ⟨h.val % 2 * 64 + l.val, by omega⟩ := by
  pointwise [val_main_v147, val_main_v146, val_main_v145, val_main_v144, val_main_v143, val_main_v142, val_main_v141, val_main_v140,
    val_main_v139, val_main_v138, val_main_v137, val_main_v136, val_main_v135, val_main_v134, val_main_v133, val_main_v132,
    val_main_v131, val_main_v130, val_main_v129, val_main_v128, val_main_v126, val_main_v112, val_main_v30]
  exact halves8 (fun q : Fin 512 => val_main_v26 (F := Ideal) x w g (ix3 s R ⟨1280 + q.val, by omega⟩)) _ (cosI R) (sinI R) (h.val * 64)
    (h.val % 2 * 64) (by omega) (by omega) l fun j q hq =>
      congrArg (fun q => val_main_v26 (F := Ideal) x w g (ix3 s R q)) (Fin.ext (by
        show 1280 + (h.val / 2 * 128 + q.val) = 1280 + (h.val * 64 + j.val); omega))

theorem ref_index_key (l : Fin 64) :
    val_main_v185 (F := Ideal) x w g (ix3 s R l) = rope8 (fun j => if h : j.val < 64 then val_main_v26 (F := Ideal) x w g (ix3 s R ⟨1792 + j.val, by omega⟩)
      else if h : j.val < 96 then 0 else if h : j.val < 104 then val_main_v26 (F := Ideal) x w g (ix3 s R ⟨1760 + j.val, by omega⟩) else 0)
      (cosI R) (sinI R) ⟨l.val, by omega⟩ := by
  pointwise [val_main_v185, val_main_v184, val_main_v183, val_main_v182, val_main_v181, val_main_v180, val_main_v179, val_main_v178,
    val_main_v177, val_main_v176, val_main_v175, val_main_v174, val_main_v173, val_main_v172, val_main_v171, val_main_v170,
    val_main_v169, val_main_v168, val_main_v167, val_main_v166, val_main_v165, val_main_v163, val_main_v149, val_main_v31, cos_index,
    sin_index]
  refine (halves8 (fun q : Fin 8520 => val_main_v26 (F := Ideal) x w g (ix3 s R q)) (fun j => if h : j.val < 64
      then val_main_v26 (F := Ideal) x w g (ix3 s R ⟨1792 + j.val, by omega⟩) else if h : j.val < 96 then 0
      else if h : j.val < 104 then val_main_v26 (F := Ideal) x w g (ix3 s R ⟨1760 + j.val, by omega⟩) else 0) (cosI R) (sinI R)
    1792 0 (by omega) (by omega) l fun j q hq => ?_).trans ?_
  · refine (dif_pos (by omega)).trans ?_
    exact congrArg (fun q => val_main_v26 (F := Ideal) x w g (ix3 s R q)) (Fin.ext (by show 1792 + q.val = 1792 + j.val; omega))
  · exact congrArg (rope8 _ _ _) (Fin.ext (Nat.zero_add _))

end Reference

end Cert.Proof.Proj
-- ==== Proof.ProjResults.lean ====
/-
  The reference's results of the projection, each read at an element, in the projected row and its rotations.
-/
module

public import proofs.«01_k».proof.Proof.ProjRope

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

/-- The logistic function, as the body and the reference write it. -/
def logistic (y : EReal) : EReal := Ideal.div 1 (1 + Ideal.exp (-y))

section Results

variable (x : FVec Ideal S4x8192x1024 .f32) (w : FVec Ideal S1024x8520 .f32) (g : FVec Ideal S1024 .f32) (p : FVec Ideal S2x768 .f32)
  (s : Fin 4) (R : Fin 8192)

theorem narrow (y : EReal) : FloatOps.truncf (F := Ideal) .bf16 bitsLt_bf16_f32 y = y := rfl
theorem scale (l : Fin 768) : val_main_v215 (F := Ideal) (ix3 s R l) = Ideal.ofBits FTy.f32 0x3E0293EE#32 := by
  pointwise [val_main_v215, val_main_cst_18]

theorem ref_q (l : Fin 768) : val_main_v217 (F := Ideal) x w g (ix3 s R l)
    = val_main_v75 (F := Ideal) x w g (ix3 s R l) * Ideal.ofBits FTy.f32 0x3E0293EE#32 :=
  (val_main_v217_apply (F := Ideal) x w g (ix3 s R l)).trans ((narrow _).trans ((val_main_v216_apply (F := Ideal) x w g (ix3 s R l)).trans
    (congrArg (val_main_v75 (F := Ideal) x w g (ix3 s R l) * ·) (scale s R l))))
theorem ref_q' (l : Fin 768) : val_main_v75 (F := Ideal) x w g (ix3 s R l)
    = val_main_v74 (F := Ideal) x w g (ix4 s R ⟨l.val / 128, by omega⟩ ⟨l.val % 128, by omega⟩) := by
  pointwise [val_main_v75]
theorem ref_k (l : Fin 256) : val_main_v214 (F := Ideal) x w g (ix3 s R l)
    = val_main_v111 (F := Ideal) x w g (ix4 s R ⟨l.val / 128, by omega⟩ ⟨l.val % 128, by omega⟩) := by
  pointwise [val_main_v214]
theorem ref_k' (l : Fin 256) : val_main_v218 (F := Ideal) x w g (ix3 s R l) = val_main_v214 (F := Ideal) x w g (ix3 s R l) :=
  (val_main_v218_apply (F := Ideal) x w g (ix3 s R l)).trans (narrow _)
theorem ref_v (l : Fin 256) : val_main_v29 (F := Ideal) x w g (ix3 s R l) = val_main_v26 (F := Ideal) x w g (ix3 s R ⟨1024 + l.val, by omega⟩) := by
  pointwise [val_main_v29]
theorem ref_v' (l : Fin 256) : val_main_v219 (F := Ideal) x w g (ix3 s R l) = val_main_v29 (F := Ideal) x w g (ix3 s R l) := by
  pointwise [val_main_v219]
theorem ref_iq (l : Fin 512) : val_main_v220 (F := Ideal) x w g (ix3 s R l) = val_main_v148 (F := Ideal) x w g (ix3 s R l) :=
  (val_main_v220_apply (F := Ideal) x w g (ix3 s R l)).trans (narrow _)
theorem ref_iq' (l : Fin 512) : val_main_v148 (F := Ideal) x w g (ix3 s R l)
    = val_main_v147 (F := Ideal) x w g (ix4 s R ⟨l.val / 64, by omega⟩ ⟨l.val % 64, by omega⟩) := by
  pointwise [val_main_v148]
theorem ref_ikw (l : Fin 128) : val_main_v213 (F := Ideal) x w g (ix3 s R l)
    = if h : l.val < 64 then val_main_v185 (F := Ideal) x w g (ix3 s R ⟨l.val, h⟩) else if l.val < 96 then 0
      else if h : l.val < 104 then val_main_v26 (F := Ideal) x w g (ix3 s R ⟨1760 + l.val, by omega⟩) * Ideal.ofBits FTy.f32 0x3D3504F3#32 else 0 := by
  pointwise [val_main_v213, val_main_v212, val_main_v211, val_main_v210, val_main_v209, val_main_v208, val_main_cst_16, val_main_cst_17, val_main_v32]
  by_cases h1 : l.val < 64
  · rw [dif_pos h1, dif_pos h1]
  by_cases h2 : l.val < 96
  · rw [dif_neg h1, dif_neg h1, dif_pos (by omega), if_pos h2]
  by_cases h3 : l.val < 104
  · rw [dif_neg h1, dif_neg h1, dif_neg (by omega), if_neg h2, dif_pos (by omega), dif_pos h3]
    simp only [show 1856 + (l.val - 64 - 32) = 1760 + l.val by omega]
  · rw [dif_neg h1, dif_neg h1, dif_neg (by omega), if_neg h2, dif_neg (by omega), dif_neg h3]
theorem ref_ika (l : Fin 128) : val_main_v222 (F := Ideal) x w g (ix3 s R l)
    = if h : l.val < 64 then val_main_v185 (F := Ideal) x w g (ix3 s R ⟨l.val, h⟩) else 0 := by
  pointwise [val_main_v222, val_main_v221, val_main_v210, val_main_cst_17]
theorem ref_ikb (l : Fin 128) : val_main_v224 (F := Ideal) x w g (ix3 s R l)
    = if h : l.val < 64 then 0 else val_main_v185 (F := Ideal) x w g (ix3 s R ⟨l.val - 64, by omega⟩) := by
  pointwise [val_main_v224, val_main_v223, val_main_v210, val_main_cst_17]
theorem ref_hq (l : Fin 768) : val_main_v226 (F := Ideal) x w g (ix3 s R l)
    = val_main_v26 (F := Ideal) x w g (ix3 s R ⟨1864 + l.val, by omega⟩) * logistic (val_main_v26 (F := Ideal) x w g (ix3 s R ⟨1864 + l.val, by omega⟩)) := by
  pointwise [val_main_v226, val_main_v225, val_main_v33, val_main_call2_v5, val_main_call2_v4, val_main_call2_v3,
    val_main_call2_v2, val_main_call2_v1, val_main_call2_v0, val_main_call2_cst, val_main_call2_cst_0, logistic]
theorem ref_f (l : Fin 768) : val_main_v203 (F := Ideal) x w g p (ix3 s R l)
    = val_main_v11 (F := Ideal) p (ix2 0 l) + (1 - val_main_v11 (F := Ideal) p (ix2 0 l)) * logistic (val_main_v26 (F := Ideal) x w g (ix3 s R ⟨2632 + l.val, by omega⟩)) := by
  pointwise [val_main_v203, val_main_v202, val_main_v201, val_main_v200, val_main_v199, val_main_v198, val_main_v197, val_main_v196,
    val_main_v195, val_main_v194, val_main_v193, val_main_v192, val_main_v191, val_main_v190, val_main_v189, val_main_v188, val_main_v187,
    val_main_v186, val_main_v34, val_main_cst_13, val_main_cst_14, val_main_cst_15, logistic]
theorem ref_hk (l : Fin 768) : val_main_v229 (F := Ideal) x w g p (ix3 s R l) = 1 - val_main_v203 (F := Ideal) x w g p (ix3 s R l) := by
  pointwise [val_main_v229, val_main_v228, val_main_v227, val_main_cst_19]
theorem ref_hv (l : Fin 768) : val_main_v230 (F := Ideal) x w g (ix3 s R l) = val_main_v26 (F := Ideal) x w g (ix3 s R ⟨3400 + l.val, by omega⟩) := by
  pointwise [val_main_v230, val_main_v35]
theorem ref_hg (l : Fin 768) : val_main_v232 (F := Ideal) x w g (ix3 s R l)
    = val_main_v26 (F := Ideal) x w g (ix3 s R ⟨4168 + l.val, by omega⟩) * logistic (val_main_v26 (F := Ideal) x w g (ix3 s R ⟨4168 + l.val, by omega⟩)) := by
  pointwise [val_main_v232, val_main_v231, val_main_v36, val_main_call3_v5, val_main_call3_v4, val_main_call3_v3,
    val_main_call3_v2, val_main_call3_v1, val_main_call3_v0, val_main_call3_cst, val_main_call3_cst_0, logistic]
theorem ref_cq (l : Fin 512) : val_main_v235 (F := Ideal) x w g (ix3 s R l)
    = val_main_v26 (F := Ideal) x w g (ix3 s R ⟨4936 + l.val, by omega⟩) * Ideal.ofBits FTy.f32 0x3DB504F3#32 := by
  pointwise [val_main_v235, val_main_v234, val_main_v233, val_main_cst_20, val_main_v37]
theorem ref_gates (l : Fin 3072) : val_main_v242 (F := Ideal) x w g (ix3 s R l) = logistic (val_main_v26 (F := Ideal) x w g (ix3 s R ⟨5448 + l.val, by omega⟩)) := by
  pointwise [val_main_v242, val_main_v241, val_main_v240, val_main_v239, val_main_v238, val_main_v237, val_main_v236, val_main_v38,
    val_main_cst_21, val_main_cst_22, logistic]

end Results

end Cert.Proof.Proj
-- ==== Proof.ProjHeads.lean ====
/-
  The projection's heads at a grid point: each value the body stores is the reference's, read at the point's rows.
-/
module

public import proofs.«01_k».proof.Proof.ProjResults

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

/-! ## The body's values, of any blocks -/

section Payloads

theorem lane_bits : ∀ l : Fin 128, IntOp.cmpi CmpIPredicate.slt (BitVec.ofNat 32 l.val) 64#32 = if l.val < 64 then 1#1 else 0#1 := by
  decide +kernel
theorem select_lane (l : Fin 128) (y z : EReal) :
    Scalar.select (IntOp.cmpi CmpIPredicate.slt (BitVec.ofNat 32 l.val) 64#32) y z = if l.val < 64 then y else z := by
  rw [lane_bits, select_mask]

variable (H : FVec Ideal S512x1024 .bf16) (a b d : FVec Ideal S512x128 .f32) (r : Fin 512)

theorem pay4_apply (l : Fin 128) : k0_pay4 (F := Ideal) a (ix2 r l) = a (ix2 r l) := by pointwise [k0_pay4]
theorem pay5_apply (l : Fin 128) : k0_pay5 (F := Ideal) a (ix2 r l) = a (ix2 r l) := by pointwise [k0_pay5]
theorem pay6_apply (l : Fin 128) : k0_pay6 (F := Ideal) a (ix2 r l) = a (ix2 r l) := by pointwise [k0_pay6]
theorem pay7_apply (l : Fin 128) : k0_pay7 (F := Ideal) a (ix2 r l) = a (ix2 r l) := by pointwise [k0_pay7]
theorem pay8_apply (l : Fin 128) : k0_pay8 (F := Ideal) a (ix2 r l) = a (ix2 r l) := by pointwise [k0_pay8]
theorem pay9_apply (l : Fin 128) : k0_pay9 (F := Ideal) a (ix2 r l) = a (ix2 r l) := by pointwise [k0_pay9]

theorem pay10_apply (X : FVec Ideal S512x1024 .f32) (G : FVec Ideal S1x1024 .f32) (W : FVec Ideal S1024x768 .bf16) (l : Fin 768) :
    k0_pay10 (F := Ideal) X G W (ix2 r l) = ∑ k, k0_pay3 (F := Ideal) X G (ix2 r k) * W (ix2 k l) := by pointwise [k0_pay10]
theorem pay21_apply (W : FVec Ideal S1024x256 .bf16) (l : Fin 256) :
    k0_pay21 (F := Ideal) H W (ix2 r l) = ∑ k, H (ix2 r k) * W (ix2 k l) := by pointwise [k0_pay21]
theorem pay26_apply (W : FVec Ideal S1024x256 .bf16) (l : Fin 256) :
    k0_pay26 (F := Ideal) H W (ix2 r l) = ∑ k, H (ix2 r k) * W (ix2 k l) := by pointwise [k0_pay26]
theorem pay27_apply (W : FVec Ideal S1024x256 .bf16) (l : Fin 256) :
    k0_pay27 (F := Ideal) H W (ix2 r l) = ∑ k, H (ix2 r k) * W (ix2 k l) := by pointwise [k0_pay27, k0_pay26]
theorem pay28_apply (W : FVec Ideal S1024x512 .bf16) (l : Fin 512) :
    k0_pay28 (F := Ideal) H W (ix2 r l) = ∑ k, H (ix2 r k) * W (ix2 k l) := by pointwise [k0_pay28]
theorem pay33_apply (W : FVec Ideal S1024x128 .bf16) (l : Fin 128) :
    k0_pay33 (F := Ideal) H W (ix2 r l) = ∑ k, H (ix2 r k) * W (ix2 k l) := by pointwise [k0_pay33]

theorem pay14_apply (X : FVec Ideal S512x1024 .f32) (G : FVec Ideal S1x1024 .f32) (W : FVec Ideal S1024x768 .bf16) (l : Fin 128) :
    k0_pay14 (F := Ideal) d (k0_pay11 X G W) (k0_pay12 X G a W) (k0_pay13 X G b W) (ix2 r l)
      = spin16 (fun j => k0_pay10 (F := Ideal) X G W (ix2 r ⟨0 + j.val, by omega⟩)) (fun j => a (ix2 r j)) (fun j => b (ix2 r j))
        (fun j => d (ix2 r j)) l * Ideal.ofBits FTy.f32 0x3E0293EE#32 := by
  pointwise [k0_pay14, k0_pay11, k0_pay12, k0_pay13, spin16, pay4_apply, pay5_apply]

theorem pay15_apply (X : FVec Ideal S512x768 .f32) (l : Fin 128) :
    k0_pay15 (F := Ideal) a b d X (ix2 r l)
      = spin16 (fun j => X (ix2 r ⟨128 + j.val, by omega⟩)) (fun j => a (ix2 r j)) (fun j => b (ix2 r j))
        (fun j => d (ix2 r j)) l * Ideal.ofBits FTy.f32 0x3E0293EE#32 := by
  pointwise [k0_pay15, spin16]
theorem pay16_apply (X : FVec Ideal S512x768 .f32) (l : Fin 128) :
    k0_pay16 (F := Ideal) a b d X (ix2 r l)
      = spin16 (fun j => X (ix2 r ⟨256 + j.val, by omega⟩)) (fun j => a (ix2 r j)) (fun j => b (ix2 r j))
        (fun j => d (ix2 r j)) l * Ideal.ofBits FTy.f32 0x3E0293EE#32 := by
  pointwise [k0_pay16, spin16]
theorem pay18_apply (X : FVec Ideal S512x768 .f32) (l : Fin 128) :
    k0_pay18 (F := Ideal) (k0_pay17 a b d X) (Scalar.ofBits .f32 0x3E0293EE#32) (ix2 r l)
      = spin16 (fun j => X (ix2 r ⟨384 + j.val, by omega⟩)) (fun j => a (ix2 r j)) (fun j => b (ix2 r j))
        (fun j => d (ix2 r j)) l * Ideal.ofBits FTy.f32 0x3E0293EE#32 := by
  pointwise [k0_pay18, k0_pay17, spin16]
theorem pay19_apply (X : FVec Ideal S512x768 .f32) (l : Fin 128) :
    k0_pay19 (F := Ideal) a b d X (ix2 r l)
      = spin16 (fun j => X (ix2 r ⟨512 + j.val, by omega⟩)) (fun j => a (ix2 r j)) (fun j => b (ix2 r j))
        (fun j => d (ix2 r j)) l * Ideal.ofBits FTy.f32 0x3E0293EE#32 := by
  pointwise [k0_pay19, spin16]
theorem pay20_apply (X : FVec Ideal S512x768 .f32) (l : Fin 128) :
    k0_pay20 (F := Ideal) a b d X (ix2 r l)
      = spin16 (fun j => X (ix2 r ⟨640 + j.val, by omega⟩)) (fun j => a (ix2 r j)) (fun j => b (ix2 r j))
        (fun j => d (ix2 r j)) l * Ideal.ofBits FTy.f32 0x3E0293EE#32 := by
  pointwise [k0_pay20, spin16]

theorem pay22_apply (W : FVec Ideal S1024x256 .bf16) (l : Fin 128) :
    k0_pay22 (F := Ideal) H a b d W (ix2 r l)
      = spin16 (fun j => k0_pay21 (F := Ideal) H W (ix2 r ⟨0 + j.val, by omega⟩)) (fun j => a (ix2 r j)) (fun j => b (ix2 r j))
        (fun j => d (ix2 r j)) l := by
  pointwise [k0_pay22, spin16]
theorem pay24_apply (X : FVec Ideal S512x256 .f32) (l : Fin 128) :
    k0_pay24 (F := Ideal) a b d X (ix2 r l)
      = spin16 (fun j => X (ix2 r ⟨128 + j.val, by omega⟩)) (fun j => a (ix2 r j)) (fun j => b (ix2 r j)) (fun j => d (ix2 r j)) l := by
  pointwise [k0_pay24, spin16]

theorem pay29_apply (W : FVec Ideal S1024x512 .bf16) (l : Fin 128) :
    k0_pay29 (F := Ideal) H a b d W (ix2 r l)
      = spin8 (fun j => k0_pay28 (F := Ideal) H W (ix2 r ⟨0 + j.val, by omega⟩)) (fun j => a (ix2 r j)) (fun j => b (ix2 r j))
        (fun j => d (ix2 r j)) l := by
  pointwise [k0_pay29, spin8]
theorem pay30_apply (X : FVec Ideal S512x512 .f32) (l : Fin 128) :
    k0_pay30 (F := Ideal) a b d X (ix2 r l)
      = spin8 (fun j => X (ix2 r ⟨128 + j.val, by omega⟩)) (fun j => a (ix2 r j)) (fun j => b (ix2 r j)) (fun j => d (ix2 r j)) l := by
  pointwise [k0_pay30, spin8]
theorem pay31_apply (X : FVec Ideal S512x512 .f32) (l : Fin 128) :
    k0_pay31 (F := Ideal) a b d X (ix2 r l)
      = spin8 (fun j => X (ix2 r ⟨256 + j.val, by omega⟩)) (fun j => a (ix2 r j)) (fun j => b (ix2 r j)) (fun j => d (ix2 r j)) l := by
  pointwise [k0_pay31, spin8]
theorem pay32_apply (X : FVec Ideal S512x512 .f32) (l : Fin 128) :
    k0_pay32 (F := Ideal) a b d X (ix2 r l)
      = spin8 (fun j => X (ix2 r ⟨384 + j.val, by omega⟩)) (fun j => a (ix2 r j)) (fun j => b (ix2 r j)) (fun j => d (ix2 r j)) l := by
  pointwise [k0_pay32, spin8]

theorem pay35_apply (W : FVec Ideal S1024x128 .bf16) (l : Fin 128) :
    k0_pay35 (F := Ideal) d (k0_pay33 H W) (k0_pay34 H a b W) 120#32 (ix2 r l)
      = spin8 (fun j => k0_pay33 (F := Ideal) H W (ix2 r j)) (fun j => a (ix2 r j)) (fun j => b (ix2 r j)) (fun j => d (ix2 r j)) l := by
  pointwise [k0_pay35, k0_pay34, spin8]

theorem pay36_apply (X Y : FVec Ideal S512x128 .f32) (k : BitVec 32) (l : Fin 128) :
    k0_pay36 (F := Ideal) d X Y k (ix2 r l) = if l.val < 64 then k0_pay35 d X Y k (ix2 r l)
      else k0_pay35 d X Y k (ix2 r l) * Ideal.ofBits FTy.f32 0x3D3504F3#32 := by
  pointwise [k0_pay36]
  exact select_lane l _ _
theorem pay37_apply (X Y : FVec Ideal S512x128 .f32) (k : BitVec 32) (l : Fin 64) :
    k0_pay37 (F := Ideal) d X Y k (ix2 r l) = k0_pay35 d X Y k (ix2 r ⟨l.val, by omega⟩) := by
  pointwise [k0_pay37]
theorem pay38_apply (X Y : FVec Ideal S512x128 .f32) (k : BitVec 32) (l : Fin 128) :
    k0_pay38 (F := Ideal) d X Y k (ix2 r l) = if l.val < 64 then k0_pay35 d X Y k (ix2 r l) else 0 := by
  pointwise [k0_pay38]
  exact select_lane l _ _
theorem pay39_apply (X Y : FVec Ideal S512x128 .f32) (k : BitVec 32) (l : Fin 128) :
    k0_pay39 (F := Ideal) d X Y k (ix2 r l) = k0_pay38 d X Y k (ix2 r l) := by
  pointwise [k0_pay39]
theorem pay40_apply (X Y : FVec Ideal S512x128 .f32) (k : BitVec 32) (l : Fin 128) :
    k0_pay40 (F := Ideal) d X Y k (ix2 r l) = k0_pay38 d X Y k (ix2 r ⟨(l.val + 128 - 64) % 128, by omega⟩) := by
  pointwise [k0_pay40]

theorem pay41_apply (W : FVec Ideal S1024x768 .bf16) (l : Fin 768) :
    k0_pay41 (F := Ideal) H W (ix2 r l) = (∑ k, H (ix2 r k) * W (ix2 k l)) * logistic (∑ k, H (ix2 r k) * W (ix2 k l)) := by
  pointwise [k0_pay41, logistic, zero_sub]
theorem pay42_apply (L : FVec Ideal S1x768 .f32) (W : FVec Ideal S1024x768 .bf16) (l : Fin 768) :
    k0_pay42 (F := Ideal) H L W (ix2 r l) = L (ix2 0 l) + (1 - L (ix2 0 l)) * logistic (∑ k, H (ix2 r k) * W (ix2 k l)) := by
  pointwise [k0_pay42, logistic, zero_sub]
theorem pay43_apply (L : FVec Ideal S1x768 .f32) (W : FVec Ideal S1024x768 .bf16) (l : Fin 768) :
    k0_pay43 (F := Ideal) H L W (ix2 r l) = 1 - k0_pay42 (F := Ideal) H L W (ix2 r l) := by
  pointwise [k0_pay43]
theorem pay51_apply (W : FVec Ideal S1024x768 .bf16) (l : Fin 768) :
    k0_pay51 (F := Ideal) H W (ix2 r l) = ∑ k, H (ix2 r k) * W (ix2 k l) := by pointwise [k0_pay51]
theorem pay52_apply (W : FVec Ideal S1024x768 .bf16) (l : Fin 768) :
    k0_pay52 (F := Ideal) H W (ix2 r l) = (∑ k, H (ix2 r k) * W (ix2 k l)) * logistic (∑ k, H (ix2 r k) * W (ix2 k l)) := by
  pointwise [k0_pay52, logistic, zero_sub]
theorem pay53_apply (W : FVec Ideal S1024x512 .bf16) (l : Fin 512) :
    k0_pay53 (F := Ideal) H W (ix2 r l) = (∑ k, H (ix2 r k) * W (ix2 k l)) * Ideal.ofBits FTy.f32 0x3DB504F3#32 := by pointwise [k0_pay53]
theorem pay54_apply (W : FVec Ideal S1024x768 .bf16) (l : Fin 768) :
    k0_pay54 (F := Ideal) H W (ix2 r l) = logistic (∑ k, H (ix2 r k) * W (ix2 k l)) := by pointwise [k0_pay54, logistic, zero_sub]
theorem pay55_apply (W : FVec Ideal S1024x768 .bf16) (l : Fin 768) :
    k0_pay55 (F := Ideal) H W (ix2 r l) = logistic (∑ k, H (ix2 r k) * W (ix2 k l)) := by pointwise [k0_pay55, logistic, zero_sub]
theorem pay1_apply (W : FVec Ideal S1024x768 .bf16) (l : Fin 768) :
    k0_pay1 (F := Ideal) (k0_pay56 H W) (k0_pay57 (F := Ideal)) (ix2 r l) = logistic (∑ k, H (ix2 r k) * W (ix2 k l)) := by
  pointwise [k0_pay1, k0_pay56, k0_pay57, logistic, zero_sub]
theorem pay2_apply (W : FVec Ideal S1024x768 .bf16) (l : Fin 768) :
    k0_pay2 (F := Ideal) H W (ix2 r l) = logistic (∑ k, H (ix2 r k) * W (ix2 k l)) := by pointwise [k0_pay2, logistic, zero_sub]

end Payloads

end Cert.Proof.Proj
-- ==== Proof.ProjPoint.lean ====
/-
  The projection at a grid point: each value the body stores is the reference's result, read at the point's rows.
-/
module

public import proofs.«01_k».proof.Proof.ProjHeads

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

section Reference

variable (x : FVec Ideal S4x8192x1024 .f32) (w : FVec Ideal S1024x8520 .f32) (g : FVec Ideal S1024 .f32) (s : Fin 4) (R : Fin 8192)

theorem ref_query_head (h : Fin 6) (o : Nat) (ho : o = h.val * 128) (l : Fin 128) :
    val_main_v217 (F := Ideal) x w g (ix3 s R ⟨o + l.val, by omega⟩)
      = rope16 (fun j => val_main_v26 (F := Ideal) x w g (ix3 s R ⟨o + j.val, by omega⟩)) (cosA R) (sinA R) l
        * Ideal.ofBits FTy.f32 0x3E0293EE#32 := by
  subst ho
  have e1 : (⟨(h.val * 128 + l.val) / 128, by omega⟩ : Fin 6) = h := Fin.ext (by show (h.val * 128 + l.val) / 128 = h.val; omega)
  have e2 : (⟨(h.val * 128 + l.val) % 128, by omega⟩ : Fin 128) = l := Fin.ext (by show (h.val * 128 + l.val) % 128 = l.val; omega)
  refine (ref_q x w g s R _).trans (congrArg (· * _) ((ref_q' x w g s R _).trans ?_))
  exact (congr (congrArg (fun a b => val_main_v74 (F := Ideal) x w g (ix4 s R a b)) e1) e2).trans (ref_query x w g s R h l)

theorem ref_key_head (h : Fin 2) (o : Nat) (ho : o = h.val * 128) (l : Fin 128) :
    val_main_v214 (F := Ideal) x w g (ix3 s R ⟨o + l.val, by omega⟩)
      = rope16 (fun j => val_main_v26 (F := Ideal) x w g (ix3 s R ⟨768 + (o + j.val), by omega⟩)) (cosA R) (sinA R) l := by
  subst ho
  have e1 : (⟨(h.val * 128 + l.val) / 128, by omega⟩ : Fin 2) = h := Fin.ext (by show (h.val * 128 + l.val) / 128 = h.val; omega)
  have e2 : (⟨(h.val * 128 + l.val) % 128, by omega⟩ : Fin 128) = l := Fin.ext (by show (h.val * 128 + l.val) % 128 = l.val; omega)
  refine (ref_k x w g s R _).trans ?_
  exact (congr (congrArg (fun a b => val_main_v111 (F := Ideal) x w g (ix4 s R a b)) e1) e2).trans (ref_key x w g s R h l)

theorem ref_index_head (h : Fin 4) (o : Nat) (ho : o = h.val * 128) (l : Fin 128) :
    val_main_v220 (F := Ideal) x w g (ix3 s R ⟨o + l.val, by omega⟩)
      = rope8 (fun j => val_main_v26 (F := Ideal) x w g (ix3 s R ⟨1280 + (o + j.val), by omega⟩)) (cosI R) (sinI R) l := by
  refine (ref_iq x w g s R _).trans ((ref_iq' x w g s R _).trans ((ref_index_query x w g s R _ _).trans ?_))
  refine (congrArg (fun Y => rope8 Y _ _ _) (funext fun j => ?_)).trans (congrArg (rope8 _ _ _)
    (Fin.ext (by show (o + l.val) / 64 % 2 * 64 + (o + l.val) % 64 = l.val; omega)))
  exact congrArg (fun q => val_main_v26 (F := Ideal) x w g (ix3 s R q))
    (Fin.ext (by show 1280 + ((o + l.val) / 64 / 2 * 128 + j.val) = 1280 + (o + j.val); omega))

theorem query_turn (Y a b d : Fin 128 → EReal) (h : Fin 6) (o : Nat) (ho : o = h.val * 128) (l : Fin 128)
    (hY : ∀ j : Fin 128, Y j = val_main_v26 (F := Ideal) x w g (ix3 s R ⟨o + j.val, by omega⟩))
    (ha : a l = if l.val < 32 then cosA R ⟨l.val % 16, by omega⟩ else 1)
    (hb : b l = if 16 ≤ l.val ∧ l.val < 32 then sinA R ⟨l.val % 16, by omega⟩ else 0)
    (hd : d l = if l.val < 16 then -sinA R ⟨l.val % 16, by omega⟩ else 0) :
    spin16 Y a b d l * Ideal.ofBits FTy.f32 0x3E0293EE#32 = val_main_v217 (F := Ideal) x w g (ix3 s R ⟨o + l.val, by omega⟩) := by
  rw [spin16_eq Y a b d (cosA R) (sinA R) l ha hb hd, funext hY]
  exact (ref_query_head x w g s R h o ho l).symm

theorem key_turn (Y a b d : Fin 128 → EReal) (h : Fin 2) (o : Nat) (ho : o = h.val * 128) (l : Fin 128)
    (hY : ∀ j : Fin 128, Y j = val_main_v26 (F := Ideal) x w g (ix3 s R ⟨768 + (o + j.val), by omega⟩))
    (ha : a l = if l.val < 32 then cosA R ⟨l.val % 16, by omega⟩ else 1)
    (hb : b l = if 16 ≤ l.val ∧ l.val < 32 then sinA R ⟨l.val % 16, by omega⟩ else 0)
    (hd : d l = if l.val < 16 then -sinA R ⟨l.val % 16, by omega⟩ else 0) :
    spin16 Y a b d l = val_main_v214 (F := Ideal) x w g (ix3 s R ⟨o + l.val, by omega⟩) := by
  rw [spin16_eq Y a b d (cosA R) (sinA R) l ha hb hd, funext hY]
  exact (ref_key_head x w g s R h o ho l).symm

theorem index_turn (Y a b d : Fin 128 → EReal) (h : Fin 4) (o : Nat) (ho : o = h.val * 128) (l : Fin 128)
    (hY : ∀ j : Fin 128, Y j = val_main_v26 (F := Ideal) x w g (ix3 s R ⟨1280 + (o + j.val), by omega⟩))
    (ha : a l = if l.val % 64 < 16 then cosI R ⟨l.val % 8, by omega⟩ else 1)
    (hb : b l = if 8 ≤ l.val % 64 ∧ l.val % 64 < 16 then sinI R ⟨l.val % 8, by omega⟩ else 0)
    (hd : d l = if l.val % 64 < 8 then -sinI R ⟨l.val % 8, by omega⟩ else 0) :
    spin8 Y a b d l = val_main_v220 (F := Ideal) x w g (ix3 s R ⟨o + l.val, by omega⟩) := by
  rw [spin8_eq Y a b d (cosI R) (sinI R) l ha hb hd, funext hY]
  exact (ref_index_head x w g s R h o ho l).symm

/-- The turned index row: its first 64 lanes are the index key, and the lanes after them are not turned. -/
theorem index_row_turn (Y a b d : Fin 128 → EReal) (l : Fin 128)
    (hY : ∀ j : Fin 128, Y j = if h : j.val < 64 then val_main_v26 (F := Ideal) x w g (ix3 s R ⟨1792 + j.val, by omega⟩) else if h : j.val < 96 then 0
      else if h : j.val < 104 then val_main_v26 (F := Ideal) x w g (ix3 s R ⟨1760 + j.val, by omega⟩) else 0)
    (ha : a l = if l.val % 64 < 16 then cosI R ⟨l.val % 8, by omega⟩ else 1)
    (hb : b l = if 8 ≤ l.val % 64 ∧ l.val % 64 < 16 then sinI R ⟨l.val % 8, by omega⟩ else 0)
    (hd : d l = if l.val % 64 < 8 then -sinI R ⟨l.val % 8, by omega⟩ else 0) :
    spin8 Y a b d l = if h : l.val < 64 then val_main_v185 (F := Ideal) x w g (ix3 s R ⟨l.val, h⟩)
      else if h : l.val < 96 then 0 else if h : l.val < 104 then val_main_v26 (F := Ideal) x w g (ix3 s R ⟨1760 + l.val, by omega⟩) else 0 := by
  rw [spin8_eq Y a b d (cosI R) (sinI R) l ha hb hd]
  by_cases h : l.val < 64
  · rw [dif_pos h, ref_index_key x w g s R ⟨l.val, h⟩, funext hY]
  · rw [dif_neg h]
    unfold rope8
    by_cases h1 : l.val % 64 < 8
    · simp only [hY, dif_pos h1, dif_neg h, dif_pos (show l.val < 96 by omega), dif_neg (show ¬ l.val + 8 < 64 by omega),
        dif_pos (show l.val + 8 < 96 by omega), zero_mul, sub_zero]
    by_cases h2 : l.val % 64 < 16
    · simp only [hY, dif_neg h1, dif_pos h2, dif_neg h, dif_pos (show l.val < 96 by omega), dif_neg (show ¬ l.val - 8 < 64 by omega),
        dif_pos (show l.val - 8 < 96 by omega), zero_mul, add_zero]
    · simp only [hY, dif_neg h1, dif_neg h2, dif_neg h]

end Reference

variable (m : (ℓ : Loc nD τ sig) → Buf (Elt Ideal) ℓ) (c : Dev nD) (t : Fin cfg0.N) (r : Fin 512)

/-- A value of the body, of a grid point's blocks. -/
abbrev on {α : Type} (f : Vec Ideal S512x1024 .f32 → Vec Ideal S1x1024 .f32 → Vec Ideal S1x768 .f32 → Vec Ideal S1024x8576 .bf16 →
    Vec Ideal S256x256 .bf16 → Vec Ideal S512x128 .f32 → Vec Ideal S512x128 .f32 → Vec Ideal S512x128 .f32 → Vec Ideal S512x128 .f32 →
    Vec Ideal S512x128 .f32 → Vec Ideal S512x128 .f32 → α) : α :=
  f (iblk m c 0 t) (iblk m c 1 t) (iblk m c 2 t) (iblk m c 3 t) (iblk m c 4 t) (iblk m c 5 t) (iblk m c 6 t) (iblk m c 7 t)
    (iblk m c 8 t) (iblk m c 9 t) (iblk m c 10 t)

theorem whole (v : FVec Ideal S512x128 .f32) (l : Fin 128) : v (r0_2.idx (ix2 r l)) = v (ix2 r l) :=
  congrArg v (funext fun x => Fin.ext (by
    match x with
    | ⟨0, _⟩ => show 0 + 1 * r.val = r.val; omega
    | ⟨1, _⟩ => show 0 + 1 * l.val = l.val; omega))

/-! ## The tables and the projected heads -/

theorem cosA_at (l : Fin 128) : on m c t k0_pay59 (ix2 r l) = if l.val < 32 then cosA (row t r) ⟨l.val % 16, by omega⟩ else 1 :=
  (pay4_apply _ r l).trans ((whole r _ l).trans (iblk5_apply m c t r l))
theorem sinUp_at (l : Fin 128) :
    on m c t k0_pay60 (ix2 r l) = if 16 ≤ l.val ∧ l.val < 32 then sinA (row t r) ⟨l.val % 16, by omega⟩ else 0 :=
  (pay5_apply _ r l).trans ((whole r _ l).trans (iblk6_apply m c t r l))
theorem sinDown_at (l : Fin 128) : on m c t k0_pay61 (ix2 r l) = if l.val < 16 then -sinA (row t r) ⟨l.val % 16, by omega⟩ else 0 :=
  (pay6_apply _ r l).trans ((whole r _ l).trans (iblk7_apply m c t r l))
theorem cosI_at (l : Fin 128) : on m c t k0_pay62 (ix2 r l) = if l.val % 64 < 16 then cosI (row t r) ⟨l.val % 8, by omega⟩ else 1 :=
  (pay7_apply _ r l).trans ((whole r _ l).trans (iblk8_apply m c t r l))
theorem sinUpI_at (l : Fin 128) :
    on m c t k0_pay63 (ix2 r l) = if 8 ≤ l.val % 64 ∧ l.val % 64 < 16 then sinI (row t r) ⟨l.val % 8, by omega⟩ else 0 :=
  (pay8_apply _ r l).trans ((whole r _ l).trans (iblk9_apply m c t r l))
theorem sinDownI_at (l : Fin 128) : on m c t k0_pay64 (ix2 r l) = if l.val % 64 < 8 then -sinI (row t r) ⟨l.val % 8, by omega⟩ else 0 :=
  (pay9_apply _ r l).trans ((whole r _ l).trans (iblk10_apply m c t r l))

theorem queries_at (l : Fin 768) : on m c t k0_pay65 (ix2 r l) = proj m c t r ⟨0 + l.val, by omega⟩ :=
  (pay10_apply r _ _ _ l).trans (product_low m c t r 0 768 _ l (by omega))
theorem keys_at (l : Fin 256) : on m c t k0_pay66 (ix2 r l) = proj m c t r ⟨768 + l.val, by omega⟩ :=
  (pay21_apply _ r _ l).trans (product_low m c t r 768 256 _ l (by omega))
theorem indexQueries_at (l : Fin 512) : on m c t k0_pay68 (ix2 r l) = proj m c t r ⟨1280 + l.val, by omega⟩ :=
  (pay28_apply _ r _ l).trans (product_low m c t r 1280 512 _ l (by omega))
theorem indexKeys_at (l : Fin 128) : on m c t k0_pay69 (ix2 r l)
    = if h : l.val < 64 then proj m c t r ⟨1792 + l.val, by omega⟩ else if h : l.val < 96 then 0
      else if h : l.val < 104 then proj m c t r ⟨1760 + l.val, by omega⟩ else 0 :=
  (pay33_apply _ r _ l).trans (product_index m c t r _ l)

/-! ## The turned heads -/

theorem query_head (h : Fin 6) (o : Nat) (ho : o = h.val * 128) (l : Fin 128) :
    spin16 (fun j => on m c t k0_pay65 (ix2 r ⟨o + j.val, by omega⟩)) (fun j => on m c t k0_pay59 (ix2 r j))
      (fun j => on m c t k0_pay60 (ix2 r j)) (fun j => on m c t k0_pay61 (ix2 r j)) l * Ideal.ofBits FTy.f32 0x3E0293EE#32
    = val_main_v217 (F := Ideal) (x m c) (w m c) (gain m c) (ix3 (stream t) (row t r) ⟨o + l.val, by omega⟩) :=
  query_turn (x m c) (w m c) (gain m c) (stream t) (row t r) _ _ _ _ h o ho l
    (fun j => (queries_at m c t r ⟨o + j.val, by omega⟩).trans (congrArg (proj m c t r) (Fin.ext (Nat.zero_add _))))
    (cosA_at m c t r l) (sinUp_at m c t r l) (sinDown_at m c t r l)

theorem key_head (h : Fin 2) (o : Nat) (ho : o = h.val * 128) (l : Fin 128) :
    spin16 (fun j => on m c t k0_pay66 (ix2 r ⟨o + j.val, by omega⟩)) (fun j => on m c t k0_pay59 (ix2 r j))
      (fun j => on m c t k0_pay60 (ix2 r j)) (fun j => on m c t k0_pay61 (ix2 r j)) l
    = val_main_v214 (F := Ideal) (x m c) (w m c) (gain m c) (ix3 (stream t) (row t r) ⟨o + l.val, by omega⟩) :=
  key_turn (x m c) (w m c) (gain m c) (stream t) (row t r) _ _ _ _ h o ho l (fun j => keys_at m c t r ⟨o + j.val, by omega⟩)
    (cosA_at m c t r l) (sinUp_at m c t r l) (sinDown_at m c t r l)

theorem index_head (h : Fin 4) (o : Nat) (ho : o = h.val * 128) (l : Fin 128) :
    spin8 (fun j => on m c t k0_pay68 (ix2 r ⟨o + j.val, by omega⟩)) (fun j => on m c t k0_pay62 (ix2 r j))
      (fun j => on m c t k0_pay63 (ix2 r j)) (fun j => on m c t k0_pay64 (ix2 r j)) l
    = val_main_v220 (F := Ideal) (x m c) (w m c) (gain m c) (ix3 (stream t) (row t r) ⟨o + l.val, by omega⟩) :=
  index_turn (x m c) (w m c) (gain m c) (stream t) (row t r) _ _ _ _ h o ho l (fun j => indexQueries_at m c t r ⟨o + j.val, by omega⟩)
    (cosI_at m c t r l) (sinUpI_at m c t r l) (sinDownI_at m c t r l)

theorem index_row (l : Fin 128) :
    spin8 (fun j => on m c t k0_pay69 (ix2 r j)) (fun j => on m c t k0_pay62 (ix2 r j))
      (fun j => on m c t k0_pay63 (ix2 r j)) (fun j => on m c t k0_pay64 (ix2 r j)) l
    = if h : l.val < 64 then val_main_v185 (F := Ideal) (x m c) (w m c) (gain m c) (ix3 (stream t) (row t r) ⟨l.val, h⟩)
      else if h : l.val < 96 then 0 else if h : l.val < 104 then proj m c t r ⟨1760 + l.val, by omega⟩ else 0 :=
  index_row_turn (x m c) (w m c) (gain m c) (stream t) (row t r) _ _ _ _ l (fun j => indexKeys_at m c t r j)
    (cosI_at m c t r l) (sinUpI_at m c t r l) (sinDownI_at m c t r l)

end Cert.Proof.Proj
-- ==== Proof.ProjWindows.lean ====
/-
  The projection's blocks: at a grid point each window's staging buffer is left holding the point's rows of the reference's result.
-/
module

public import proofs.«01_k».proof.Proof.ProjPoint
public import proofs.«01_k».proof.Proof.ProjRun
public import Idealize.ShloMosaic.Lib.Pipeline.ReadBack

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

/-- A grid point's rows of an array of streams. -/
def block {N : Nat} (t : Fin cfg0.N) (v : (⟨3, ![4, 8192, N]⟩ : Shape).Idx → EReal) : (⟨2, ![512, N]⟩ : Shape).Idx → EReal :=
  fun j => v (ix3 (stream t) (row t (j 0)) (j 1))

/-- A store of whole rows in a window of columns is a part of `G` when its elements are. -/
theorem columns {N n : Nat} (o : Nat) (h : ∀ a, (![0, o] : Fin 2 → Nat) a + (![512, n] : Fin 2 → Nat) a ≤ (![512, N] : Fin 2 → Nat) a)
    (G : (⟨2, ![512, N]⟩ : Shape).Idx → EReal) (v : (⟨2, ![512, n]⟩ : Shape).Idx → EReal)
    (e : ∀ (r : Fin 512) (l : Fin n) (hl : o + l.val < N), v (ix2 r l) = G (ix2 r ⟨o + l.val, hl⟩)) :
    ∀ j : (Rect.unit (s := ⟨2, ![512, N]⟩) ![0, o] ![512, n] h).shape.Idx, v j = G ((Rect.unit (s := ⟨2, ![512, N]⟩) ![0, o] ![512, n] h).emb j) := by
  intro j
  have h1 : o + n ≤ N := h 1
  have h2 : (j 1).val < n := (j 1).isLt
  refine ((congrArg v (eq_ix2 (n0 := 512) (n1 := n) j)).trans (e (j 0) (j 1) (by omega))).trans (congrArg G (funext fun x => Fin.ext ?_))
  match x with
  | ⟨0, _⟩ => show (j 0).val = 0 + 1 * (j 0).val; omega
  | ⟨1, _⟩ => show o + (j 1).val = o + 1 * (j 1).val; omega

variable (m : (ℓ : Loc nD τ sig) → Buf (Elt Ideal) ℓ) (c : Dev nD) (t : Fin cfg0.N)

/-- Two blocks agree when they do at each row and lane. -/
theorem block_ext {N : Nat} {u v : (⟨2, ![512, N]⟩ : Shape).Idx → EReal} (h : ∀ r l, u (ix2 r l) = v (ix2 r l)) : u = v :=
  funext fun j => (congrArg u (eq_ix2 (n0 := 512) (n1 := N) j)).trans ((h (j 0) (j 1)).trans (congrArg v (eq_ix2 (n0 := 512) (n1 := N) j).symm))

/-! ## The values that are sums only -/

/-- A product of a grid point's rows with the packed weights from column `o`, past the index weights: the reference's, 56 columns
    before. -/
theorem high (r : Fin 512) (o n p : Nat) (h : ∀ a, (![0, o] : Fin 2 → Nat) a + (![1024, n] : Fin 2 → Nat) a ≤ S1024x8576.size a) (l : Fin n)
    (h1 : 1920 ≤ o) (hp : p + 56 = o) (hl : p + l.val < 8520) :
    ∑ k : Fin 1024, rows m c t (ix2 r k) * View.ld (iblk m c 3 t) (Rect.unit (s := S1024x8576) ![0, o] ![1024, n] h) (ix2 k l)
      = proj m c t r ⟨p + l.val, hl⟩ :=
  (product_high m c t r o n h l h1 (by omega)).trans (congrArg (proj m c t r) (Fin.ext (by show o + l.val - 56 = p + l.val; omega)))

theorem out13 : on m c t out0_13 = block t (val_main_v29 (F := Ideal) (x m c) (w m c) (gain m c)) :=
  (View.canon_cons_unit_zero (by decide) inb_S512x256_S512x256_0_0 _ _).trans (block_ext fun r l =>
    (pay26_apply _ r _ l).trans ((product_low m c t r 1024 256 _ l (by omega)).trans
      (ref_v (x m c) (w m c) (gain m c) (stream t) (row t r) l).symm))

theorem out15 : on m c t out0_15 = block t (val_main_v219 (F := Ideal) (x m c) (w m c) (gain m c)) :=
  (View.canon_cons_unit_zero (by decide) inb_S512x256_S512x256_0_0 _ _).trans (block_ext fun r l =>
    (pay27_apply _ r _ l).trans ((product_low m c t r 1024 256 _ l (by omega)).trans
      ((ref_v' (x m c) (w m c) (gain m c) (stream t) (row t r) l).trans (ref_v (x m c) (w m c) (gain m c) (stream t) (row t r) l)).symm))

theorem out20 : on m c t out0_20 = block t (val_main_v226 (F := Ideal) (x m c) (w m c) (gain m c)) :=
  (View.canon_cons_unit_zero (by decide) inb_S512x768_S512x768_0_0 _ _).trans (block_ext fun r l =>
    (pay41_apply _ r _ l).trans ((congrArg (fun y => y * logistic y) (high m c t r 1920 768 1864 _ l (by omega) rfl (by omega))).trans
      (ref_hq (x m c) (w m c) (gain m c) (stream t) (row t r) l).symm))

theorem out23 : on m c t out0_23 = block t (val_main_v230 (F := Ideal) (x m c) (w m c) (gain m c)) :=
  (View.canon_cons_unit_zero (by decide) inb_S512x768_S512x768_0_0 _ _).trans (block_ext fun r l =>
    (pay51_apply _ r _ l).trans ((high m c t r 3456 768 3400 _ l (by omega) rfl (by omega)).trans
      (ref_hv (x m c) (w m c) (gain m c) (stream t) (row t r) l).symm))

theorem out24 : on m c t out0_24 = block t (val_main_v232 (F := Ideal) (x m c) (w m c) (gain m c)) :=
  (View.canon_cons_unit_zero (by decide) inb_S512x768_S512x768_0_0 _ _).trans (block_ext fun r l =>
    (pay52_apply _ r _ l).trans ((congrArg (fun y => y * logistic y) (high m c t r 4224 768 4168 _ l (by omega) rfl (by omega))).trans
      (ref_hg (x m c) (w m c) (gain m c) (stream t) (row t r) l).symm))

theorem out25 : on m c t out0_25 = block t (val_main_v235 (F := Ideal) (x m c) (w m c) (gain m c)) :=
  (View.canon_cons_unit_zero (by decide) inb_S512x512_S512x512_0_0 _ _).trans (block_ext fun r l =>
    (pay53_apply _ r _ l).trans ((congrArg (· * _) (high m c t r 4992 512 4936 _ l (by omega) rfl (by omega))).trans
      (ref_cq (x m c) (w m c) (gain m c) (stream t) (row t r) l).symm))

theorem gates (r : Fin 512) (o p : Nat) (h : ∀ a, (![0, o] : Fin 2 → Nat) a + (![1024, 768] : Fin 2 → Nat) a ≤ S1024x8576.size a)
    (hp : p + 5504 = o) (l : Fin 768) (hl : p + l.val < 3072) :
    logistic (∑ k : Fin 1024, rows m c t (ix2 r k) * View.ld (iblk m c 3 t) (Rect.unit (s := S1024x8576) ![0, o] ![1024, 768] h) (ix2 k l))
      = block t (val_main_v242 (F := Ideal) (x m c) (w m c) (gain m c)) (ix2 r ⟨p + l.val, hl⟩) :=
  (congrArg logistic ((high m c t r o 768 (p + 5448) h l (by omega) (by omega) (by omega)).trans
    (congrArg (proj m c t r) (Fin.ext (by show p + 5448 + l.val = 5448 + (p + l.val); omega))))).trans
    (ref_gates (x m c) (w m c) (gain m c) (stream t) (row t r) ⟨p + l.val, hl⟩).symm

theorem out26 : on m c t out0_26 = block t (val_main_v242 (F := Ideal) (x m c) (w m c) (gain m c)) :=
  funext fun y => View.canon_append_of_piecesOf _ [] [_, _, _, _]
    ⟨columns 2304 inb_S512x3072_S512x768_0_2304 _ _ fun r l hl => (pay2_apply _ r _ l).trans (gates m c t r 7808 2304 _ (by omega) l hl),
     columns 1536 inb_S512x3072_S512x768_0_1536 _ _ fun r l hl => (pay1_apply _ r _ l).trans (gates m c t r 7040 1536 _ (by omega) l hl),
     columns 768 inb_S512x3072_S512x768_0_768 _ _ fun r l hl => (pay55_apply _ r _ l).trans (gates m c t r 6272 768 _ (by omega) l hl),
     columns 0 inb_S512x3072_S512x768_0_0 _ _ fun r l hl => (pay54_apply _ r _ l).trans (gates m c t r 5504 0 _ (by omega) l hl), trivial⟩ y
    (cover0_26 _ _ _ _ y)

/-! ## The turned heads -/

theorem key0 (r : Fin 512) (l : Fin 128) (hl : 0 + l.val < 256) : on m c t k0_pay67 (ix2 r l)
    = block t (val_main_v214 (F := Ideal) (x m c) (w m c) (gain m c)) (ix2 r ⟨0 + l.val, hl⟩) :=
  (pay22_apply _ _ _ _ r _ l).trans (key_head m c t r 0 0 rfl l)
theorem key1 (r : Fin 512) (l : Fin 128) (hl : 128 + l.val < 256) :
    k0_pay24 (F := Ideal) (on m c t k0_pay59) (on m c t k0_pay60) (on m c t k0_pay61) (on m c t k0_pay66) (ix2 r l)
    = block t (val_main_v214 (F := Ideal) (x m c) (w m c) (gain m c)) (ix2 r ⟨128 + l.val, hl⟩) :=
  (pay24_apply _ _ _ r _ l).trans (key_head m c t r 1 128 rfl l)

theorem out12 : on m c t out0_12 = block t (val_main_v214 (F := Ideal) (x m c) (w m c) (gain m c)) :=
  funext fun y => View.canon_append_of_piecesOf _ [] [_, _]
    ⟨columns 128 inb_S512x256_S512x128_0_128 _ _ (key1 m c t),
     columns 0 inb_S512x256_S512x128_0_0 _ _ (key0 m c t), trivial⟩ y
    (cover0_12 _ _ y)

/-- The narrowed keys are the keys. -/
theorem narrowed : block t (val_main_v218 (F := Ideal) (x m c) (w m c) (gain m c)) = block t (val_main_v214 (F := Ideal) (x m c) (w m c) (gain m c)) :=
  block_ext fun r l => ref_k' (x m c) (w m c) (gain m c) (stream t) (row t r) l

theorem out14 : on m c t out0_14 = block t (val_main_v218 (F := Ideal) (x m c) (w m c) (gain m c)) :=
  (funext fun y => View.canon_append_of_piecesOf _ [] [_, _]
    ⟨columns 128 inb_S512x256_S512x128_0_128 _ _ (key1 m c t),
     columns 0 inb_S512x256_S512x128_0_0 _ _ (key0 m c t), trivial⟩ y
    (cover0_14 _ _ y)).trans (narrowed m c t).symm

theorem query0 (r : Fin 512) (l : Fin 128) (hl : 0 + l.val < 768) :
    k0_pay14 (F := Ideal) (on m c t k0_pay61) (k0_pay11 (View.ld (iblk m c 0 t) r0_0) (View.ld (iblk m c 1 t) r0_1) (View.ld (iblk m c 3 t) r0_3))
      (k0_pay12 (View.ld (iblk m c 0 t) r0_0) (View.ld (iblk m c 1 t) r0_1) (View.ld (iblk m c 5 t) r0_2) (View.ld (iblk m c 3 t) r0_3))
      (k0_pay13 (View.ld (iblk m c 0 t) r0_0) (View.ld (iblk m c 1 t) r0_1) (View.ld (iblk m c 6 t) r0_2) (View.ld (iblk m c 3 t) r0_3)) (ix2 r l)
    = block t (val_main_v217 (F := Ideal) (x m c) (w m c) (gain m c)) (ix2 r ⟨0 + l.val, hl⟩) :=
  (pay14_apply _ _ _ r _ _ _ l).trans (query_turn (x m c) (w m c) (gain m c) (stream t) (row t r) _ _ _ _ 0 0 rfl l
    (fun j => (queries_at m c t r ⟨0 + j.val, by omega⟩).trans (congrArg (proj m c t r) (Fin.ext (Nat.zero_add _))))
    ((whole r _ l).trans (iblk5_apply m c t r l)) ((whole r _ l).trans (iblk6_apply m c t r l)) (sinDown_at m c t r l))
theorem index0_head (r : Fin 512) (l : Fin 128) (hl : 0 + l.val < 512) :
    k0_pay29 (F := Ideal) (rows m c t) (on m c t k0_pay62) (on m c t k0_pay63) (on m c t k0_pay64) (View.ld (iblk m c 3 t) r0_15) (ix2 r l)
    = block t (val_main_v220 (F := Ideal) (x m c) (w m c) (gain m c)) (ix2 r ⟨0 + l.val, hl⟩) :=
  (pay29_apply _ _ _ _ r _ l).trans (index_turn (x m c) (w m c) (gain m c) (stream t) (row t r) _ _ _ _ 0 0 rfl l
    (fun j => indexQueries_at m c t r ⟨0 + j.val, by omega⟩) (cosI_at m c t r l) (sinUpI_at m c t r l) (sinDownI_at m c t r l))

theorem out11 : on m c t out0_11 = block t (val_main_v217 (F := Ideal) (x m c) (w m c) (gain m c)) :=
  funext fun y => View.canon_append_of_piecesOf _ [] [_, _, _, _, _, _]
    ⟨columns 640 inb_S512x768_S512x128_0_640 _ _ fun r l _ => (pay20_apply _ _ _ r _ l).trans (query_head m c t r 5 640 rfl l),
     columns 512 inb_S512x768_S512x128_0_512 _ _ fun r l _ => (pay19_apply _ _ _ r _ l).trans (query_head m c t r 4 512 rfl l),
     columns 384 inb_S512x768_S512x128_0_384 _ _ fun r l _ => (pay18_apply _ _ _ r _ l).trans (query_head m c t r 3 384 rfl l),
     columns 256 inb_S512x768_S512x128_0_256 _ _ fun r l _ => (pay16_apply _ _ _ r _ l).trans (query_head m c t r 2 256 rfl l),
     columns 128 inb_S512x768_S512x128_0_128 _ _ fun r l _ => (pay15_apply _ _ _ r _ l).trans (query_head m c t r 1 128 rfl l),
     columns 0 inb_S512x768_S512x128_0_0 _ _ (query0 m c t), trivial⟩ y
    (cover0_11 _ _ _ _ _ _ y)

theorem out16 : on m c t out0_16 = block t (val_main_v220 (F := Ideal) (x m c) (w m c) (gain m c)) :=
  funext fun y => View.canon_append_of_piecesOf _ [] [_, _, _, _]
    ⟨columns 384 inb_S512x512_S512x128_0_384 _ _ fun r l _ => (pay32_apply _ _ _ r _ l).trans (index_head m c t r 3 384 rfl l),
     columns 256 inb_S512x512_S512x128_0_256 _ _ fun r l _ => (pay31_apply _ _ _ r _ l).trans (index_head m c t r 2 256 rfl l),
     columns 128 inb_S512x512_S512x128_0_128 _ _ fun r l _ => (pay30_apply _ _ _ r _ l).trans (index_head m c t r 1 128 rfl l),
     columns 0 inb_S512x512_S512x128_0_0 _ _ (index0_head m c t), trivial⟩ y
    (cover0_16 _ _ _ _ y)

/-! ## The index row -/

theorem turned (r : Fin 512) (l : Fin 128) :
    k0_pay35 (F := Ideal) (on m c t k0_pay64) (on m c t k0_pay69) (on m c t k0_pay70) 120#32 (ix2 r l)
    = if h : l.val < 64 then val_main_v185 (F := Ideal) (x m c) (w m c) (gain m c) (ix3 (stream t) (row t r) ⟨l.val, h⟩)
      else if h : l.val < 96 then 0 else if h : l.val < 104 then proj m c t r ⟨1760 + l.val, by omega⟩ else 0 :=
  (pay35_apply _ _ _ _ r _ l).trans (index_row m c t r l)
theorem turned_low (r : Fin 512) (l : Fin 128) (h : l.val < 64) :
    k0_pay35 (F := Ideal) (on m c t k0_pay64) (on m c t k0_pay69) (on m c t k0_pay70) 120#32 (ix2 r l)
    = val_main_v185 (F := Ideal) (x m c) (w m c) (gain m c) (ix3 (stream t) (row t r) ⟨l.val, h⟩) :=
  (turned m c t r l).trans (dif_pos h)

theorem out17 : on m c t out0_17 = block t (val_main_v213 (F := Ideal) (x m c) (w m c) (gain m c)) :=
  (View.canon_cons_unit_zero (by decide) inb_S512x128_S512x128_0_0 _ _).trans (block_ext fun r l =>
    (pay36_apply _ r _ _ _ l).trans (by
      refine Eq.trans ?_ (ref_ikw (x m c) (w m c) (gain m c) (stream t) (row t r) l).symm
      have e := turned m c t r l
      generalize k0_pay35 (F := Ideal) (on m c t k0_pay64) (on m c t k0_pay69) (on m c t k0_pay70) 120#32 (ix2 r l) = q at e ⊢
      subst e
      by_cases h1 : l.val < 64
      · rw [if_pos h1, dif_pos h1, dif_pos h1]
      by_cases h2 : l.val < 96
      · rw [if_neg h1, dif_neg h1, dif_neg h1, dif_pos h2, if_pos h2, zero_mul]
      by_cases h3 : l.val < 104
      · rw [if_neg h1, dif_neg h1, dif_neg h1, dif_neg h2, if_neg h2, dif_pos h3, dif_pos h3]
        rfl
      · rw [if_neg h1, dif_neg h1, dif_neg h1, dif_neg h2, if_neg h2, dif_neg h3, dif_neg h3, zero_mul]))

theorem lowered (r : Fin 512) (l : Fin 128) :
    k0_pay38 (F := Ideal) (on m c t k0_pay64) (on m c t k0_pay69) (on m c t k0_pay70) 120#32 (ix2 r l)
    = if h : l.val < 64 then val_main_v185 (F := Ideal) (x m c) (w m c) (gain m c) (ix3 (stream t) (row t r) ⟨l.val, h⟩) else 0 :=
  (pay38_apply _ r _ _ _ l).trans (by
    by_cases h : l.val < 64
    · rw [if_pos h, dif_pos h]
      exact turned_low m c t r l h
    · rw [if_neg h, dif_neg h])

theorem out18 : on m c t out0_18 = block t (val_main_v222 (F := Ideal) (x m c) (w m c) (gain m c)) :=
  (View.canon_cons_unit_zero (by decide) inb_S512x128_S512x128_0_0 _ _).trans (block_ext fun r l =>
    (pay39_apply _ r _ _ _ l).trans ((lowered m c t r l).trans (ref_ika (x m c) (w m c) (gain m c) (stream t) (row t r) l).symm))

theorem out19 : on m c t out0_19 = block t (val_main_v224 (F := Ideal) (x m c) (w m c) (gain m c)) :=
  (View.canon_cons_unit_zero (by decide) inb_S512x128_S512x128_0_0 _ _).trans (block_ext fun r l =>
    (pay40_apply _ r _ _ _ l).trans ((lowered m c t r _).trans (Eq.trans (by
      by_cases h : l.val < 64
      · rw [dif_neg (show ¬ (l.val + 128 - 64) % 128 < 64 by omega), dif_pos h]
      · rw [dif_pos (show (l.val + 128 - 64) % 128 < 64 by omega), dif_neg h]
        exact congrArg (fun q => val_main_v185 (F := Ideal) (x m c) (w m c) (gain m c) (ix3 (stream t) (row t r) q))
          (Fin.ext (by show (l.val + 128 - 64) % 128 = l.val - 64; omega))) (ref_ikb (x m c) (w m c) (gain m c) (stream t) (row t r) l).symm)))

theorem out27 : on m c t out0_27 = block t (val_main_v185 (F := Ideal) (x m c) (w m c) (gain m c)) :=
  (View.canon_cons_unit_zero (by decide) inb_S512x64_S512x64_0_0 _ _).trans (block_ext fun r l =>
    (pay37_apply _ r _ _ _ l).trans (turned_low m c t r _ l.isLt))

/-! ## The gate -/

theorem iblk2_apply (l : Fin 768) : iblk m c 2 t (ix2 0 l) = val_main_v11 (F := Ideal) (logits m c) (ix2 0 l) := by
  obtain ⟨e0, e1⟩ := index2 t
  show V m c main_v118 (((cfg0.win 2).blk t).view.emb (ix2 0 l)) = _
  have e : ((cfg0.win 2).blk t).view.emb (ix2 0 l) = (ix2 0 l : S1x768.Idx) := funext fun x => Fin.ext (by
    match x with
    | ⟨0, _⟩ => show win0_2.index t (0 : Fin 2) * 1 + 1 * 0 = 0; omega
    | ⟨1, _⟩ => show win0_2.index t (1 : Fin 2) * 768 + 1 * l.val = l.val; omega)
  rw [e, show V m c main_v118 = shapeCast S1x768 (shapeCast S768 (extractStridedSlice S1x768 ![0, 0]
    (val_main_v11 (F := Ideal) (logits m c)) slices_S2x768_S1x768_0_0) shapeCasts_S1x768_S768) shapeCasts_S768_S1x768 from rfl]
  generalize val_main_v11 (F := Ideal) (logits m c) = p
  pointwise

theorem floor_at (l : Fin 768) : View.ld (iblk m c 2 t) r0_24 (ix2 0 l) = val_main_v11 (F := Ideal) (logits m c) (ix2 0 l) :=
  (congrArg (iblk m c 2 t) (funext fun x => Fin.ext (by
    match x with
    | ⟨0, _⟩ => rfl
    | ⟨1, _⟩ => show 0 + 1 * l.val = l.val; omega))).trans (iblk2_apply m c t l)

theorem gate (r : Fin 512) (l : Fin 768) :
    k0_pay42 (F := Ideal) (rows m c t) (View.ld (iblk m c 2 t) r0_24) (View.ld (iblk m c 3 t) r0_25) (ix2 r l)
      = val_main_v203 (F := Ideal) (x m c) (w m c) (gain m c) (logits m c) (ix3 (stream t) (row t r) l) :=
  (pay42_apply _ r _ _ l).trans ((congrArg₂ (fun b y => b + (1 - b) * logistic y) (floor_at m c t l)
    (high m c t r 2688 768 2632 _ l (by omega) rfl (by omega))).trans
    (ref_f (x m c) (w m c) (gain m c) (logits m c) (stream t) (row t r) l).symm)

theorem out21 : on m c t out0_21 = block t (val_main_v229 (F := Ideal) (x m c) (w m c) (gain m c) (logits m c)) :=
  (View.canon_cons_unit_zero (by decide) inb_S512x768_S512x768_0_0 _ _).trans (block_ext fun r l =>
    (pay43_apply _ r _ _ l).trans ((congrArg (1 - ·) (gate m c t r l)).trans
      (ref_hk (x m c) (w m c) (gain m c) (logits m c) (stream t) (row t r) l).symm))

end Cert.Proof.Proj
-- ==== Proof.ProjPrefix.lean ====
/-
  The reference's running sums: of the gate's logarithm over each chunk of 64 rows, and of the forget floor's softmax over its two layers.
-/
module

public import proofs.«01_k».proof.Proof.ProjBlocks
public import Idealize.ShloMosaic.Lib.FinSumWindow

@[expose] public section

set_option maxRecDepth 16384

noncomputable section

open Idealize.ShloMosaic Idealize.ShloMosaic.TcCoe Idealize.SL.Sem
open Cert.ProjRefIdeal

namespace Cert.Proof.Proj

theorem foldl_sum {α : Type} (g : α → EReal) (l : List α) (a : EReal) : l.foldl (fun r n => r + g n) a = a + (l.map g).sum := by
  induction l generalizing a with
  | nil => simp
  | cons n l ih => rw [List.foldl_cons, ih, List.map_cons, List.sum_cons, add_assoc]

/-- A running sum from zero is the sum over the window's indices. -/
theorem foldl_window {W : Shape} (g : W.Idx → EReal) (z : EReal) (hz : z = 0) :
    (List.finRange W.numel).foldl (fun r n => r + g (W.rowMajor.symm n)) z = ∑ i : W.Idx, g i := by
  rw [foldl_sum (fun n => g (W.rowMajor.symm n)), hz, zero_add, ← Fin.sum_univ_def]
  exact Equiv.sum_comp W.rowMajor.symm g

/-- A window of 64 rows and one of the rest: a sum over its indices. -/
theorem sum_rows (g : (⟨4, ![1, 1, 64, 1]⟩ : Shape).Idx → EReal) : ∑ i, g i = ∑ k : Fin 64, g (ix4 0 0 k 0) :=
  (Fintype.sum_bijective (fun k : Fin 64 => (ix4 0 0 k 0 : (⟨4, ![1, 1, 64, 1]⟩ : Shape).Idx))
    ⟨fun a b h => congrFun h 2, fun i => ⟨i 2, funext fun x => match x with
      | ⟨0, _⟩ => Subsingleton.elim (α := Fin 1) _ _
      | ⟨1, _⟩ => Subsingleton.elim (α := Fin 1) _ _
      | ⟨2, _⟩ => rfl
      | ⟨3, _⟩ => Subsingleton.elim (α := Fin 1) _ _⟩⟩ _ _ fun _ => rfl).symm

theorem sum_two (g : (⟨2, ![2, 1]⟩ : Shape).Idx → EReal) : ∑ i, g i = g (ix2 0 0) + g (ix2 1 0) :=
  (Fintype.sum_bijective (fun k : Fin 2 => (ix2 k 0 : (⟨2, ![2, 1]⟩ : Shape).Idx))
    ⟨fun a b h => congrFun h 0, fun i => ⟨i 0, funext fun x => match x with
      | ⟨0, _⟩ => rfl
      | ⟨1, _⟩ => Subsingleton.elim (α := Fin 1) _ _⟩⟩ _ _ fun _ => rfl).symm.trans (Fin.sum_univ_two _)

/-- The window ending at a row holds the rows up to it. -/
theorem turn (i : Fin 64) (y : Fin 64 → EReal) :
    (∑ k : Fin 64, if h : 63 ≤ i.val + k.val then y ⟨i.val + k.val - 63, by omega⟩ else 0) = ∑ k : Fin 64, if k.val ≤ i.val then y k else 0 := by
  rw [← Equiv.sum_comp (Equiv.addRight (i + 1 : Fin 64)) (fun k : Fin 64 => if k.val ≤ i.val then y k else 0)]
  refine Finset.sum_congr rfl fun k _ => ?_
  have e : ((Equiv.addRight (i + 1 : Fin 64)) k).val = (k.val + (i.val + 1)) % 64 := by
    show (k + (i + 1) : Fin 64).val = _
    rw [Fin.val_add, Fin.val_add, Nat.add_mod_mod]
    rfl
  by_cases h : 63 ≤ i.val + k.val
  · rw [dif_pos h, if_pos (by omega)]
    exact congrArg y (Fin.ext (by show i.val + k.val - 63 = _; omega))
  · rw [dif_neg h, if_neg (by omega)]

/-- A window's sum from zero, over the window's indices. -/
theorem window_sum {s t : Shape} (window strides lo hi : Fin s.rank → Nat) (h : s.ReduceWindows window strides lo hi t)
    (v : s.Idx → EReal) (z : EReal) (hz : z = 0) (j : t.Idx) :
    Ideal.hostReduceWindowAdd window strides lo hi h v z j
      = ∑ i : (⟨s.rank, window⟩ : Shape).Idx,
          if hin : ∀ a, lo a ≤ (j (a.cast h.1.symm)).val * strides a + (i a).val
            ∧ (j (a.cast h.1.symm)).val * strides a + (i a).val - lo a < s.size a
          then v (fun a => ⟨(j (a.cast h.1.symm)).val * strides a + (i a).val - lo a, (hin a).2⟩) else z := by
  rw [← foldl_window _ z hz]
  unfold Ideal.hostReduceWindowAdd Host.reduceWindow
  dsimp only
  congr 1
  funext r n
  refine congrArg (r + ·) ?_
  by_cases hp : ∀ a, lo a ≤ (j (a.cast h.1.symm)).val * strides a + ((⟨s.rank, window⟩ : Shape).rowMajor.symm n a).val
    ∧ (j (a.cast h.1.symm)).val * strides a + ((⟨s.rank, window⟩ : Shape).rowMajor.symm n a).val - lo a < s.size a
  · rw [dif_pos hp, dif_pos hp]
  · rw [dif_neg hp, dif_neg hp]

/-- The running sum over each chunk of 64 rows. -/
theorem cumsum_chunk (v : FVec Ideal S4x128x64x768 .f32) (z : EReal) (hz : z = 0)
    (h : S4x128x64x768.ReduceWindows (![1, 1, 64, 1] : Fin 4 → Nat) ![1, 1, 1, 1] ![0, 0, 63, 0] ![0, 0, 0, 0] S4x128x64x768)
    (s : Fin 4) (n : Fin 128) (i : Fin 64) (l : Fin 768) :
    Ideal.hostReduceWindowAdd ![1, 1, 64, 1] ![1, 1, 1, 1] ![0, 0, 63, 0] ![0, 0, 0, 0] h v z (ix4 s n i l)
      = ∑ k : Fin 64, if k.val ≤ i.val then v (ix4 s n k l) else 0 := by
  refine (window_sum _ _ _ _ h v z hz (ix4 s n i l)).trans ((sum_rows _).trans ?_)
  refine Eq.trans (Finset.sum_congr rfl fun k _ => ?_) (turn i fun k => v (ix4 s n k l))
  by_cases hk : 63 ≤ i.val + k.val
  · refine (dif_pos fun a => ?_).trans (Eq.trans ?_ (dif_pos hk).symm)
    · match a with
      | ⟨0, _⟩ => show 0 ≤ s.val * 1 + 0 ∧ s.val * 1 + 0 - 0 < 4; omega
      | ⟨1, _⟩ => show 0 ≤ n.val * 1 + 0 ∧ n.val * 1 + 0 - 0 < 128; omega
      | ⟨2, _⟩ => show 63 ≤ i.val * 1 + k.val ∧ i.val * 1 + k.val - 63 < 64; omega
      | ⟨3, _⟩ => show 0 ≤ l.val * 1 + 0 ∧ l.val * 1 + 0 - 0 < 768; omega
    · refine congrArg v (funext fun a => Fin.ext ?_)
      match a with
      | ⟨0, _⟩ => show s.val * 1 + 0 - 0 = s.val; omega
      | ⟨1, _⟩ => show n.val * 1 + 0 - 0 = n.val; omega
      | ⟨2, _⟩ => show i.val * 1 + k.val - 63 = i.val + k.val - 63; omega
      | ⟨3, _⟩ => show l.val * 1 + 0 - 0 = l.val; omega
  · refine (dif_neg fun hin => hk ?_).trans (hz.trans (Eq.symm (dif_neg hk)))
    have h2 : 63 ≤ i.val * 1 + k.val := (hin 2).1
    omega

/-- The running sum over two layers, at the first: its entry. -/
theorem cumsum_first (v : FVec Ideal S2x768 .f32) (z : EReal) (hz : z = 0)
    (h : S2x768.ReduceWindows (![2, 1] : Fin 2 → Nat) ![1, 1] ![1, 0] ![0, 0] S2x768) (l : Fin 768) :
    Ideal.hostReduceWindowAdd ![2, 1] ![1, 1] ![1, 0] ![0, 0] h v z (ix2 0 l) = v (ix2 0 l) := by
  refine (window_sum _ _ _ _ h v z hz (ix2 0 l)).trans ((sum_two _).trans ?_)
  refine (congrArg₂ (· + ·) ((dif_neg fun hin => ?_).trans hz) (dif_pos fun a => ?_)).trans ((zero_add _).trans ?_)
  · have h0 : 1 ≤ 0 * 1 + 0 := (hin 0).1
    omega
  · match a with
    | ⟨0, _⟩ => show 1 ≤ 0 * 1 + 1 ∧ 0 * 1 + 1 - 1 < 2; omega
    | ⟨1, _⟩ => show 0 ≤ l.val * 1 + 0 ∧ l.val * 1 + 0 - 0 < 768; omega
  · refine congrArg v (funext fun a => Fin.ext ?_)
    match a with
    | ⟨0, _⟩ => show 0 * 1 + 1 - 1 = 0; omega
    | ⟨1, _⟩ => show l.val * 1 + 0 - 0 = l.val; omega

open Cert.ProjRefIdeal.Read

variable (x : FVec Ideal S4x8192x1024 .f32) (w : FVec Ideal S1024x8520 .f32) (g : FVec Ideal S1024 .f32) (p : FVec Ideal S2x768 .f32)

theorem ref_prefix (s : Fin 4) (R : Fin 8192) (l : Fin 768) :
    val_main_v207 (F := Ideal) x w g p (ix3 s R l)
      = ∑ k : Fin 64, if k.val ≤ R.val % 64 then val_main_v204 (F := Ideal) x w g p (ix3 s ⟨R.val / 64 * 64 + k.val, by omega⟩ l) else 0 := by
  have e : val_main_v207 (F := Ideal) x w g p (ix3 s R l)
      = val_main_v206 (F := Ideal) x w g p (ix4 s ⟨R.val / 64, by omega⟩ ⟨R.val % 64, by omega⟩ l) := by
    pointwise [val_main_v207]
  have e' : ∀ k : Fin 64, val_main_v205 (F := Ideal) x w g p (ix4 s ⟨R.val / 64, by omega⟩ k l)
      = val_main_v204 (F := Ideal) x w g p (ix3 s ⟨R.val / 64 * 64 + k.val, by omega⟩ l) := by
    intro k
    pointwise [val_main_v205]
  rw [e]
  refine (cumsum_chunk (val_main_v205 (F := Ideal) x w g p) _ (by pointwise [val_main_call1_call0_v0, val_main_call1_call0_cst])
    Gen.reduceWindows_S4x128x64x768_S4x128x64x768_w1s1p0_0_w1s1p0_0_w64s1p63_0_w1s1p0_0 s ⟨R.val / 64, by omega⟩ ⟨R.val % 64, by omega⟩ l).trans
      (Finset.sum_congr rfl fun k _ => ?_)
  rw [e' k]

theorem ref_first (l : Fin 768) : val_main_v11 (F := Ideal) p (ix2 0 l) = val_main_v10 (F := Ideal) p (ix2 0 l) :=
  cumsum_first (val_main_v10 (F := Ideal) p) _ (by pointwise [val_main_call0_call0_v0, val_main_call0_call0_cst])
    Gen.reduceWindows_S2x768_S2x768_w2s1p1_0_w1s1p0_0 l

end Cert.Proof.Proj

end
-- ==== Proof.ProjFloor.lean ====
/-
  The forget gate is below the greatest extended real, so its logarithm is too.
-/
module

public import proofs.«01_k».proof.Proof.ProjPrefix

@[expose] public section

set_option maxRecDepth 16384

noncomputable section

open Idealize.ShloMosaic Idealize.ShloMosaic.TcCoe Idealize.SL.Sem
open Cert.ProjRefIdeal
open Cert.ProjRefIdeal.Read

namespace Cert.Proof.Proj

theorem exp_bot : Ideal.exp ⊥ = 0 := rfl
theorem exp_top : Ideal.exp ⊤ = ⊤ := rfl
theorem log_bot : Ideal.log ⊥ = ⊥ := rfl

/-- The exponential of a difference from something no smaller is a real, and not negative. -/
theorem exp_sub_le {a b : EReal} (h : a ≤ b) : ∃ r : ℝ, 0 ≤ r ∧ Ideal.exp (a - b) = (r : EReal) := by
  induction a with
  | bot => exact ⟨0, le_refl _, by rw [EReal.bot_sub, exp_bot]; rfl⟩
  | top => exact ⟨0, le_refl _, by rw [top_le_iff.1 h, EReal.sub_top, exp_bot]; rfl⟩
  | coe a =>
    induction b with
    | bot => exact absurd h (by simp)
    | top => exact ⟨0, le_refl _, by rw [EReal.sub_top, exp_bot]; rfl⟩
    | coe b => exact ⟨Real.exp (a - b), (Real.exp_pos _).le, by rw [← EReal.coe_sub]; rfl⟩

/-- A quotient of reals is not the greatest extended real when a zero divisor has a zero dividend. -/
theorem div_ne_top {a b : ℝ} (ha : 0 ≤ a) (hb : 0 ≤ b) : Ideal.div (a : EReal) ((a + b : ℝ) : EReal) ≠ ⊤ := by
  unfold Ideal.div
  by_cases h : ((a + b : ℝ) : EReal) = 0
  · have h0 : a + b = 0 := by exact_mod_cast h
    have ha0 : a = 0 := by linarith
    rw [if_pos h, ha0]
    simp
  · rw [if_neg h, ← EReal.coe_inv, ← EReal.coe_mul]
    exact EReal.coe_ne_top _

/-- The logistic function's values are reals. -/
theorem logistic_real (y : EReal) : ∃ r : ℝ, Ideal.div 1 (1 + Ideal.exp (-y)) = (r : EReal) := by
  induction y with
  | bot => exact ⟨0, by rw [EReal.neg_bot, exp_top, show (1 : EReal) + ⊤ = ⊤ from EReal.coe_add_top 1]; simp [Ideal.div]⟩
  | top => exact ⟨1, by rw [EReal.neg_top, exp_bot, add_zero]; simp [Ideal.div]⟩
  | coe y =>
    have e : (1 : EReal) + Ideal.exp (-(y : EReal)) = ((1 + Real.exp (-y) : ℝ) : EReal) := by
      rw [← EReal.coe_neg]; rfl
    have h : (1 + Real.exp (-y) : ℝ) ≠ 0 := by have := Real.exp_pos (-y); linarith
    refine ⟨1 * (1 + Real.exp (-y))⁻¹, ?_⟩
    rw [e]
    unfold Ideal.div
    rw [if_neg (by exact_mod_cast h), EReal.coe_mul, EReal.coe_inv]
    rfl

/-- Between a floor below the greatest extended real and one, at a real: below the greatest extended real. -/
theorem mix_ne_top {b : EReal} (hb : b ≠ ⊤) (r : ℝ) : b + (1 - b) * (r : EReal) ≠ ⊤ := by
  induction b with
  | bot => simp
  | top => exact absurd rfl hb
  | coe b =>
    have e : (b : EReal) + (1 - (b : EReal)) * (r : EReal) = ((b + (1 - b) * r : ℝ) : EReal) := by
      push_cast; rfl
    rw [e]
    exact EReal.coe_ne_top _

theorem log_ne_top {y : EReal} (h : y ≠ ⊤) : Ideal.log y ≠ ⊤ := by
  induction y with
  | bot => rw [log_bot]; exact bot_ne_top
  | top => exact absurd rfl h
  | coe y =>
    show (if y ≤ 0 then ⊥ else ((Real.log y : ℝ) : EReal)) ≠ ⊤
    split
    · exact bot_ne_top
    · exact EReal.coe_ne_top _

variable (p : FVec Ideal S2x768 .f32)

theorem floor_max (k : Fin 2) (l : Fin 768) : p (ix2 k l) ≤ val_main_v2 (F := Ideal) p (ix1 l) := by
  pointwise [val_main_v2, val_main_v1, val_main_v0]
  exact le_max_of_le_right (Finset.le_fold_max _ |>.2 (Or.inr ⟨k, Finset.mem_univ _, le_refl _⟩))

theorem floor_ne_top (l : Fin 768) : val_main_v11 (F := Ideal) p (ix2 0 l) ≠ ⊤ := by
  rw [ref_first]
  pointwise [val_main_v10, val_main_v9, val_main_v8, val_main_v7, val_main_v6, val_main_v5, val_main_v4, val_main_v3, val_main_cst_1]
  obtain ⟨a, ha, ea⟩ := exp_sub_le (floor_max p 0 l)
  obtain ⟨b, hb, eb⟩ := exp_sub_le (floor_max p 1 l)
  rw [Fin.sum_univ_two, ea, eb, ← EReal.coe_add]
  first
  | exact div_ne_top ha hb
  | (rw [zero_add]; exact div_ne_top ha hb)

end Cert.Proof.Proj

end
-- ==== Proof.ProjBits.lean ====
/-
  What a table of 256 rows and columns holds, read 8 rows at a time.
-/
module

public import proofs.«01_k».proof.Defs

@[expose] public section

set_option maxRecDepth 16384

noncomputable section

open Cert.ProjIdeal

namespace Cert.Proof.Proj

/-- Rows `o` to `o + 7` of the table `f`: ones at the columns of the row's chunk of 64 up to the diagonal, zeros elsewhere. -/
def Bits (f : Nat → BitVec 16) (o : Nat) : Prop := ∀ (a : Fin 8) (b : Fin 256), f ((o + a.val) * 256 + b.val)
  = if b.val / 64 = o / 64 ∧ b.val ≤ o + a.val then 0x3F80#16 else 0#16
instance (f : Nat → BitVec 16) (o : Nat) : Decidable (Bits f o) := inferInstanceAs (Decidable (∀ (a : Fin 8) (b : Fin 256), _ = _))

theorem of_bits (f : Nat → BitVec 16) (h : ∀ j : Fin 32, Bits f (8 * j.val)) (k a : Fin 256) :
    f (k.val * 256 + a.val) = if a.val / 64 = k.val / 64 ∧ a.val ≤ k.val then 0x3F80#16 else 0#16 := by
  have e := h ⟨k.val / 8, by omega⟩ ⟨k.val % 8, by omega⟩ a
  dsimp only at e
  rw [show 8 * (k.val / 8) + k.val % 8 = k.val by omega, show 8 * (k.val / 8) / 64 = k.val / 64 by omega] at e
  exact e

end Cert.Proof.Proj

end
-- ==== Proof.ProjTri0.lean ====
/-
  The matrix of the prefix sums at its rows of chunk 0.
-/
module

public import proofs.«01_k».proof.Proof.ProjBits

@[expose] public section

set_option maxRecDepth 16384

noncomputable section

open Cert.ProjIdeal

namespace Cert.Proof.Proj

theorem bits0 : Bits lit8t 0 := by decide +kernel
theorem bits1 : Bits lit8t 8 := by decide +kernel
theorem bits2 : Bits lit8t 16 := by decide +kernel
theorem bits3 : Bits lit8t 24 := by decide +kernel
theorem bits4 : Bits lit8t 32 := by decide +kernel
theorem bits5 : Bits lit8t 40 := by decide +kernel
theorem bits6 : Bits lit8t 48 := by decide +kernel
theorem bits7 : Bits lit8t 56 := by decide +kernel

end Cert.Proof.Proj

end
-- ==== Proof.ProjTri2.lean ====
/-
  The matrix of the prefix sums at its rows of chunk 2.
-/
module

public import proofs.«01_k».proof.Proof.ProjTri0

@[expose] public section

set_option maxRecDepth 16384

noncomputable section

open Cert.ProjIdeal

namespace Cert.Proof.Proj

theorem bits16 : Bits lit8t 128 := by decide +kernel
theorem bits17 : Bits lit8t 136 := by decide +kernel
theorem bits18 : Bits lit8t 144 := by decide +kernel
theorem bits19 : Bits lit8t 152 := by decide +kernel
theorem bits20 : Bits lit8t 160 := by decide +kernel
theorem bits21 : Bits lit8t 168 := by decide +kernel
theorem bits22 : Bits lit8t 176 := by decide +kernel
theorem bits23 : Bits lit8t 184 := by decide +kernel

end Cert.Proof.Proj

end
-- ==== Proof.ProjTri1.lean ====
/-
  The matrix of the prefix sums at its rows of chunk 1.
-/
module

public import proofs.«01_k».proof.Proof.ProjBits

@[expose] public section

set_option maxRecDepth 16384

noncomputable section

open Cert.ProjIdeal

namespace Cert.Proof.Proj

theorem bits8 : Bits lit8t 64 := by decide +kernel
theorem bits9 : Bits lit8t 72 := by decide +kernel
theorem bits10 : Bits lit8t 80 := by decide +kernel
theorem bits11 : Bits lit8t 88 := by decide +kernel
theorem bits12 : Bits lit8t 96 := by decide +kernel
theorem bits13 : Bits lit8t 104 := by decide +kernel
theorem bits14 : Bits lit8t 112 := by decide +kernel
theorem bits15 : Bits lit8t 120 := by decide +kernel

end Cert.Proof.Proj

end
-- ==== Proof.ProjTri3.lean ====
/-
  The matrix of the prefix sums at its rows of chunk 3.
-/
module

public import proofs.«01_k».proof.Proof.ProjTri1

@[expose] public section

set_option maxRecDepth 16384

noncomputable section

open Cert.ProjIdeal

namespace Cert.Proof.Proj

theorem bits24 : Bits lit8t 192 := by decide +kernel
theorem bits25 : Bits lit8t 200 := by decide +kernel
theorem bits26 : Bits lit8t 208 := by decide +kernel
theorem bits27 : Bits lit8t 216 := by decide +kernel
theorem bits28 : Bits lit8t 224 := by decide +kernel
theorem bits29 : Bits lit8t 232 := by decide +kernel
theorem bits30 : Bits lit8t 240 := by decide +kernel
theorem bits31 : Bits lit8t 248 := by decide +kernel

end Cert.Proof.Proj

end
-- ==== Proof.ProjTri.lean ====
/-
  The matrix of the prefix sums: a row's ones are at its own chunk of 64 columns, up to the diagonal.
-/
module

public import proofs.«01_k».proof.Proof.ProjTri2
public import proofs.«01_k».proof.Proof.ProjTri3

@[expose] public section

set_option maxRecDepth 16384

noncomputable section

open Cert.ProjIdeal

namespace Cert.Proof.Proj

theorem bits : ∀ j : Fin 32, Bits lit8t (8 * j.val)
  | ⟨0, _⟩ => bits0
  | ⟨1, _⟩ => bits1
  | ⟨2, _⟩ => bits2
  | ⟨3, _⟩ => bits3
  | ⟨4, _⟩ => bits4
  | ⟨5, _⟩ => bits5
  | ⟨6, _⟩ => bits6
  | ⟨7, _⟩ => bits7
  | ⟨8, _⟩ => bits8
  | ⟨9, _⟩ => bits9
  | ⟨10, _⟩ => bits10
  | ⟨11, _⟩ => bits11
  | ⟨12, _⟩ => bits12
  | ⟨13, _⟩ => bits13
  | ⟨14, _⟩ => bits14
  | ⟨15, _⟩ => bits15
  | ⟨16, _⟩ => bits16
  | ⟨17, _⟩ => bits17
  | ⟨18, _⟩ => bits18
  | ⟨19, _⟩ => bits19
  | ⟨20, _⟩ => bits20
  | ⟨21, _⟩ => bits21
  | ⟨22, _⟩ => bits22
  | ⟨23, _⟩ => bits23
  | ⟨24, _⟩ => bits24
  | ⟨25, _⟩ => bits25
  | ⟨26, _⟩ => bits26
  | ⟨27, _⟩ => bits27
  | ⟨28, _⟩ => bits28
  | ⟨29, _⟩ => bits29
  | ⟨30, _⟩ => bits30
  | ⟨31, _⟩ => bits31
  | ⟨j + 32, h⟩ => absurd h (by omega)

theorem tri_bits (k a : Fin 256) :
    lit8t (k.val * 256 + a.val) = if a.val / 64 = k.val / 64 ∧ a.val ≤ k.val then 0x3F80#16 else 0#16 :=
  of_bits lit8t bits k a

end Cert.Proof.Proj

end
-- ==== Proof.ProjGate.lean ====
/-
  The gate's logarithm and its prefix sums over chunks of 64 rows.
-/
module

public import proofs.«01_k».proof.Proof.ProjWindows
public import proofs.«01_k».proof.Proof.ProjFloor
public import proofs.«01_k».proof.Proof.ProjTri

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

theorem ref_log (x : FVec Ideal S4x8192x1024 .f32) (w : FVec Ideal S1024x8520 .f32) (g : FVec Ideal S1024 .f32) (p : FVec Ideal S2x768 .f32)
    (s : Fin 4) (R : Fin 8192) (l : Fin 768) :
    val_main_v204 (F := Ideal) x w g p (ix3 s R l) = Ideal.log (val_main_v203 (F := Ideal) x w g p (ix3 s R l)) := by
  pointwise [val_main_v204]

/-- The logarithm in three parts, each the last part's remainder: the parts add up to it, the least extended real included. -/
theorem parts (a y : EReal) (ha : a = 0 ∨ a = 1) (hy : y ≠ ⊤) : a * y + a * (y - y) + a * (y - y - (y - y)) = a * y := by
  rcases ha with rfl | rfl
  · simp
  · induction y with
    | bot => simp
    | top => exact absurd rfl hy
    | coe y => rw [← EReal.coe_sub]; simp

theorem pay49_apply (H : FVec Ideal S512x1024 .bf16) (L : FVec Ideal S1x768 .f32) (W : FVec Ideal S1024x768 .bf16)
    (T : FVec Ideal S256x256 .bf16) (r : Fin 256) (l : Fin 768) :
    k0_pay49 (F := Ideal) H L W T (ix2 r l)
      = (∑ k : Fin 256, T (ix2 r k) * Ideal.log (k0_pay42 (F := Ideal) H L W (ix2 ⟨k.val, by omega⟩ l)))
        + (∑ k : Fin 256, T (ix2 r k) * (Ideal.log (k0_pay42 (F := Ideal) H L W (ix2 ⟨k.val, by omega⟩ l)) - Ideal.log (k0_pay42 (F := Ideal) H L W (ix2 ⟨k.val, by omega⟩ l))))
        + (∑ k : Fin 256, T (ix2 r k) * (Ideal.log (k0_pay42 (F := Ideal) H L W (ix2 ⟨k.val, by omega⟩ l)) - Ideal.log (k0_pay42 (F := Ideal) H L W (ix2 ⟨k.val, by omega⟩ l))
          - (Ideal.log (k0_pay42 (F := Ideal) H L W (ix2 ⟨k.val, by omega⟩ l)) - Ideal.log (k0_pay42 (F := Ideal) H L W (ix2 ⟨k.val, by omega⟩ l))))) := by
  pointwise [k0_pay49, k0_pay48, k0_pay47, k0_pay46, k0_pay45, k0_pay44]

theorem pay50_apply (H : FVec Ideal S512x1024 .bf16) (L : FVec Ideal S1x768 .f32) (W : FVec Ideal S1024x768 .bf16)
    (T : FVec Ideal S256x256 .bf16) (r : Fin 256) (l : Fin 768) :
    k0_pay50 (F := Ideal) (k0_pay45 H L W) (k0_pay47 H L W) (k0_pay48 H L W) T (ix2 r l)
      = (∑ k : Fin 256, T (ix2 r k) * Ideal.log (k0_pay42 (F := Ideal) H L W (ix2 ⟨256 + k.val, by omega⟩ l)))
        + (∑ k : Fin 256, T (ix2 r k) * (Ideal.log (k0_pay42 (F := Ideal) H L W (ix2 ⟨256 + k.val, by omega⟩ l)) - Ideal.log (k0_pay42 (F := Ideal) H L W (ix2 ⟨256 + k.val, by omega⟩ l))))
        + (∑ k : Fin 256, T (ix2 r k) * (Ideal.log (k0_pay42 (F := Ideal) H L W (ix2 ⟨256 + k.val, by omega⟩ l)) - Ideal.log (k0_pay42 (F := Ideal) H L W (ix2 ⟨256 + k.val, by omega⟩ l))
          - (Ideal.log (k0_pay42 (F := Ideal) H L W (ix2 ⟨256 + k.val, by omega⟩ l)) - Ideal.log (k0_pay42 (F := Ideal) H L W (ix2 ⟨256 + k.val, by omega⟩ l))))) := by
  pointwise [k0_pay50, k0_pay48, k0_pay47, k0_pay46, k0_pay45, k0_pay44]

/-- The sum over a chunk up to a row, of a product with the matrix's row. -/
theorem chunk_sum (T y : Fin 256 → EReal) (hT : ∀ k, T k = 0 ∨ T k = 1) (hy : ∀ k, y k ≠ ⊤) :
    (∑ k, T k * y k) + (∑ k, T k * (y k - y k)) + (∑ k, T k * (y k - y k - (y k - y k))) = ∑ k, T k * y k := by
  rw [← Finset.sum_add_distrib, ← Finset.sum_add_distrib]
  exact Finset.sum_congr rfl fun k _ => parts _ _ (hT k) (hy k)

variable (m : (ℓ : Loc nD τ sig) → Buf (Elt Ideal) ℓ) (c : Dev nD) (t : Fin cfg0.N)

theorem one_or_zero (p : Prop) [Decidable p] :
    (FloatOps.ofBits .bf16 (if p then 0x3F80#16 else 0#16) : Ideal .bf16) = if p then (1 : EReal) else 0 := by
  split
  · exact Ideal.ofBits_one_bf16
  · exact Ideal.ofBits_zero_bf16

/-- The matrix of the prefix sums: ones at the row's own chunk of columns, up to the diagonal. -/
theorem iblk4_apply (k a : Fin 256) :
    iblk m c 4 t (ix2 k a) = if a.val / 64 = k.val / 64 ∧ a.val ≤ k.val then (1 : EReal) else 0 := by
  obtain ⟨e0, e1⟩ := index4 t
  show V m c main_cst (((cfg0.win 4).blk t).view.emb (ix2 k a)) = _
  have e : ((cfg0.win 4).blk t).view.emb (ix2 k a) = (ix2 k a : S256x256.Idx) := funext fun x => Fin.ext (by
    match x with
    | ⟨0, _⟩ => show win0_4.index t (0 : Fin 2) * 256 + 1 * k.val = k.val; omega
    | ⟨1, _⟩ => show win0_4.index t (1 : Fin 2) * 256 + 1 * a.val = a.val; omega)
  rw [e, show V m c main_cst = (fun i : S256x256.Idx => FloatOps.ofBits (F := Ideal) .bf16 (lit8 (S256x256.rowMajor i))) from rfl]
  have h : lit8 (S256x256.rowMajor (ix2 k a)) = lit8t (k.val * 256 + a.val) :=
    congrArg lit8t (Shape.rowMajor_val_two (ix2 k a))
  exact (congrArg (FloatOps.ofBits (F := Ideal) .bf16) (h.trans (tri_bits k a))).trans (one_or_zero _)

theorem matrix_at (k a : Fin 256) :
    View.ld (iblk m c 4 t) r0_26 (ix2 k a) = if a.val / 64 = k.val / 64 ∧ a.val ≤ k.val then (1 : EReal) else 0 :=
  (congrArg (iblk m c 4 t) (funext fun x => Fin.ext (by
    match x with
    | ⟨0, _⟩ => show 0 + 1 * k.val = k.val; omega
    | ⟨1, _⟩ => show 0 + 1 * a.val = a.val; omega))).trans (iblk4_apply m c t k a)

/-- The sum of the matrix's row against a tile of 256 rows: the rows of the same chunk, up to the row. -/
theorem tile_sum (y : Fin 256 → EReal) (r : Fin 256) :
    (∑ k : Fin 256, (if k.val / 64 = r.val / 64 ∧ k.val ≤ r.val then (1 : EReal) else 0) * y k)
      = ∑ k : Fin 64, if k.val ≤ r.val % 64 then y ⟨r.val / 64 * 64 + k.val, by omega⟩ else 0 := by
  refine (FinSumWindow.sum_window (N := 256) (W := 64) (r.val / 64 * 64) (by omega) _ fun P hP => ?_).trans
    (Finset.sum_congr rfl fun k _ => ?_)
  · rw [if_neg (by omega), zero_mul]
  · by_cases h : k.val ≤ r.val % 64
    · rw [if_pos h, if_pos ⟨by show (r.val / 64 * 64 + k.val) / 64 = _; omega, by show r.val / 64 * 64 + k.val ≤ _; omega⟩, one_mul]
    · rw [if_neg h, if_neg (fun h' => by have h2 : r.val / 64 * 64 + k.val ≤ r.val := h'.2; omega), zero_mul]

/-- The gate at a grid point's row and lane, below the greatest extended real. -/
theorem gate_ne_top (s : Fin 4) (R : Fin 8192) (l : Fin 768) :
    val_main_v203 (F := Ideal) (x m c) (w m c) (gain m c) (logits m c) (ix3 s R l) ≠ ⊤ := by
  rw [ref_f]
  obtain ⟨q, hq⟩ := logistic_real (val_main_v26 (F := Ideal) (x m c) (w m c) (gain m c) (ix3 s R ⟨2632 + l.val, by omega⟩))
  rw [show logistic _ = (q : EReal) from hq]
  exact mix_ne_top (floor_ne_top (logits m c) l) q

/-- A tile's products, in three parts, are the reference's running sum. -/
theorem tile (o : Nat) (ho : o = 0 ∨ o = 256) (y : Fin 256 → EReal) (T : Fin 256 → EReal) (r : Fin 256) (l : Fin 768)
    (hT : ∀ k : Fin 256, T k = if k.val / 64 = r.val / 64 ∧ k.val ≤ r.val then (1 : EReal) else 0)
    (hy : ∀ k : Fin 256, y k = val_main_v203 (F := Ideal) (x m c) (w m c) (gain m c) (logits m c) (ix3 (stream t) (row t ⟨o + k.val, by omega⟩) l)) :
    (∑ k, T k * Ideal.log (y k)) + (∑ k, T k * (Ideal.log (y k) - Ideal.log (y k)))
        + (∑ k, T k * (Ideal.log (y k) - Ideal.log (y k) - (Ideal.log (y k) - Ideal.log (y k))))
      = val_main_v207 (F := Ideal) (x m c) (w m c) (gain m c) (logits m c) (ix3 (stream t) (row t ⟨o + r.val, by omega⟩) l) := by
  refine (chunk_sum T (fun k => Ideal.log (y k)) (fun k => ?_) (fun k => ?_)).trans ?_
  · rw [hT k]
    split
    · exact Or.inr rfl
    · exact Or.inl rfl
  · exact log_ne_top (by rw [hy k]; exact gate_ne_top m c _ _ _)
  refine (Finset.sum_congr rfl fun k _ => congrArg₂ (· * ·) (hT k) rfl).trans ((tile_sum (fun k => Ideal.log (y k)) r).trans ?_)
  refine Eq.trans (Finset.sum_congr rfl fun k _ => ?_) (ref_prefix (x m c) (w m c) (gain m c) (logits m c) (stream t) (row t ⟨o + r.val, by omega⟩) l).symm
  have e : (row t ⟨o + r.val, by omega⟩).val = t.val % 16 * 512 + (o + r.val) := rfl
  have e' : row t ⟨o + (r.val / 64 * 64 + k.val), by omega⟩
      = (⟨(row t ⟨o + r.val, by omega⟩).val / 64 * 64 + k.val, by omega⟩ : Fin 8192) :=
    Fin.ext (by show t.val % 16 * 512 + (o + (r.val / 64 * 64 + k.val)) = (row t ⟨o + r.val, by omega⟩).val / 64 * 64 + k.val; omega)
  by_cases h : k.val ≤ r.val % 64
  · rw [if_pos h, if_pos (by omega), hy, ref_log]
    exact congrArg (fun R => Ideal.log (val_main_v203 (F := Ideal) (x m c) (w m c) (gain m c) (logits m c) (ix3 (stream t) R l))) e'
  · rw [if_neg h, if_neg (by omega)]

/-- A store of whole rows in a window of rows is a part of `G` when its elements are. -/
theorem tiles {N n : Nat} (o : Nat) (h : ∀ a, (![o, 0] : Fin 2 → Nat) a + (![n, N] : Fin 2 → Nat) a ≤ (![512, N] : Fin 2 → Nat) a)
    (G : (⟨2, ![512, N]⟩ : Shape).Idx → EReal) (v : (⟨2, ![n, N]⟩ : Shape).Idx → EReal)
    (e : ∀ (r : Fin n) (l : Fin N) (hr : o + r.val < 512), v (ix2 r l) = G (ix2 ⟨o + r.val, hr⟩ l)) :
    ∀ j : (Rect.unit (s := ⟨2, ![512, N]⟩) ![o, 0] ![n, N] h).shape.Idx, v j = G ((Rect.unit (s := ⟨2, ![512, N]⟩) ![o, 0] ![n, N] h).emb j) := by
  intro j
  have h1 : o + n ≤ 512 := h 0
  have h2 : (j 0).val < n := (j 0).isLt
  refine ((congrArg v (eq_ix2 (n0 := n) (n1 := N) j)).trans (e (j 0) (j 1) (by omega))).trans (congrArg G (funext fun x => Fin.ext ?_))
  match x with
  | ⟨0, _⟩ => show o + (j 0).val = o + 1 * (j 0).val; omega
  | ⟨1, _⟩ => show (j 1).val = 0 + 1 * (j 1).val; omega

theorem lower (r : Fin 256) (l : Fin 768) :
    k0_pay50 (F := Ideal) (k0_pay45 (rows m c t) (View.ld (iblk m c 2 t) r0_24) (View.ld (iblk m c 3 t) r0_25))
        (k0_pay47 (rows m c t) (View.ld (iblk m c 2 t) r0_24) (View.ld (iblk m c 3 t) r0_25))
        (k0_pay48 (rows m c t) (View.ld (iblk m c 2 t) r0_24) (View.ld (iblk m c 3 t) r0_25)) (View.ld (iblk m c 4 t) r0_26) (ix2 r l)
      = block t (val_main_v207 (F := Ideal) (x m c) (w m c) (gain m c) (logits m c)) (ix2 ⟨256 + r.val, by omega⟩ l) :=
  (pay50_apply _ _ _ _ r l).trans (tile m c t 256 (Or.inr rfl)
    (fun k => k0_pay42 (F := Ideal) (rows m c t) (View.ld (iblk m c 2 t) r0_24) (View.ld (iblk m c 3 t) r0_25) (ix2 ⟨256 + k.val, by omega⟩ l))
    (fun k => View.ld (iblk m c 4 t) r0_26 (ix2 r k)) r l (matrix_at m c t r) fun k => gate m c t ⟨256 + k.val, by omega⟩ l)

theorem upper (r : Fin 256) (l : Fin 768) :
    k0_pay49 (F := Ideal) (rows m c t) (View.ld (iblk m c 2 t) r0_24) (View.ld (iblk m c 3 t) r0_25) (View.ld (iblk m c 4 t) r0_26) (ix2 r l)
      = block t (val_main_v207 (F := Ideal) (x m c) (w m c) (gain m c) (logits m c)) (ix2 ⟨0 + r.val, by omega⟩ l) :=
  (pay49_apply _ _ _ _ r l).trans (tile m c t 0 (Or.inl rfl)
    (fun k => k0_pay42 (F := Ideal) (rows m c t) (View.ld (iblk m c 2 t) r0_24) (View.ld (iblk m c 3 t) r0_25) (ix2 ⟨k.val, by omega⟩ l))
    (fun k => View.ld (iblk m c 4 t) r0_26 (ix2 r k)) r l (matrix_at m c t r) fun k =>
      (gate m c t ⟨k.val, by omega⟩ l).trans (congrArg (fun R => val_main_v203 (F := Ideal) (x m c) (w m c) (gain m c) (logits m c)
        (ix3 (stream t) (row t R) l)) (Fin.ext (Nat.zero_add _).symm)))

theorem out22 : on m c t out0_22 = block t (val_main_v207 (F := Ideal) (x m c) (w m c) (gain m c) (logits m c)) :=
  funext fun y => View.canon_append_of_piecesOf _ [] [_, _]
    ⟨tiles 256 inb_S512x768_S256x768_256_0 _ _ fun r l _ => lower m c t r l,
     tiles 0 inb_S512x768_S256x768_0_0 _ _ fun r l _ => upper m c t r l, trivial⟩ y
    (cover0_22 _ _ y)

end Cert.Proof.Proj

end
-- ==== Proof.ProjValue.lean ====
/-
  The projection's value: each window's array holds the reference's result, and with it the claim.
-/
module

public import proofs.«01_k».proof.Proof.ProjGate

@[expose] public section

set_option maxRecDepth 16384

noncomputable section

open Idealize.ShloMosaic Idealize.ShloMosaic.TcCoe Idealize.SL.Sem
open Cert.ProjIdeal Cert.ProjIdeal.Gen Cert.ProjIdeal.Value Cert.ProjRefIdeal.Read

namespace Cert.Proof.Proj

/-- The grid point whose block holds a row, the streams laid end to end. -/
def at_ (R : Fin 32768) : Fin cfg0.N := ⟨R.val / 512, lt_of_lt_of_eq (by omega) N_0.symm⟩

/-- An index of an array of rows, by the block its row lies in. -/
theorem flat_ix {N : Nat} (t : Fin cfg0.N) (r : Fin 512) (l : Fin N) (y : (⟨2, ![32768, N]⟩ : Shape).Idx)
    (h0 : (y 0).val = t.val * 512 + 1 * r.val) (h1 : (y 1).val = 1 * l.val) : y = ix2 (flat t r) l := by
  refine funext fun a => Fin.ext ?_
  match a with
  | ⟨0, _⟩ => show (y 0).val = t.val * 512 + r.val; omega
  | ⟨1, _⟩ => show (y 1).val = l.val; omega

/-- Every index lies in some block, when each block holds its point's rows. -/
theorem covered {N : Nat} (S : Fin cfg0.N → Set (⟨2, ![32768, N]⟩ : Shape).Idx) (h : ∀ t r l, ix2 (flat t r) l ∈ S t)
    (i : (⟨2, ![32768, N]⟩ : Shape).Idx) : i ∈ S (at_ (i 0)) := by
  have h0 : (i 0).val < 32768 := (i 0).isLt
  refine Eq.mp (congrArg (· ∈ S (at_ (i 0))) ?_) (h (at_ (i 0)) ⟨(i 0).val % 512, by omega⟩ (i 1))
  refine (flat_ix (at_ (i 0)) ⟨(i 0).val % 512, by omega⟩ (i 1) i ?_ ?_).symm
  · show (i 0).val = (i 0).val / 512 * 512 + 1 * ((i 0).val % 512); omega
  · show (i 1).val = 1 * (i 1).val; omega

variable (m : (ℓ : Loc nD τ sig) → Buf (Elt Ideal) ℓ) (c : Dev nD)

theorem index11 : ∀ t : Fin cfg0.N, win0_11.index t (0 : Fin 2) = t.val ∧ win0_11.index t (1 : Fin 2) = 0 :=
  (by decide +kernel : ∀ t : Fin grid0.N, _)

theorem emb11 (t : Fin cfg0.N) (r : Fin 512) (l : Fin 768) :
    ((cfg0.win 11).blk t).view.emb (ix2 r l) = (ix2 (flat t r) l : S32768x768.Idx) :=
  flat_ix t r l _ (by show win0_11.index t (0 : Fin 2) * 512 + 1 * r.val = _; rw [(index11 t).1])
    (by show win0_11.index t (1 : Fin 2) * 768 + 1 * l.val = _; rw [(index11 t).2]; omega)

theorem covered11 (i : S32768x768.Idx) : i ∈ ((cfg0.win 11).blk (at_ (i 0))).view.set :=
  covered (fun t => ((cfg0.win 11).blk t).view.set)
    (fun t r l => Eq.mp (congrArg (· ∈ ((cfg0.win 11).blk t).view.set) (emb11 t r l)) (((cfg0.win 11).blk t).view.emb_mem_set (ix2 r l))) i

theorem rows11 (t : Fin cfg0.N) (r : Fin 512) (l : Fin 768) :
    val_main_v243 (F := Ideal) (x m c) (w m c) (gain m c) (ix2 (flat t r) l) = val_main_v217 (F := Ideal) (x m c) (w m c) (gain m c) (ix3 (stream t) (row t r) l) := by
  unfold val_main_v243
  exact rows_of_streams (val_main_v217 (F := Ideal) (x m c) (w m c) (gain m c)) Cert.ProjRefIdeal.Gen.shapeCasts_S4x8192x768_S32768x768 t r l

theorem written11 (t : Fin cfg0.N) (r : Fin 512) (l : Fin 768) :
    (dats m 0 c).flushed 11 t (ix2 r l) = val_main_v243 (F := Ideal) (x m c) (w m c) (gain m c) (ix2 (flat t r) l) :=
  (congrFun (flushed11 m c t) (ix2 r l)).trans ((congrFun (out11 m c t) (ix2 r l)).trans (rows11 m c t r l).symm)

theorem array11 (G : FVec Ideal S32768x768 .bf16) (h : ∀ t r l, (dats m 0 c).flushed 11 t (ix2 r l) = G (ix2 (flat t r) l)) :
    (dats m 0 c).arrAt 11 cfg0.N = G := by
  refine (dats m 0 c).arrAt_eq_of_cover 11 G (fun t _ => ?_) fun i => ⟨at_ (i 0), flush0_11 _, covered11 i⟩
  funext j
  idx_vars j
  exact (h t j0 j1).trans (congrArg G (emb11 t j0 j1).symm)

theorem final11 : (dats m 0 c).arrAt 11 cfg0.N = val_main_v243 (F := Ideal) (x m c) (w m c) (gain m c) :=
  array11 m c _ (written11 m c)

theorem index12 : ∀ t : Fin cfg0.N, win0_12.index t (0 : Fin 2) = t.val ∧ win0_12.index t (1 : Fin 2) = 0 :=
  (by decide +kernel : ∀ t : Fin grid0.N, _)

theorem emb12 (t : Fin cfg0.N) (r : Fin 512) (l : Fin 256) :
    ((cfg0.win 12).blk t).view.emb (ix2 r l) = (ix2 (flat t r) l : S32768x256.Idx) :=
  flat_ix t r l _ (by show win0_12.index t (0 : Fin 2) * 512 + 1 * r.val = _; rw [(index12 t).1])
    (by show win0_12.index t (1 : Fin 2) * 256 + 1 * l.val = _; rw [(index12 t).2]; omega)

theorem covered12 (i : S32768x256.Idx) : i ∈ ((cfg0.win 12).blk (at_ (i 0))).view.set :=
  covered (fun t => ((cfg0.win 12).blk t).view.set)
    (fun t r l => Eq.mp (congrArg (· ∈ ((cfg0.win 12).blk t).view.set) (emb12 t r l)) (((cfg0.win 12).blk t).view.emb_mem_set (ix2 r l))) i

theorem rows12 (t : Fin cfg0.N) (r : Fin 512) (l : Fin 256) :
    val_main_v244 (F := Ideal) (x m c) (w m c) (gain m c) (ix2 (flat t r) l) = val_main_v214 (F := Ideal) (x m c) (w m c) (gain m c) (ix3 (stream t) (row t r) l) := by
  unfold val_main_v244
  exact rows_of_streams (val_main_v214 (F := Ideal) (x m c) (w m c) (gain m c)) Cert.ProjRefIdeal.Gen.shapeCasts_S4x8192x256_S32768x256 t r l

theorem written12 (t : Fin cfg0.N) (r : Fin 512) (l : Fin 256) :
    (dats m 0 c).flushed 12 t (ix2 r l) = val_main_v244 (F := Ideal) (x m c) (w m c) (gain m c) (ix2 (flat t r) l) :=
  (congrFun (flushed12 m c t) (ix2 r l)).trans ((congrFun (out12 m c t) (ix2 r l)).trans (rows12 m c t r l).symm)

theorem array12 (G : FVec Ideal S32768x256 .f32) (h : ∀ t r l, (dats m 0 c).flushed 12 t (ix2 r l) = G (ix2 (flat t r) l)) :
    (dats m 0 c).arrAt 12 cfg0.N = G := by
  refine (dats m 0 c).arrAt_eq_of_cover 12 G (fun t _ => ?_) fun i => ⟨at_ (i 0), flush0_12 _, covered12 i⟩
  funext j
  idx_vars j
  exact (h t j0 j1).trans (congrArg G (emb12 t j0 j1).symm)

theorem final12 : (dats m 0 c).arrAt 12 cfg0.N = val_main_v244 (F := Ideal) (x m c) (w m c) (gain m c) :=
  array12 m c _ (written12 m c)

theorem index13 : ∀ t : Fin cfg0.N, win0_13.index t (0 : Fin 2) = t.val ∧ win0_13.index t (1 : Fin 2) = 0 :=
  (by decide +kernel : ∀ t : Fin grid0.N, _)

theorem emb13 (t : Fin cfg0.N) (r : Fin 512) (l : Fin 256) :
    ((cfg0.win 13).blk t).view.emb (ix2 r l) = (ix2 (flat t r) l : S32768x256.Idx) :=
  flat_ix t r l _ (by show win0_13.index t (0 : Fin 2) * 512 + 1 * r.val = _; rw [(index13 t).1])
    (by show win0_13.index t (1 : Fin 2) * 256 + 1 * l.val = _; rw [(index13 t).2]; omega)

theorem covered13 (i : S32768x256.Idx) : i ∈ ((cfg0.win 13).blk (at_ (i 0))).view.set :=
  covered (fun t => ((cfg0.win 13).blk t).view.set)
    (fun t r l => Eq.mp (congrArg (· ∈ ((cfg0.win 13).blk t).view.set) (emb13 t r l)) (((cfg0.win 13).blk t).view.emb_mem_set (ix2 r l))) i

theorem rows13 (t : Fin cfg0.N) (r : Fin 512) (l : Fin 256) :
    val_main_v245 (F := Ideal) (x m c) (w m c) (gain m c) (ix2 (flat t r) l) = val_main_v29 (F := Ideal) (x m c) (w m c) (gain m c) (ix3 (stream t) (row t r) l) := by
  unfold val_main_v245
  exact rows_of_streams (val_main_v29 (F := Ideal) (x m c) (w m c) (gain m c)) Cert.ProjRefIdeal.Gen.shapeCasts_S4x8192x256_S32768x256 t r l

theorem written13 (t : Fin cfg0.N) (r : Fin 512) (l : Fin 256) :
    (dats m 0 c).flushed 13 t (ix2 r l) = val_main_v245 (F := Ideal) (x m c) (w m c) (gain m c) (ix2 (flat t r) l) :=
  (congrFun (flushed13 m c t) (ix2 r l)).trans ((congrFun (out13 m c t) (ix2 r l)).trans (rows13 m c t r l).symm)

theorem array13 (G : FVec Ideal S32768x256 .f32) (h : ∀ t r l, (dats m 0 c).flushed 13 t (ix2 r l) = G (ix2 (flat t r) l)) :
    (dats m 0 c).arrAt 13 cfg0.N = G := by
  refine (dats m 0 c).arrAt_eq_of_cover 13 G (fun t _ => ?_) fun i => ⟨at_ (i 0), flush0_13 _, covered13 i⟩
  funext j
  idx_vars j
  exact (h t j0 j1).trans (congrArg G (emb13 t j0 j1).symm)

theorem final13 : (dats m 0 c).arrAt 13 cfg0.N = val_main_v245 (F := Ideal) (x m c) (w m c) (gain m c) :=
  array13 m c _ (written13 m c)

theorem index14 : ∀ t : Fin cfg0.N, win0_14.index t (0 : Fin 2) = t.val ∧ win0_14.index t (1 : Fin 2) = 0 :=
  (by decide +kernel : ∀ t : Fin grid0.N, _)

theorem emb14 (t : Fin cfg0.N) (r : Fin 512) (l : Fin 256) :
    ((cfg0.win 14).blk t).view.emb (ix2 r l) = (ix2 (flat t r) l : S32768x256.Idx) :=
  flat_ix t r l _ (by show win0_14.index t (0 : Fin 2) * 512 + 1 * r.val = _; rw [(index14 t).1])
    (by show win0_14.index t (1 : Fin 2) * 256 + 1 * l.val = _; rw [(index14 t).2]; omega)

theorem covered14 (i : S32768x256.Idx) : i ∈ ((cfg0.win 14).blk (at_ (i 0))).view.set :=
  covered (fun t => ((cfg0.win 14).blk t).view.set)
    (fun t r l => Eq.mp (congrArg (· ∈ ((cfg0.win 14).blk t).view.set) (emb14 t r l)) (((cfg0.win 14).blk t).view.emb_mem_set (ix2 r l))) i

theorem rows14 (t : Fin cfg0.N) (r : Fin 512) (l : Fin 256) :
    val_main_v246 (F := Ideal) (x m c) (w m c) (gain m c) (ix2 (flat t r) l) = val_main_v218 (F := Ideal) (x m c) (w m c) (gain m c) (ix3 (stream t) (row t r) l) := by
  unfold val_main_v246
  exact rows_of_streams (val_main_v218 (F := Ideal) (x m c) (w m c) (gain m c)) Cert.ProjRefIdeal.Gen.shapeCasts_S4x8192x256_S32768x256 t r l

theorem written14 (t : Fin cfg0.N) (r : Fin 512) (l : Fin 256) :
    (dats m 0 c).flushed 14 t (ix2 r l) = val_main_v246 (F := Ideal) (x m c) (w m c) (gain m c) (ix2 (flat t r) l) :=
  (congrFun (flushed14 m c t) (ix2 r l)).trans ((congrFun (out14 m c t) (ix2 r l)).trans (rows14 m c t r l).symm)

theorem array14 (G : FVec Ideal S32768x256 .bf16) (h : ∀ t r l, (dats m 0 c).flushed 14 t (ix2 r l) = G (ix2 (flat t r) l)) :
    (dats m 0 c).arrAt 14 cfg0.N = G := by
  refine (dats m 0 c).arrAt_eq_of_cover 14 G (fun t _ => ?_) fun i => ⟨at_ (i 0), flush0_14 _, covered14 i⟩
  funext j
  idx_vars j
  exact (h t j0 j1).trans (congrArg G (emb14 t j0 j1).symm)

theorem final14 : (dats m 0 c).arrAt 14 cfg0.N = val_main_v246 (F := Ideal) (x m c) (w m c) (gain m c) :=
  array14 m c _ (written14 m c)

theorem index15 : ∀ t : Fin cfg0.N, win0_15.index t (0 : Fin 2) = t.val ∧ win0_15.index t (1 : Fin 2) = 0 :=
  (by decide +kernel : ∀ t : Fin grid0.N, _)

theorem emb15 (t : Fin cfg0.N) (r : Fin 512) (l : Fin 256) :
    ((cfg0.win 15).blk t).view.emb (ix2 r l) = (ix2 (flat t r) l : S32768x256.Idx) :=
  flat_ix t r l _ (by show win0_15.index t (0 : Fin 2) * 512 + 1 * r.val = _; rw [(index15 t).1])
    (by show win0_15.index t (1 : Fin 2) * 256 + 1 * l.val = _; rw [(index15 t).2]; omega)

theorem covered15 (i : S32768x256.Idx) : i ∈ ((cfg0.win 15).blk (at_ (i 0))).view.set :=
  covered (fun t => ((cfg0.win 15).blk t).view.set)
    (fun t r l => Eq.mp (congrArg (· ∈ ((cfg0.win 15).blk t).view.set) (emb15 t r l)) (((cfg0.win 15).blk t).view.emb_mem_set (ix2 r l))) i

theorem rows15 (t : Fin cfg0.N) (r : Fin 512) (l : Fin 256) :
    val_main_v247 (F := Ideal) (x m c) (w m c) (gain m c) (ix2 (flat t r) l) = val_main_v219 (F := Ideal) (x m c) (w m c) (gain m c) (ix3 (stream t) (row t r) l) := by
  unfold val_main_v247
  exact rows_of_streams (val_main_v219 (F := Ideal) (x m c) (w m c) (gain m c)) Cert.ProjRefIdeal.Gen.shapeCasts_S4x8192x256_S32768x256 t r l

theorem written15 (t : Fin cfg0.N) (r : Fin 512) (l : Fin 256) :
    (dats m 0 c).flushed 15 t (ix2 r l) = val_main_v247 (F := Ideal) (x m c) (w m c) (gain m c) (ix2 (flat t r) l) :=
  (congrFun (flushed15 m c t) (ix2 r l)).trans ((congrFun (out15 m c t) (ix2 r l)).trans (rows15 m c t r l).symm)

theorem array15 (G : FVec Ideal S32768x256 .bf16) (h : ∀ t r l, (dats m 0 c).flushed 15 t (ix2 r l) = G (ix2 (flat t r) l)) :
    (dats m 0 c).arrAt 15 cfg0.N = G := by
  refine (dats m 0 c).arrAt_eq_of_cover 15 G (fun t _ => ?_) fun i => ⟨at_ (i 0), flush0_15 _, covered15 i⟩
  funext j
  idx_vars j
  exact (h t j0 j1).trans (congrArg G (emb15 t j0 j1).symm)

theorem final15 : (dats m 0 c).arrAt 15 cfg0.N = val_main_v247 (F := Ideal) (x m c) (w m c) (gain m c) :=
  array15 m c _ (written15 m c)

theorem index16 : ∀ t : Fin cfg0.N, win0_16.index t (0 : Fin 2) = t.val ∧ win0_16.index t (1 : Fin 2) = 0 :=
  (by decide +kernel : ∀ t : Fin grid0.N, _)

theorem emb16 (t : Fin cfg0.N) (r : Fin 512) (l : Fin 512) :
    ((cfg0.win 16).blk t).view.emb (ix2 r l) = (ix2 (flat t r) l : S32768x512.Idx) :=
  flat_ix t r l _ (by show win0_16.index t (0 : Fin 2) * 512 + 1 * r.val = _; rw [(index16 t).1])
    (by show win0_16.index t (1 : Fin 2) * 512 + 1 * l.val = _; rw [(index16 t).2]; omega)

theorem covered16 (i : S32768x512.Idx) : i ∈ ((cfg0.win 16).blk (at_ (i 0))).view.set :=
  covered (fun t => ((cfg0.win 16).blk t).view.set)
    (fun t r l => Eq.mp (congrArg (· ∈ ((cfg0.win 16).blk t).view.set) (emb16 t r l)) (((cfg0.win 16).blk t).view.emb_mem_set (ix2 r l))) i

theorem rows16 (t : Fin cfg0.N) (r : Fin 512) (l : Fin 512) :
    val_main_v248 (F := Ideal) (x m c) (w m c) (gain m c) (ix2 (flat t r) l) = val_main_v220 (F := Ideal) (x m c) (w m c) (gain m c) (ix3 (stream t) (row t r) l) := by
  unfold val_main_v248
  exact rows_of_streams (val_main_v220 (F := Ideal) (x m c) (w m c) (gain m c)) Cert.ProjRefIdeal.Gen.shapeCasts_S4x8192x512_S32768x512 t r l

theorem written16 (t : Fin cfg0.N) (r : Fin 512) (l : Fin 512) :
    (dats m 0 c).flushed 16 t (ix2 r l) = val_main_v248 (F := Ideal) (x m c) (w m c) (gain m c) (ix2 (flat t r) l) :=
  (congrFun (flushed16 m c t) (ix2 r l)).trans ((congrFun (out16 m c t) (ix2 r l)).trans (rows16 m c t r l).symm)

theorem array16 (G : FVec Ideal S32768x512 .bf16) (h : ∀ t r l, (dats m 0 c).flushed 16 t (ix2 r l) = G (ix2 (flat t r) l)) :
    (dats m 0 c).arrAt 16 cfg0.N = G := by
  refine (dats m 0 c).arrAt_eq_of_cover 16 G (fun t _ => ?_) fun i => ⟨at_ (i 0), flush0_16 _, covered16 i⟩
  funext j
  idx_vars j
  exact (h t j0 j1).trans (congrArg G (emb16 t j0 j1).symm)

theorem final16 : (dats m 0 c).arrAt 16 cfg0.N = val_main_v248 (F := Ideal) (x m c) (w m c) (gain m c) :=
  array16 m c _ (written16 m c)

theorem index17 : ∀ t : Fin cfg0.N, win0_17.index t (0 : Fin 2) = t.val ∧ win0_17.index t (1 : Fin 2) = 0 :=
  (by decide +kernel : ∀ t : Fin grid0.N, _)

theorem emb17 (t : Fin cfg0.N) (r : Fin 512) (l : Fin 128) :
    ((cfg0.win 17).blk t).view.emb (ix2 r l) = (ix2 (flat t r) l : S32768x128.Idx) :=
  flat_ix t r l _ (by show win0_17.index t (0 : Fin 2) * 512 + 1 * r.val = _; rw [(index17 t).1])
    (by show win0_17.index t (1 : Fin 2) * 128 + 1 * l.val = _; rw [(index17 t).2]; omega)

theorem covered17 (i : S32768x128.Idx) : i ∈ ((cfg0.win 17).blk (at_ (i 0))).view.set :=
  covered (fun t => ((cfg0.win 17).blk t).view.set)
    (fun t r l => Eq.mp (congrArg (· ∈ ((cfg0.win 17).blk t).view.set) (emb17 t r l)) (((cfg0.win 17).blk t).view.emb_mem_set (ix2 r l))) i

theorem rows17 (t : Fin cfg0.N) (r : Fin 512) (l : Fin 128) :
    val_main_v249 (F := Ideal) (x m c) (w m c) (gain m c) (ix2 (flat t r) l) = val_main_v213 (F := Ideal) (x m c) (w m c) (gain m c) (ix3 (stream t) (row t r) l) := by
  unfold val_main_v249
  exact rows_of_streams (val_main_v213 (F := Ideal) (x m c) (w m c) (gain m c)) Cert.ProjRefIdeal.Gen.shapeCasts_S4x8192x128_S32768x128 t r l

theorem written17 (t : Fin cfg0.N) (r : Fin 512) (l : Fin 128) :
    (dats m 0 c).flushed 17 t (ix2 r l) = val_main_v249 (F := Ideal) (x m c) (w m c) (gain m c) (ix2 (flat t r) l) :=
  (congrFun (flushed17 m c t) (ix2 r l)).trans ((congrFun (out17 m c t) (ix2 r l)).trans (rows17 m c t r l).symm)

theorem array17 (G : FVec Ideal S32768x128 .f32) (h : ∀ t r l, (dats m 0 c).flushed 17 t (ix2 r l) = G (ix2 (flat t r) l)) :
    (dats m 0 c).arrAt 17 cfg0.N = G := by
  refine (dats m 0 c).arrAt_eq_of_cover 17 G (fun t _ => ?_) fun i => ⟨at_ (i 0), flush0_17 _, covered17 i⟩
  funext j
  idx_vars j
  exact (h t j0 j1).trans (congrArg G (emb17 t j0 j1).symm)

theorem final17 : (dats m 0 c).arrAt 17 cfg0.N = val_main_v249 (F := Ideal) (x m c) (w m c) (gain m c) :=
  array17 m c _ (written17 m c)

theorem index18 : ∀ t : Fin cfg0.N, win0_18.index t (0 : Fin 2) = t.val ∧ win0_18.index t (1 : Fin 2) = 0 :=
  (by decide +kernel : ∀ t : Fin grid0.N, _)

theorem emb18 (t : Fin cfg0.N) (r : Fin 512) (l : Fin 128) :
    ((cfg0.win 18).blk t).view.emb (ix2 r l) = (ix2 (flat t r) l : S32768x128.Idx) :=
  flat_ix t r l _ (by show win0_18.index t (0 : Fin 2) * 512 + 1 * r.val = _; rw [(index18 t).1])
    (by show win0_18.index t (1 : Fin 2) * 128 + 1 * l.val = _; rw [(index18 t).2]; omega)

theorem covered18 (i : S32768x128.Idx) : i ∈ ((cfg0.win 18).blk (at_ (i 0))).view.set :=
  covered (fun t => ((cfg0.win 18).blk t).view.set)
    (fun t r l => Eq.mp (congrArg (· ∈ ((cfg0.win 18).blk t).view.set) (emb18 t r l)) (((cfg0.win 18).blk t).view.emb_mem_set (ix2 r l))) i

theorem rows18 (t : Fin cfg0.N) (r : Fin 512) (l : Fin 128) :
    val_main_v250 (F := Ideal) (x m c) (w m c) (gain m c) (ix2 (flat t r) l) = val_main_v222 (F := Ideal) (x m c) (w m c) (gain m c) (ix3 (stream t) (row t r) l) := by
  unfold val_main_v250
  exact rows_of_streams (val_main_v222 (F := Ideal) (x m c) (w m c) (gain m c)) Cert.ProjRefIdeal.Gen.shapeCasts_S4x8192x128_S32768x128 t r l

theorem written18 (t : Fin cfg0.N) (r : Fin 512) (l : Fin 128) :
    (dats m 0 c).flushed 18 t (ix2 r l) = val_main_v250 (F := Ideal) (x m c) (w m c) (gain m c) (ix2 (flat t r) l) :=
  (congrFun (flushed18 m c t) (ix2 r l)).trans ((congrFun (out18 m c t) (ix2 r l)).trans (rows18 m c t r l).symm)

theorem array18 (G : FVec Ideal S32768x128 .bf16) (h : ∀ t r l, (dats m 0 c).flushed 18 t (ix2 r l) = G (ix2 (flat t r) l)) :
    (dats m 0 c).arrAt 18 cfg0.N = G := by
  refine (dats m 0 c).arrAt_eq_of_cover 18 G (fun t _ => ?_) fun i => ⟨at_ (i 0), flush0_18 _, covered18 i⟩
  funext j
  idx_vars j
  exact (h t j0 j1).trans (congrArg G (emb18 t j0 j1).symm)

theorem final18 : (dats m 0 c).arrAt 18 cfg0.N = val_main_v250 (F := Ideal) (x m c) (w m c) (gain m c) :=
  array18 m c _ (written18 m c)

theorem index19 : ∀ t : Fin cfg0.N, win0_19.index t (0 : Fin 2) = t.val ∧ win0_19.index t (1 : Fin 2) = 0 :=
  (by decide +kernel : ∀ t : Fin grid0.N, _)

theorem emb19 (t : Fin cfg0.N) (r : Fin 512) (l : Fin 128) :
    ((cfg0.win 19).blk t).view.emb (ix2 r l) = (ix2 (flat t r) l : S32768x128.Idx) :=
  flat_ix t r l _ (by show win0_19.index t (0 : Fin 2) * 512 + 1 * r.val = _; rw [(index19 t).1])
    (by show win0_19.index t (1 : Fin 2) * 128 + 1 * l.val = _; rw [(index19 t).2]; omega)

theorem covered19 (i : S32768x128.Idx) : i ∈ ((cfg0.win 19).blk (at_ (i 0))).view.set :=
  covered (fun t => ((cfg0.win 19).blk t).view.set)
    (fun t r l => Eq.mp (congrArg (· ∈ ((cfg0.win 19).blk t).view.set) (emb19 t r l)) (((cfg0.win 19).blk t).view.emb_mem_set (ix2 r l))) i

theorem rows19 (t : Fin cfg0.N) (r : Fin 512) (l : Fin 128) :
    val_main_v251 (F := Ideal) (x m c) (w m c) (gain m c) (ix2 (flat t r) l) = val_main_v224 (F := Ideal) (x m c) (w m c) (gain m c) (ix3 (stream t) (row t r) l) := by
  unfold val_main_v251
  exact rows_of_streams (val_main_v224 (F := Ideal) (x m c) (w m c) (gain m c)) Cert.ProjRefIdeal.Gen.shapeCasts_S4x8192x128_S32768x128 t r l

theorem written19 (t : Fin cfg0.N) (r : Fin 512) (l : Fin 128) :
    (dats m 0 c).flushed 19 t (ix2 r l) = val_main_v251 (F := Ideal) (x m c) (w m c) (gain m c) (ix2 (flat t r) l) :=
  (congrFun (flushed19 m c t) (ix2 r l)).trans ((congrFun (out19 m c t) (ix2 r l)).trans (rows19 m c t r l).symm)

theorem array19 (G : FVec Ideal S32768x128 .bf16) (h : ∀ t r l, (dats m 0 c).flushed 19 t (ix2 r l) = G (ix2 (flat t r) l)) :
    (dats m 0 c).arrAt 19 cfg0.N = G := by
  refine (dats m 0 c).arrAt_eq_of_cover 19 G (fun t _ => ?_) fun i => ⟨at_ (i 0), flush0_19 _, covered19 i⟩
  funext j
  idx_vars j
  exact (h t j0 j1).trans (congrArg G (emb19 t j0 j1).symm)

theorem final19 : (dats m 0 c).arrAt 19 cfg0.N = val_main_v251 (F := Ideal) (x m c) (w m c) (gain m c) :=
  array19 m c _ (written19 m c)

theorem index20 : ∀ t : Fin cfg0.N, win0_20.index t (0 : Fin 2) = t.val ∧ win0_20.index t (1 : Fin 2) = 0 :=
  (by decide +kernel : ∀ t : Fin grid0.N, _)

theorem emb20 (t : Fin cfg0.N) (r : Fin 512) (l : Fin 768) :
    ((cfg0.win 20).blk t).view.emb (ix2 r l) = (ix2 (flat t r) l : S32768x768.Idx) :=
  flat_ix t r l _ (by show win0_20.index t (0 : Fin 2) * 512 + 1 * r.val = _; rw [(index20 t).1])
    (by show win0_20.index t (1 : Fin 2) * 768 + 1 * l.val = _; rw [(index20 t).2]; omega)

theorem covered20 (i : S32768x768.Idx) : i ∈ ((cfg0.win 20).blk (at_ (i 0))).view.set :=
  covered (fun t => ((cfg0.win 20).blk t).view.set)
    (fun t r l => Eq.mp (congrArg (· ∈ ((cfg0.win 20).blk t).view.set) (emb20 t r l)) (((cfg0.win 20).blk t).view.emb_mem_set (ix2 r l))) i

theorem rows20 (t : Fin cfg0.N) (r : Fin 512) (l : Fin 768) :
    val_main_v252 (F := Ideal) (x m c) (w m c) (gain m c) (ix2 (flat t r) l) = val_main_v226 (F := Ideal) (x m c) (w m c) (gain m c) (ix3 (stream t) (row t r) l) := by
  unfold val_main_v252
  exact rows_of_streams (val_main_v226 (F := Ideal) (x m c) (w m c) (gain m c)) Cert.ProjRefIdeal.Gen.shapeCasts_S4x8192x768_S32768x768 t r l

theorem written20 (t : Fin cfg0.N) (r : Fin 512) (l : Fin 768) :
    (dats m 0 c).flushed 20 t (ix2 r l) = val_main_v252 (F := Ideal) (x m c) (w m c) (gain m c) (ix2 (flat t r) l) :=
  (congrFun (flushed20 m c t) (ix2 r l)).trans ((congrFun (out20 m c t) (ix2 r l)).trans (rows20 m c t r l).symm)

theorem array20 (G : FVec Ideal S32768x768 .bf16) (h : ∀ t r l, (dats m 0 c).flushed 20 t (ix2 r l) = G (ix2 (flat t r) l)) :
    (dats m 0 c).arrAt 20 cfg0.N = G := by
  refine (dats m 0 c).arrAt_eq_of_cover 20 G (fun t _ => ?_) fun i => ⟨at_ (i 0), flush0_20 _, covered20 i⟩
  funext j
  idx_vars j
  exact (h t j0 j1).trans (congrArg G (emb20 t j0 j1).symm)

theorem final20 : (dats m 0 c).arrAt 20 cfg0.N = val_main_v252 (F := Ideal) (x m c) (w m c) (gain m c) :=
  array20 m c _ (written20 m c)

theorem index21 : ∀ t : Fin cfg0.N, win0_21.index t (0 : Fin 2) = t.val ∧ win0_21.index t (1 : Fin 2) = 0 :=
  (by decide +kernel : ∀ t : Fin grid0.N, _)

theorem emb21 (t : Fin cfg0.N) (r : Fin 512) (l : Fin 768) :
    ((cfg0.win 21).blk t).view.emb (ix2 r l) = (ix2 (flat t r) l : S32768x768.Idx) :=
  flat_ix t r l _ (by show win0_21.index t (0 : Fin 2) * 512 + 1 * r.val = _; rw [(index21 t).1])
    (by show win0_21.index t (1 : Fin 2) * 768 + 1 * l.val = _; rw [(index21 t).2]; omega)

theorem covered21 (i : S32768x768.Idx) : i ∈ ((cfg0.win 21).blk (at_ (i 0))).view.set :=
  covered (fun t => ((cfg0.win 21).blk t).view.set)
    (fun t r l => Eq.mp (congrArg (· ∈ ((cfg0.win 21).blk t).view.set) (emb21 t r l)) (((cfg0.win 21).blk t).view.emb_mem_set (ix2 r l))) i

theorem rows21 (t : Fin cfg0.N) (r : Fin 512) (l : Fin 768) :
    val_main_v253 (F := Ideal) (x m c) (w m c) (gain m c) (logits m c) (ix2 (flat t r) l) = val_main_v229 (F := Ideal) (x m c) (w m c) (gain m c) (logits m c) (ix3 (stream t) (row t r) l) := by
  unfold val_main_v253
  exact rows_of_streams (val_main_v229 (F := Ideal) (x m c) (w m c) (gain m c) (logits m c)) Cert.ProjRefIdeal.Gen.shapeCasts_S4x8192x768_S32768x768 t r l

theorem written21 (t : Fin cfg0.N) (r : Fin 512) (l : Fin 768) :
    (dats m 0 c).flushed 21 t (ix2 r l) = val_main_v253 (F := Ideal) (x m c) (w m c) (gain m c) (logits m c) (ix2 (flat t r) l) :=
  (congrFun (flushed21 m c t) (ix2 r l)).trans ((congrFun (out21 m c t) (ix2 r l)).trans (rows21 m c t r l).symm)

theorem array21 (G : FVec Ideal S32768x768 .bf16) (h : ∀ t r l, (dats m 0 c).flushed 21 t (ix2 r l) = G (ix2 (flat t r) l)) :
    (dats m 0 c).arrAt 21 cfg0.N = G := by
  refine (dats m 0 c).arrAt_eq_of_cover 21 G (fun t _ => ?_) fun i => ⟨at_ (i 0), flush0_21 _, covered21 i⟩
  funext j
  idx_vars j
  exact (h t j0 j1).trans (congrArg G (emb21 t j0 j1).symm)

theorem final21 : (dats m 0 c).arrAt 21 cfg0.N = val_main_v253 (F := Ideal) (x m c) (w m c) (gain m c) (logits m c) :=
  array21 m c _ (written21 m c)

theorem index22 : ∀ t : Fin cfg0.N, win0_22.index t (0 : Fin 2) = t.val ∧ win0_22.index t (1 : Fin 2) = 0 :=
  (by decide +kernel : ∀ t : Fin grid0.N, _)

theorem emb22 (t : Fin cfg0.N) (r : Fin 512) (l : Fin 768) :
    ((cfg0.win 22).blk t).view.emb (ix2 r l) = (ix2 (flat t r) l : S32768x768.Idx) :=
  flat_ix t r l _ (by show win0_22.index t (0 : Fin 2) * 512 + 1 * r.val = _; rw [(index22 t).1])
    (by show win0_22.index t (1 : Fin 2) * 768 + 1 * l.val = _; rw [(index22 t).2]; omega)

theorem covered22 (i : S32768x768.Idx) : i ∈ ((cfg0.win 22).blk (at_ (i 0))).view.set :=
  covered (fun t => ((cfg0.win 22).blk t).view.set)
    (fun t r l => Eq.mp (congrArg (· ∈ ((cfg0.win 22).blk t).view.set) (emb22 t r l)) (((cfg0.win 22).blk t).view.emb_mem_set (ix2 r l))) i

theorem rows22 (t : Fin cfg0.N) (r : Fin 512) (l : Fin 768) :
    val_main_v254 (F := Ideal) (x m c) (w m c) (gain m c) (logits m c) (ix2 (flat t r) l) = val_main_v207 (F := Ideal) (x m c) (w m c) (gain m c) (logits m c) (ix3 (stream t) (row t r) l) := by
  unfold val_main_v254
  exact rows_of_streams (val_main_v207 (F := Ideal) (x m c) (w m c) (gain m c) (logits m c)) Cert.ProjRefIdeal.Gen.shapeCasts_S4x8192x768_S32768x768 t r l

theorem written22 (t : Fin cfg0.N) (r : Fin 512) (l : Fin 768) :
    (dats m 0 c).flushed 22 t (ix2 r l) = val_main_v254 (F := Ideal) (x m c) (w m c) (gain m c) (logits m c) (ix2 (flat t r) l) :=
  (congrFun (flushed22 m c t) (ix2 r l)).trans ((congrFun (out22 m c t) (ix2 r l)).trans (rows22 m c t r l).symm)

theorem array22 (G : FVec Ideal S32768x768 .f32) (h : ∀ t r l, (dats m 0 c).flushed 22 t (ix2 r l) = G (ix2 (flat t r) l)) :
    (dats m 0 c).arrAt 22 cfg0.N = G := by
  refine (dats m 0 c).arrAt_eq_of_cover 22 G (fun t _ => ?_) fun i => ⟨at_ (i 0), flush0_22 _, covered22 i⟩
  funext j
  idx_vars j
  exact (h t j0 j1).trans (congrArg G (emb22 t j0 j1).symm)

theorem final22 : (dats m 0 c).arrAt 22 cfg0.N = val_main_v254 (F := Ideal) (x m c) (w m c) (gain m c) (logits m c) :=
  array22 m c _ (written22 m c)

theorem index23 : ∀ t : Fin cfg0.N, win0_23.index t (0 : Fin 2) = t.val ∧ win0_23.index t (1 : Fin 2) = 0 :=
  (by decide +kernel : ∀ t : Fin grid0.N, _)

theorem emb23 (t : Fin cfg0.N) (r : Fin 512) (l : Fin 768) :
    ((cfg0.win 23).blk t).view.emb (ix2 r l) = (ix2 (flat t r) l : S32768x768.Idx) :=
  flat_ix t r l _ (by show win0_23.index t (0 : Fin 2) * 512 + 1 * r.val = _; rw [(index23 t).1])
    (by show win0_23.index t (1 : Fin 2) * 768 + 1 * l.val = _; rw [(index23 t).2]; omega)

theorem covered23 (i : S32768x768.Idx) : i ∈ ((cfg0.win 23).blk (at_ (i 0))).view.set :=
  covered (fun t => ((cfg0.win 23).blk t).view.set)
    (fun t r l => Eq.mp (congrArg (· ∈ ((cfg0.win 23).blk t).view.set) (emb23 t r l)) (((cfg0.win 23).blk t).view.emb_mem_set (ix2 r l))) i

theorem rows23 (t : Fin cfg0.N) (r : Fin 512) (l : Fin 768) :
    val_main_v255 (F := Ideal) (x m c) (w m c) (gain m c) (ix2 (flat t r) l) = val_main_v230 (F := Ideal) (x m c) (w m c) (gain m c) (ix3 (stream t) (row t r) l) := by
  unfold val_main_v255
  exact rows_of_streams (val_main_v230 (F := Ideal) (x m c) (w m c) (gain m c)) Cert.ProjRefIdeal.Gen.shapeCasts_S4x8192x768_S32768x768 t r l

theorem written23 (t : Fin cfg0.N) (r : Fin 512) (l : Fin 768) :
    (dats m 0 c).flushed 23 t (ix2 r l) = val_main_v255 (F := Ideal) (x m c) (w m c) (gain m c) (ix2 (flat t r) l) :=
  (congrFun (flushed23 m c t) (ix2 r l)).trans ((congrFun (out23 m c t) (ix2 r l)).trans (rows23 m c t r l).symm)

theorem array23 (G : FVec Ideal S32768x768 .bf16) (h : ∀ t r l, (dats m 0 c).flushed 23 t (ix2 r l) = G (ix2 (flat t r) l)) :
    (dats m 0 c).arrAt 23 cfg0.N = G := by
  refine (dats m 0 c).arrAt_eq_of_cover 23 G (fun t _ => ?_) fun i => ⟨at_ (i 0), flush0_23 _, covered23 i⟩
  funext j
  idx_vars j
  exact (h t j0 j1).trans (congrArg G (emb23 t j0 j1).symm)

theorem final23 : (dats m 0 c).arrAt 23 cfg0.N = val_main_v255 (F := Ideal) (x m c) (w m c) (gain m c) :=
  array23 m c _ (written23 m c)

theorem index24 : ∀ t : Fin cfg0.N, win0_24.index t (0 : Fin 2) = t.val ∧ win0_24.index t (1 : Fin 2) = 0 :=
  (by decide +kernel : ∀ t : Fin grid0.N, _)

theorem emb24 (t : Fin cfg0.N) (r : Fin 512) (l : Fin 768) :
    ((cfg0.win 24).blk t).view.emb (ix2 r l) = (ix2 (flat t r) l : S32768x768.Idx) :=
  flat_ix t r l _ (by show win0_24.index t (0 : Fin 2) * 512 + 1 * r.val = _; rw [(index24 t).1])
    (by show win0_24.index t (1 : Fin 2) * 768 + 1 * l.val = _; rw [(index24 t).2]; omega)

theorem covered24 (i : S32768x768.Idx) : i ∈ ((cfg0.win 24).blk (at_ (i 0))).view.set :=
  covered (fun t => ((cfg0.win 24).blk t).view.set)
    (fun t r l => Eq.mp (congrArg (· ∈ ((cfg0.win 24).blk t).view.set) (emb24 t r l)) (((cfg0.win 24).blk t).view.emb_mem_set (ix2 r l))) i

theorem rows24 (t : Fin cfg0.N) (r : Fin 512) (l : Fin 768) :
    val_main_v256 (F := Ideal) (x m c) (w m c) (gain m c) (ix2 (flat t r) l) = val_main_v232 (F := Ideal) (x m c) (w m c) (gain m c) (ix3 (stream t) (row t r) l) := by
  unfold val_main_v256
  exact rows_of_streams (val_main_v232 (F := Ideal) (x m c) (w m c) (gain m c)) Cert.ProjRefIdeal.Gen.shapeCasts_S4x8192x768_S32768x768 t r l

theorem written24 (t : Fin cfg0.N) (r : Fin 512) (l : Fin 768) :
    (dats m 0 c).flushed 24 t (ix2 r l) = val_main_v256 (F := Ideal) (x m c) (w m c) (gain m c) (ix2 (flat t r) l) :=
  (congrFun (flushed24 m c t) (ix2 r l)).trans ((congrFun (out24 m c t) (ix2 r l)).trans (rows24 m c t r l).symm)

theorem array24 (G : FVec Ideal S32768x768 .bf16) (h : ∀ t r l, (dats m 0 c).flushed 24 t (ix2 r l) = G (ix2 (flat t r) l)) :
    (dats m 0 c).arrAt 24 cfg0.N = G := by
  refine (dats m 0 c).arrAt_eq_of_cover 24 G (fun t _ => ?_) fun i => ⟨at_ (i 0), flush0_24 _, covered24 i⟩
  funext j
  idx_vars j
  exact (h t j0 j1).trans (congrArg G (emb24 t j0 j1).symm)

theorem final24 : (dats m 0 c).arrAt 24 cfg0.N = val_main_v256 (F := Ideal) (x m c) (w m c) (gain m c) :=
  array24 m c _ (written24 m c)

theorem index25 : ∀ t : Fin cfg0.N, win0_25.index t (0 : Fin 2) = t.val ∧ win0_25.index t (1 : Fin 2) = 0 :=
  (by decide +kernel : ∀ t : Fin grid0.N, _)

theorem emb25 (t : Fin cfg0.N) (r : Fin 512) (l : Fin 512) :
    ((cfg0.win 25).blk t).view.emb (ix2 r l) = (ix2 (flat t r) l : S32768x512.Idx) :=
  flat_ix t r l _ (by show win0_25.index t (0 : Fin 2) * 512 + 1 * r.val = _; rw [(index25 t).1])
    (by show win0_25.index t (1 : Fin 2) * 512 + 1 * l.val = _; rw [(index25 t).2]; omega)

theorem covered25 (i : S32768x512.Idx) : i ∈ ((cfg0.win 25).blk (at_ (i 0))).view.set :=
  covered (fun t => ((cfg0.win 25).blk t).view.set)
    (fun t r l => Eq.mp (congrArg (· ∈ ((cfg0.win 25).blk t).view.set) (emb25 t r l)) (((cfg0.win 25).blk t).view.emb_mem_set (ix2 r l))) i

theorem rows25 (t : Fin cfg0.N) (r : Fin 512) (l : Fin 512) :
    val_main_v257 (F := Ideal) (x m c) (w m c) (gain m c) (ix2 (flat t r) l) = val_main_v235 (F := Ideal) (x m c) (w m c) (gain m c) (ix3 (stream t) (row t r) l) := by
  unfold val_main_v257
  exact rows_of_streams (val_main_v235 (F := Ideal) (x m c) (w m c) (gain m c)) Cert.ProjRefIdeal.Gen.shapeCasts_S4x8192x512_S32768x512 t r l

theorem written25 (t : Fin cfg0.N) (r : Fin 512) (l : Fin 512) :
    (dats m 0 c).flushed 25 t (ix2 r l) = val_main_v257 (F := Ideal) (x m c) (w m c) (gain m c) (ix2 (flat t r) l) :=
  (congrFun (flushed25 m c t) (ix2 r l)).trans ((congrFun (out25 m c t) (ix2 r l)).trans (rows25 m c t r l).symm)

theorem array25 (G : FVec Ideal S32768x512 .bf16) (h : ∀ t r l, (dats m 0 c).flushed 25 t (ix2 r l) = G (ix2 (flat t r) l)) :
    (dats m 0 c).arrAt 25 cfg0.N = G := by
  refine (dats m 0 c).arrAt_eq_of_cover 25 G (fun t _ => ?_) fun i => ⟨at_ (i 0), flush0_25 _, covered25 i⟩
  funext j
  idx_vars j
  exact (h t j0 j1).trans (congrArg G (emb25 t j0 j1).symm)

theorem final25 : (dats m 0 c).arrAt 25 cfg0.N = val_main_v257 (F := Ideal) (x m c) (w m c) (gain m c) :=
  array25 m c _ (written25 m c)

theorem index26 : ∀ t : Fin cfg0.N, win0_26.index t (0 : Fin 2) = t.val ∧ win0_26.index t (1 : Fin 2) = 0 :=
  (by decide +kernel : ∀ t : Fin grid0.N, _)

theorem emb26 (t : Fin cfg0.N) (r : Fin 512) (l : Fin 3072) :
    ((cfg0.win 26).blk t).view.emb (ix2 r l) = (ix2 (flat t r) l : S32768x3072.Idx) :=
  flat_ix t r l _ (by show win0_26.index t (0 : Fin 2) * 512 + 1 * r.val = _; rw [(index26 t).1])
    (by show win0_26.index t (1 : Fin 2) * 3072 + 1 * l.val = _; rw [(index26 t).2]; omega)

theorem covered26 (i : S32768x3072.Idx) : i ∈ ((cfg0.win 26).blk (at_ (i 0))).view.set :=
  covered (fun t => ((cfg0.win 26).blk t).view.set)
    (fun t r l => Eq.mp (congrArg (· ∈ ((cfg0.win 26).blk t).view.set) (emb26 t r l)) (((cfg0.win 26).blk t).view.emb_mem_set (ix2 r l))) i

theorem rows26 (t : Fin cfg0.N) (r : Fin 512) (l : Fin 3072) :
    val_main_v258 (F := Ideal) (x m c) (w m c) (gain m c) (ix2 (flat t r) l) = val_main_v242 (F := Ideal) (x m c) (w m c) (gain m c) (ix3 (stream t) (row t r) l) := by
  unfold val_main_v258
  exact rows_of_streams (val_main_v242 (F := Ideal) (x m c) (w m c) (gain m c)) Cert.ProjRefIdeal.Gen.shapeCasts_S4x8192x3072_S32768x3072 t r l

theorem written26 (t : Fin cfg0.N) (r : Fin 512) (l : Fin 3072) :
    (dats m 0 c).flushed 26 t (ix2 r l) = val_main_v258 (F := Ideal) (x m c) (w m c) (gain m c) (ix2 (flat t r) l) :=
  (congrFun (flushed26 m c t) (ix2 r l)).trans ((congrFun (out26 m c t) (ix2 r l)).trans (rows26 m c t r l).symm)

theorem array26 (G : FVec Ideal S32768x3072 .bf16) (h : ∀ t r l, (dats m 0 c).flushed 26 t (ix2 r l) = G (ix2 (flat t r) l)) :
    (dats m 0 c).arrAt 26 cfg0.N = G := by
  refine (dats m 0 c).arrAt_eq_of_cover 26 G (fun t _ => ?_) fun i => ⟨at_ (i 0), flush0_26 _, covered26 i⟩
  funext j
  idx_vars j
  exact (h t j0 j1).trans (congrArg G (emb26 t j0 j1).symm)

theorem final26 : (dats m 0 c).arrAt 26 cfg0.N = val_main_v258 (F := Ideal) (x m c) (w m c) (gain m c) :=
  array26 m c _ (written26 m c)

theorem index27 : ∀ t : Fin cfg0.N, win0_27.index t (0 : Fin 2) = t.val ∧ win0_27.index t (1 : Fin 2) = 0 :=
  (by decide +kernel : ∀ t : Fin grid0.N, _)

theorem emb27 (t : Fin cfg0.N) (r : Fin 512) (l : Fin 64) :
    ((cfg0.win 27).blk t).view.emb (ix2 r l) = (ix2 (flat t r) l : S32768x64.Idx) :=
  flat_ix t r l _ (by show win0_27.index t (0 : Fin 2) * 512 + 1 * r.val = _; rw [(index27 t).1])
    (by show win0_27.index t (1 : Fin 2) * 64 + 1 * l.val = _; rw [(index27 t).2]; omega)

theorem covered27 (i : S32768x64.Idx) : i ∈ ((cfg0.win 27).blk (at_ (i 0))).view.set :=
  covered (fun t => ((cfg0.win 27).blk t).view.set)
    (fun t r l => Eq.mp (congrArg (· ∈ ((cfg0.win 27).blk t).view.set) (emb27 t r l)) (((cfg0.win 27).blk t).view.emb_mem_set (ix2 r l))) i

theorem rows27 (t : Fin cfg0.N) (r : Fin 512) (l : Fin 64) :
    val_main_v259 (F := Ideal) (x m c) (w m c) (gain m c) (ix2 (flat t r) l) = val_main_v185 (F := Ideal) (x m c) (w m c) (gain m c) (ix3 (stream t) (row t r) l) := by
  unfold val_main_v259
  exact rows_of_streams (val_main_v185 (F := Ideal) (x m c) (w m c) (gain m c)) Cert.ProjRefIdeal.Gen.shapeCasts_S4x8192x64_S32768x64 t r l

theorem written27 (t : Fin cfg0.N) (r : Fin 512) (l : Fin 64) :
    (dats m 0 c).flushed 27 t (ix2 r l) = val_main_v259 (F := Ideal) (x m c) (w m c) (gain m c) (ix2 (flat t r) l) :=
  (congrFun (flushed27 m c t) (ix2 r l)).trans ((congrFun (out27 m c t) (ix2 r l)).trans (rows27 m c t r l).symm)

theorem array27 (G : FVec Ideal S32768x64 .f32) (h : ∀ t r l, (dats m 0 c).flushed 27 t (ix2 r l) = G (ix2 (flat t r) l)) :
    (dats m 0 c).arrAt 27 cfg0.N = G := by
  refine (dats m 0 c).arrAt_eq_of_cover 27 G (fun t _ => ?_) fun i => ⟨at_ (i 0), flush0_27 _, covered27 i⟩
  funext j
  idx_vars j
  exact (h t j0 j1).trans (congrArg G (emb27 t j0 j1).symm)

theorem final27 : (dats m 0 c).arrAt 27 cfg0.N = val_main_v259 (F := Ideal) (x m c) (w m c) (gain m c) :=
  array27 m c _ (written27 m c)

set_option maxHeartbeats 4000000 in
/-- The claim: the kernel's results and the reference's are the same functions of the arguments. -/
theorem algebraic : Cert.algebraic_ProjIdeal_ProjRefIdeal := by
  intro m ρ m' ρ' _ hagree
  refine ⟨fun c => val_main_v243 (F := Ideal) (x m c) (w m c) (gain m c),
    fun c => val_main_v244 (F := Ideal) (x m c) (w m c) (gain m c),
    fun c => val_main_v245 (F := Ideal) (x m c) (w m c) (gain m c),
    fun c => val_main_v246 (F := Ideal) (x m c) (w m c) (gain m c),
    fun c => val_main_v247 (F := Ideal) (x m c) (w m c) (gain m c),
    fun c => val_main_v248 (F := Ideal) (x m c) (w m c) (gain m c),
    fun c => val_main_v249 (F := Ideal) (x m c) (w m c) (gain m c),
    fun c => val_main_v250 (F := Ideal) (x m c) (w m c) (gain m c),
    fun c => val_main_v251 (F := Ideal) (x m c) (w m c) (gain m c),
    fun c => val_main_v252 (F := Ideal) (x m c) (w m c) (gain m c),
    fun c => val_main_v253 (F := Ideal) (x m c) (w m c) (gain m c) (logits m c),
    fun c => val_main_v254 (F := Ideal) (x m c) (w m c) (gain m c) (logits m c),
    fun c => val_main_v255 (F := Ideal) (x m c) (w m c) (gain m c),
    fun c => val_main_v256 (F := Ideal) (x m c) (w m c) (gain m c),
    fun c => val_main_v257 (F := Ideal) (x m c) (w m c) (gain m c),
    fun c => val_main_v258 (F := Ideal) (x m c) (w m c) (gain m c),
    fun c => val_main_v259 (F := Ideal) (x m c) (w m c) (gain m c),
    (θ_run defs _ _).mono (fun r h c => ?_) (run_blocks m ρ),
    (θ_run Cert.ProjRefIdeal.defs _ _).mono (fun _ h c => ?_) (Cert.ProjRefIdeal.Value.run (F := Ideal) m' ρ')⟩
  · obtain ⟨h11, h12, h13, h14, h15, h16, h17, h18, h19, h20, h21, h22, h23, h24, h25, h26, h27, h⟩ := h c
    exact ⟨h11.trans (final11 m c), h12.trans (final12 m c), h13.trans (final13 m c), h14.trans (final14 m c), h15.trans (final15 m c), h16.trans (final16 m c), h17.trans (final17 m c), h18.trans (final18 m c), h19.trans (final19 m c), h20.trans (final20 m c), h21.trans (final21 m c), h22.trans (final22 m c), h23.trans (final23 m c), h24.trans (final24 m c), h25.trans (final25 m c), h26.trans (final26 m c), h27.trans (final27 m c), h⟩
  · obtain ⟨h11, h12, h13, h14, h15, h16, h17, h18, h19, h20, h21, h22, h23, h24, h25, h26, h27, h⟩ := h c
    obtain ⟨a0, a1, a2, a3⟩ := hagree c
    refine ⟨h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h⟩
    · rw [val_main_v243_eq]
      exact congr (congr (congrArg (val_main_v243 (F := Ideal)) a0) a1) a2
    · rw [val_main_v244_eq]
      exact congr (congr (congrArg (val_main_v244 (F := Ideal)) a0) a1) a2
    · rw [val_main_v245_eq]
      exact congr (congr (congrArg (val_main_v245 (F := Ideal)) a0) a1) a2
    · rw [val_main_v246_eq]
      exact congr (congr (congrArg (val_main_v246 (F := Ideal)) a0) a1) a2
    · rw [val_main_v247_eq]
      exact congr (congr (congrArg (val_main_v247 (F := Ideal)) a0) a1) a2
    · rw [val_main_v248_eq]
      exact congr (congr (congrArg (val_main_v248 (F := Ideal)) a0) a1) a2
    · rw [val_main_v249_eq]
      exact congr (congr (congrArg (val_main_v249 (F := Ideal)) a0) a1) a2
    · rw [val_main_v250_eq]
      exact congr (congr (congrArg (val_main_v250 (F := Ideal)) a0) a1) a2
    · rw [val_main_v251_eq]
      exact congr (congr (congrArg (val_main_v251 (F := Ideal)) a0) a1) a2
    · rw [val_main_v252_eq]
      exact congr (congr (congrArg (val_main_v252 (F := Ideal)) a0) a1) a2
    · rw [val_main_v253_eq]
      exact congr (congr (congr (congrArg (val_main_v253 (F := Ideal)) a0) a1) a2) a3
    · rw [val_main_v254_eq]
      exact congr (congr (congr (congrArg (val_main_v254 (F := Ideal)) a0) a1) a2) a3
    · rw [val_main_v255_eq]
      exact congr (congr (congrArg (val_main_v255 (F := Ideal)) a0) a1) a2
    · rw [val_main_v256_eq]
      exact congr (congr (congrArg (val_main_v256 (F := Ideal)) a0) a1) a2
    · rw [val_main_v257_eq]
      exact congr (congr (congrArg (val_main_v257 (F := Ideal)) a0) a1) a2
    · rw [val_main_v258_eq]
      exact congr (congr (congrArg (val_main_v258 (F := Ideal)) a0) a1) a2
    · rw [val_main_v259_eq]
      exact congr (congr (congrArg (val_main_v259 (F := Ideal)) a0) a1) a2

end Cert.Proof.Proj

end
-- ==== Proof.lean ====
/-
  The claims about the layer's calls, assembled: each program's frame is its pipeline's run, `preserves` holds because no
  operation was rewritten, and the value claims are proved call by call in the modules under Proof/.
-/
module

public import proofs.«01_k».proof.Defs
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.HgrnIdeal.Value
public import proofs.«01_k».proof.Proof.Gen.HgrnRefIdeal.Run
public import proofs.«01_k».proof.Proof.Gen.MemoryKv
public import proofs.«01_k».proof.Proof.Gen.MemoryKv.Skeleton
public import proofs.«01_k».proof.Proof.Gen.MemoryKv.Launch
public import proofs.«01_k».proof.Proof.Gen.MemoryKv.Points
public import proofs.«01_k».proof.Proof.Gen.MemoryKv.Frame
public import proofs.«01_k».proof.Proof.Gen.MemoryKvIdeal
public import proofs.«01_k».proof.Proof.Gen.MemoryKvIdeal.Skeleton
public import proofs.«01_k».proof.Proof.Gen.MemoryKvIdeal.Launch
public import proofs.«01_k».proof.Proof.Gen.MemoryKvIdeal.Points
public import proofs.«01_k».proof.Proof.Gen.MemoryKvIdeal.Frame
public import proofs.«01_k».proof.Proof.Gen.MemoryKvIdeal.Value
public import proofs.«01_k».proof.Proof.Gen.MemoryKvRefIdeal
public import proofs.«01_k».proof.Proof.Gen.MemoryKvRefIdeal.Run
public import proofs.«01_k».proof.Proof.Gen.MemoryKvRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.HgrnRefIdeal.Step
public import proofs.«01_k».proof.Proof.MemoryKvValue
public import proofs.«01_k».proof.Proof.MergeValue
public import proofs.«01_k».proof.Proof.ProjFrame
public import proofs.«01_k».proof.Proof.ProjIdealFrame
public import proofs.«01_k».proof.Proof.ProjValue
public import Idealize.ShloMosaic.Adequacy
public import Idealize.ShloMosaic.Init

@[expose] public section

noncomputable section

namespace Cert.Proof

open Idealize.ShloMosaic Idealize.SL.Sem

/-! ## The references' frames

Each is a host program that declares no semaphore: its run leaves the arguments as they were, and there is no counter to move. -/

theorem frame_hgrnRef : Cert.quiescent_HgrnRefIdeal := fun m ρ _ =>
  (θ_run Cert.HgrnRefIdeal.defs _ _).mono (fun _ h => ⟨fun c => (h c).2.2, sem_eq_zero_of_no_sems (by decide) _⟩)
    (Cert.HgrnRefIdeal.Value.run (F := Ideal) m ρ)

theorem frame_memoryKvRef : Cert.quiescent_MemoryKvRefIdeal := fun m ρ _ =>
  (θ_run Cert.MemoryKvRefIdeal.defs _ _).mono (fun _ h => ⟨fun c => (h c).2.2.2.2, sem_eq_zero_of_no_sems (by decide) _⟩)
    (Cert.MemoryKvRefIdeal.Value.run (F := Ideal) m ρ)

theorem frame_mergeRef : Cert.quiescent_MergeRefIdeal := fun m ρ _ =>
  (θ_run Cert.MergeRefIdeal.defs _ _).mono (fun _ h => ⟨fun c => (h c).2, sem_eq_zero_of_no_sems (by decide) _⟩)
    (Cert.MergeRefIdeal.Value.run (F := Ideal) m ρ)

theorem frame_projRef : Cert.quiescent_ProjRefIdeal := fun m ρ _ =>
  (θ_run Cert.ProjRefIdeal.defs _ _).mono
    (fun _ h => ⟨fun c => (h c).2.2.2.2.2.2.2.2.2.2.2.2.2.2.2.2.2, sem_eq_zero_of_no_sems (by decide) _⟩)
    (Cert.ProjRefIdeal.Value.run (F := Ideal) m ρ)

theorem claim : Cert.Claim :=
  ⟨Cert.Hgrn.Gen.facts, Cert.HgrnIdeal.Gen.facts, Cert.HgrnRefIdeal.Gen.facts, Cert.MemoryKv.Gen.facts, Cert.MemoryKvIdeal.Gen.facts,
    Cert.MemoryKvRefIdeal.Gen.facts, Cert.Merge.Gen.facts, Cert.MergeIdeal.Gen.facts, Cert.MergeRefIdeal.Gen.facts,
    Cert.Proj.Gen.facts, Cert.ProjIdeal.Gen.facts, Cert.ProjRefIdeal.Gen.facts,
    fun m ρ _ => Cert.Hgrn.Gen.frame m ρ, fun m ρ _ => Cert.HgrnIdeal.Gen.frame m ρ, frame_hgrnRef,
    fun m ρ _ => Cert.MemoryKv.Gen.frame m ρ, fun m ρ _ => Cert.MemoryKvIdeal.Gen.frame m ρ, frame_memoryKvRef,
    fun m ρ _ => Cert.Merge.Gen.frame m ρ, fun m ρ _ => Cert.MergeIdeal.Gen.frame m ρ, frame_mergeRef,
    fun m ρ _ => Cert.Proj.Gen.frame m ρ, fun m ρ _ => Cert.ProjIdeal.Gen.frame m ρ, frame_projRef,
    trivial, trivial, MemoryKv.algebraic, trivial, Merge.algebraic, trivial, Proj.algebraic⟩

end Cert.Proof

end
